-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x1024 : Shape := ⟨2, ![1024, 1024]⟩
abbrev S2048x512 : Shape := ⟨2, ![2048, 512]⟩
abbrev S4x256x512 : Shape := ⟨3, ![4, 256, 512]⟩
abbrev S1024x512 : Shape := ⟨2, ![1024, 512]⟩
abbrev S512x512 : Shape := ⟨2, ![512, 512]⟩
abbrev S256x512 : Shape := ⟨2, ![256, 512]⟩
abbrev S20 : Shape := ⟨1, ![20]⟩
abbrev S28 : Shape := ⟨1, ![28]⟩
abbrev S17 : Shape := ⟨1, ![17]⟩
abbrev S32 : Shape := ⟨1, ![32]⟩
abbrev S1 : Shape := ⟨1, ![1]⟩
abbrev S_ : Shape := ⟨0, ![]⟩
abbrev S256x1024 : Shape := ⟨2, ![256, 1024]⟩
abbrev S1x256x512 : Shape := ⟨3, ![1, 256, 512]⟩

abbrev nBuf : Space → Nat
  | .hbm => 3
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S4096x1024, .f32⟩
  | .local _ .vmem, ⟨5, _⟩ => ⟨S1024x1024, .f32⟩
  | .local _ .vmem, ⟨6, _⟩ => ⟨S1024x1024, .bf16⟩
  | .local _ .vmem, ⟨7, _⟩ => ⟨S4x256x512, .f32⟩
  | .local _ .vmem, ⟨8, _⟩ => ⟨S1024x512, .bf16⟩
  | .local _ .vmem, ⟨9, _⟩ => ⟨S1024x512, .bf16⟩
  | .local _ .vmem, ⟨10, _⟩ => ⟨S512x512, .bf16⟩
  | .local _ .vmem, ⟨11, _⟩ => ⟨S512x512, .bf16⟩
  | .local _ .vmem, ⟨12, _⟩ => ⟨S256x512, .bf16⟩
  | .local _ .vmem, ⟨13, _⟩ => ⟨S256x512, .bf16⟩
  | .local _ .vmem, ⟨14, _⟩ => ⟨S1024x512, .bf16⟩
  | .local _ .vmem, ⟨15, _⟩ => ⟨S1024x512, .bf16⟩
  | .local _ .vmem, ⟨16, _⟩ => ⟨S512x512, .bf16⟩
  | .local _ .vmem, ⟨17, _⟩ => ⟨S512x512, .bf16⟩
  | .local _ .vmem, ⟨18, _⟩ => ⟨S256x512, .bf16⟩
  | .local _ .vmem, ⟨19, _⟩ => ⟨S256x512, .bf16⟩
  | _, _ => ⟨S4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 1 → Bool
  | ⟨0, _⟩ => false
  | _ => false

abbrev dmaSemScoped : Fin 145 → Bool
  | ⟨i, _⟩ => dmaSemScopedAt i

abbrev sig : RefSig :=
  (ofTc nBuf bufTy 1 145 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_scratch18 : Ref sig .tc := ⟨.vmem, 18, rfl⟩
abbrev cc0_scratch19 : Ref sig .tc := ⟨.vmem, 19, rfl⟩
abbrev barrier0 : Sem sig := 0

abbrev nD : Nat := 8
abbrev τ : Topo := Topo.v7x

variable {F : FTy → Type} [FloatOps F]

abbrev grid0 : Pipeline.Grid := .none

def k0_dev1 (d66 : Dev nD) : Nat :=
  let c0_i32_90 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c1_i32_87 : BitVec 32 := 1#32
  let v143 : BitVec 32 := Scalar.xori v68 c1_i32_87
  let c1_i32_89 : BitVec 32 := 1#32
  let v144 : BitVec 32 := Scalar.muli v143 c1_i32_89
  let v145 : BitVec 32 := Scalar.addi c0_i32_90 v144
  v145.toNat
def k0_dev2 (d66 : Dev nD) : Nat :=
  let c0_i32_94 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c3_i32_91 : BitVec 32 := 3#32
  let v146 : BitVec 32 := Scalar.xori v68 c3_i32_91
  let c1_i32_93 : BitVec 32 := 1#32
  let v147 : BitVec 32 := Scalar.muli v146 c1_i32_93
  let v148 : BitVec 32 := Scalar.addi c0_i32_94 v147
  v148.toNat
def k0_dev3 (d66 : Dev nD) : Nat :=
  let c0_i32_98 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c4_i32_95 : BitVec 32 := 4#32
  let v149 : BitVec 32 := Scalar.xori v68 c4_i32_95
  let c1_i32_97 : BitVec 32 := 1#32
  let v150 : BitVec 32 := Scalar.muli v149 c1_i32_97
  let v151 : BitVec 32 := Scalar.addi c0_i32_98 v150
  v151.toNat
def k0_off1 (d66 : Dev nD) : Fin 2 → Nat :=
  let c1_i32_131 : BitVec 32 := 1#32
  let c4_i32_83 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v133 : BitVec 32 := Scalar.xori v78 v105
  let v134 : BitVec 32 := Scalar.muli c4_i32_83 v133
  let c2_i32_84 : BitVec 32 := 2#32
  let v135 : BitVec 32 := Scalar.muli c2_i32_84 v105
  let v136 : BitVec 32 := Scalar.addi v134 v135
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v137 : BitVec 32 := Scalar.addi v136 v132
  let c0_i32_100 : BitVec 32 := 0#32
  let v153 : BitVec 1 := Scalar.cmpi .sgt v137 c0_i32_100
  let v154 : BitVec 32 := Scalar.extui v153
  let c0_i32_101 : BitVec 32 := 0#32
  let v155 : BitVec 1 := Scalar.cmpi .slt v137 c0_i32_101
  let v156 : BitVec 32 := Scalar.extui v155
  let v157 : BitVec 32 := Scalar.subi v154 v156
  let c4_i32_99 : BitVec 32 := 4#32
  let c0_i32_102 : BitVec 32 := 0#32
  let v158 : BitVec 1 := Scalar.cmpi .sgt c4_i32_99 c0_i32_102
  let v159 : BitVec 32 := Scalar.extui v158
  let c0_i32_103 : BitVec 32 := 0#32
  let v160 : BitVec 1 := Scalar.cmpi .slt c4_i32_99 c0_i32_103
  let v161 : BitVec 32 := Scalar.extui v160
  let v162 : BitVec 32 := Scalar.subi v159 v161
  let v163 : BitVec 1 := Scalar.cmpi .ne v157 v162
  let v164 : BitVec 32 := Scalar.remsi v137 c4_i32_99
  let c0_i32_104 : BitVec 32 := 0#32
  let v165 : BitVec 1 := Scalar.cmpi .ne v164 c0_i32_104
  let v166 : BitVec 1 := Scalar.andi v163 v165
  let v152 : BitVec 32 := Scalar.divsi v137 c4_i32_99
  let c1_i32_105 : BitVec 32 := 1#32
  let v167 : BitVec 32 := Scalar.subi v152 c1_i32_105
  let v168 : BitVec 32 := Scalar.select v166 v167 v152
  let c2_i32_106 : BitVec 32 := 2#32
  let c0_i32_107 : BitVec 32 := 0#32
  let v169 : BitVec 1 := Scalar.cmpi .eq c2_i32_106 c0_i32_107
  let c1_i32_108 : BitVec 32 := 1#32
  let v170 : BitVec 32 := Scalar.select v169 c1_i32_108 c2_i32_106
  let v171 : BitVec 32 := Scalar.remsi v168 v170
  let c0_i32_110 : BitVec 32 := 0#32
  let v173 : BitVec 1 := Scalar.cmpi .slt v171 c0_i32_110
  let c0_i32_111 : BitVec 32 := 0#32
  let v174 : BitVec 1 := Scalar.cmpi .slt v170 c0_i32_111
  let v175 : BitVec 1 := Scalar.xori v173 v174
  let c0_i32_109 : BitVec 32 := 0#32
  let v172 : BitVec 1 := Scalar.cmpi .ne v171 c0_i32_109
  let v176 : BitVec 1 := Scalar.andi v175 v172
  let v177 : BitVec 32 := Scalar.addi v171 v170
  let v178 : BitVec 32 := Scalar.select v176 v177 v171
  let v216 : BitVec 32 := Scalar.subi c1_i32_131 v178
  let c4_i32_132 : BitVec 32 := 4#32
  let v217 : BitVec 32 := Scalar.muli v216 c4_i32_132
  let c1_i32_252 : BitVec 32 := 1#32
  let c0_i32_113 : BitVec 32 := 0#32
  let v180 : BitVec 1 := Scalar.cmpi .sgt v137 c0_i32_113
  let v181 : BitVec 32 := Scalar.extui v180
  let c0_i32_114 : BitVec 32 := 0#32
  let v182 : BitVec 1 := Scalar.cmpi .slt v137 c0_i32_114
  let v183 : BitVec 32 := Scalar.extui v182
  let v184 : BitVec 32 := Scalar.subi v181 v183
  let c2_i32_112 : BitVec 32 := 2#32
  let c0_i32_115 : BitVec 32 := 0#32
  let v185 : BitVec 1 := Scalar.cmpi .sgt c2_i32_112 c0_i32_115
  let v186 : BitVec 32 := Scalar.extui v185
  let c0_i32_116 : BitVec 32 := 0#32
  let v187 : BitVec 1 := Scalar.cmpi .slt c2_i32_112 c0_i32_116
  let v188 : BitVec 32 := Scalar.extui v187
  let v189 : BitVec 32 := Scalar.subi v186 v188
  let v190 : BitVec 1 := Scalar.cmpi .ne v184 v189
  let v191 : BitVec 32 := Scalar.remsi v137 c2_i32_112
  let c0_i32_117 : BitVec 32 := 0#32
  let v192 : BitVec 1 := Scalar.cmpi .ne v191 c0_i32_117
  let v193 : BitVec 1 := Scalar.andi v190 v192
  let v179 : BitVec 32 := Scalar.divsi v137 c2_i32_112
  let c1_i32_118 : BitVec 32 := 1#32
  let v194 : BitVec 32 := Scalar.subi v179 c1_i32_118
  let v195 : BitVec 32 := Scalar.select v193 v194 v179
  let c2_i32_119 : BitVec 32 := 2#32
  let c0_i32_120 : BitVec 32 := 0#32
  let v196 : BitVec 1 := Scalar.cmpi .eq c2_i32_119 c0_i32_120
  let c1_i32_121 : BitVec 32 := 1#32
  let v197 : BitVec 32 := Scalar.select v196 c1_i32_121 c2_i32_119
  let v198 : BitVec 32 := Scalar.remsi v195 v197
  let c0_i32_123 : BitVec 32 := 0#32
  let v200 : BitVec 1 := Scalar.cmpi .slt v198 c0_i32_123
  let c0_i32_124 : BitVec 32 := 0#32
  let v201 : BitVec 1 := Scalar.cmpi .slt v197 c0_i32_124
  let v202 : BitVec 1 := Scalar.xori v200 v201
  let c0_i32_122 : BitVec 32 := 0#32
  let v199 : BitVec 1 := Scalar.cmpi .ne v198 c0_i32_122
  let v203 : BitVec 1 := Scalar.andi v202 v199
  let v204 : BitVec 32 := Scalar.addi v198 v197
  let v205 : BitVec 32 := Scalar.select v203 v204 v198
  let v382 : BitVec 32 := Scalar.subi c1_i32_252 v205
  let c2_i32_253 : BitVec 32 := 2#32
  let v383 : BitVec 32 := Scalar.muli v382 c2_i32_253
  let v384 : BitVec 32 := Scalar.addi v217 v383
  let c256_i32_254 : BitVec 32 := 256#32
  let v385 : BitVec 32 := Scalar.muli v384 c256_i32_254
  let c0_i32_262 : BitVec 32 := 0#32
  ![v385.toNat, 0]
def k0_dev4 (d66 : Dev nD) : Nat :=
  let c0_i32_259 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c1_i32_255 : BitVec 32 := 1#32
  let v386 : BitVec 32 := Scalar.xori v68 c1_i32_255
  let c1_i32_258 : BitVec 32 := 1#32
  let v387 : BitVec 32 := Scalar.muli v386 c1_i32_258
  let v388 : BitVec 32 := Scalar.addi c0_i32_259 v387
  v388.toNat
def k0_off2 (d66 : Dev nD) : Fin 2 → Nat :=
  let c1_i32_171 : BitVec 32 := 1#32
  let c4_i32_85 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v138 : BitVec 32 := Scalar.muli c4_i32_85 v132
  let c2_i32_86 : BitVec 32 := 2#32
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v139 : BitVec 32 := Scalar.muli c2_i32_86 v105
  let v140 : BitVec 32 := Scalar.addi v138 v139
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let v133 : BitVec 32 := Scalar.xori v78 v105
  let v141 : BitVec 32 := Scalar.addi v140 v133
  let c0_i32_140 : BitVec 32 := 0#32
  let v228 : BitVec 1 := Scalar.cmpi .sgt v141 c0_i32_140
  let v229 : BitVec 32 := Scalar.extui v228
  let c0_i32_141 : BitVec 32 := 0#32
  let v230 : BitVec 1 := Scalar.cmpi .slt v141 c0_i32_141
  let v231 : BitVec 32 := Scalar.extui v230
  let v232 : BitVec 32 := Scalar.subi v229 v231
  let c4_i32_139 : BitVec 32 := 4#32
  let c0_i32_142 : BitVec 32 := 0#32
  let v233 : BitVec 1 := Scalar.cmpi .sgt c4_i32_139 c0_i32_142
  let v234 : BitVec 32 := Scalar.extui v233
  let c0_i32_143 : BitVec 32 := 0#32
  let v235 : BitVec 1 := Scalar.cmpi .slt c4_i32_139 c0_i32_143
  let v236 : BitVec 32 := Scalar.extui v235
  let v237 : BitVec 32 := Scalar.subi v234 v236
  let v238 : BitVec 1 := Scalar.cmpi .ne v232 v237
  let v239 : BitVec 32 := Scalar.remsi v141 c4_i32_139
  let c0_i32_144 : BitVec 32 := 0#32
  let v240 : BitVec 1 := Scalar.cmpi .ne v239 c0_i32_144
  let v241 : BitVec 1 := Scalar.andi v238 v240
  let v227 : BitVec 32 := Scalar.divsi v141 c4_i32_139
  let c1_i32_145 : BitVec 32 := 1#32
  let v242 : BitVec 32 := Scalar.subi v227 c1_i32_145
  let v243 : BitVec 32 := Scalar.select v241 v242 v227
  let c2_i32_146 : BitVec 32 := 2#32
  let c0_i32_147 : BitVec 32 := 0#32
  let v244 : BitVec 1 := Scalar.cmpi .eq c2_i32_146 c0_i32_147
  let c1_i32_148 : BitVec 32 := 1#32
  let v245 : BitVec 32 := Scalar.select v244 c1_i32_148 c2_i32_146
  let v246 : BitVec 32 := Scalar.remsi v243 v245
  let c0_i32_150 : BitVec 32 := 0#32
  let v248 : BitVec 1 := Scalar.cmpi .slt v246 c0_i32_150
  let c0_i32_151 : BitVec 32 := 0#32
  let v249 : BitVec 1 := Scalar.cmpi .slt v245 c0_i32_151
  let v250 : BitVec 1 := Scalar.xori v248 v249
  let c0_i32_149 : BitVec 32 := 0#32
  let v247 : BitVec 1 := Scalar.cmpi .ne v246 c0_i32_149
  let v251 : BitVec 1 := Scalar.andi v250 v247
  let v252 : BitVec 32 := Scalar.addi v246 v245
  let v253 : BitVec 32 := Scalar.select v251 v252 v246
  let v291 : BitVec 32 := Scalar.subi c1_i32_171 v253
  let c4_i32_172 : BitVec 32 := 4#32
  let v292 : BitVec 32 := Scalar.muli v291 c4_i32_172
  let c1_i32_263 : BitVec 32 := 1#32
  let c0_i32_153 : BitVec 32 := 0#32
  let v255 : BitVec 1 := Scalar.cmpi .sgt v141 c0_i32_153
  let v256 : BitVec 32 := Scalar.extui v255
  let c0_i32_154 : BitVec 32 := 0#32
  let v257 : BitVec 1 := Scalar.cmpi .slt v141 c0_i32_154
  let v258 : BitVec 32 := Scalar.extui v257
  let v259 : BitVec 32 := Scalar.subi v256 v258
  let c2_i32_152 : BitVec 32 := 2#32
  let c0_i32_155 : BitVec 32 := 0#32
  let v260 : BitVec 1 := Scalar.cmpi .sgt c2_i32_152 c0_i32_155
  let v261 : BitVec 32 := Scalar.extui v260
  let c0_i32_156 : BitVec 32 := 0#32
  let v262 : BitVec 1 := Scalar.cmpi .slt c2_i32_152 c0_i32_156
  let v263 : BitVec 32 := Scalar.extui v262
  let v264 : BitVec 32 := Scalar.subi v261 v263
  let v265 : BitVec 1 := Scalar.cmpi .ne v259 v264
  let v266 : BitVec 32 := Scalar.remsi v141 c2_i32_152
  let c0_i32_157 : BitVec 32 := 0#32
  let v267 : BitVec 1 := Scalar.cmpi .ne v266 c0_i32_157
  let v268 : BitVec 1 := Scalar.andi v265 v267
  let v254 : BitVec 32 := Scalar.divsi v141 c2_i32_152
  let c1_i32_158 : BitVec 32 := 1#32
  let v269 : BitVec 32 := Scalar.subi v254 c1_i32_158
  let v270 : BitVec 32 := Scalar.select v268 v269 v254
  let c2_i32_159 : BitVec 32 := 2#32
  let c0_i32_160 : BitVec 32 := 0#32
  let v271 : BitVec 1 := Scalar.cmpi .eq c2_i32_159 c0_i32_160
  let c1_i32_161 : BitVec 32 := 1#32
  let v272 : BitVec 32 := Scalar.select v271 c1_i32_161 c2_i32_159
  let v273 : BitVec 32 := Scalar.remsi v270 v272
  let c0_i32_163 : BitVec 32 := 0#32
  let v275 : BitVec 1 := Scalar.cmpi .slt v273 c0_i32_163
  let c0_i32_164 : BitVec 32 := 0#32
  let v276 : BitVec 1 := Scalar.cmpi .slt v272 c0_i32_164
  let v277 : BitVec 1 := Scalar.xori v275 v276
  let c0_i32_162 : BitVec 32 := 0#32
  let v274 : BitVec 1 := Scalar.cmpi .ne v273 c0_i32_162
  let v278 : BitVec 1 := Scalar.andi v277 v274
  let v279 : BitVec 32 := Scalar.addi v273 v272
  let v280 : BitVec 32 := Scalar.select v278 v279 v273
  let v395 : BitVec 32 := Scalar.subi c1_i32_263 v280
  let c2_i32_264 : BitVec 32 := 2#32
  let v396 : BitVec 32 := Scalar.muli v395 c2_i32_264
  let v397 : BitVec 32 := Scalar.addi v292 v396
  let c256_i32_265 : BitVec 32 := 256#32
  let v398 : BitVec 32 := Scalar.muli v397 c256_i32_265
  let c0_i32_273 : BitVec 32 := 0#32
  ![v398.toNat, 0]
def k0_dev5 (d66 : Dev nD) : Nat :=
  let c0_i32_270 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c4_i32_266 : BitVec 32 := 4#32
  let v399 : BitVec 32 := Scalar.xori v68 c4_i32_266
  let c1_i32_269 : BitVec 32 := 1#32
  let v400 : BitVec 32 := Scalar.muli v399 c1_i32_269
  let v401 : BitVec 32 := Scalar.addi c0_i32_270 v400
  v401.toNat
def k0_off3 (d66 : Dev nD) : Fin 2 → Nat :=
  let c4_i32_83 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v133 : BitVec 32 := Scalar.xori v78 v105
  let v134 : BitVec 32 := Scalar.muli c4_i32_83 v133
  let c2_i32_84 : BitVec 32 := 2#32
  let v135 : BitVec 32 := Scalar.muli c2_i32_84 v105
  let v136 : BitVec 32 := Scalar.addi v134 v135
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v137 : BitVec 32 := Scalar.addi v136 v132
  let c0_i32_100 : BitVec 32 := 0#32
  let v153 : BitVec 1 := Scalar.cmpi .sgt v137 c0_i32_100
  let v154 : BitVec 32 := Scalar.extui v153
  let c0_i32_101 : BitVec 32 := 0#32
  let v155 : BitVec 1 := Scalar.cmpi .slt v137 c0_i32_101
  let v156 : BitVec 32 := Scalar.extui v155
  let v157 : BitVec 32 := Scalar.subi v154 v156
  let c4_i32_99 : BitVec 32 := 4#32
  let c0_i32_102 : BitVec 32 := 0#32
  let v158 : BitVec 1 := Scalar.cmpi .sgt c4_i32_99 c0_i32_102
  let v159 : BitVec 32 := Scalar.extui v158
  let c0_i32_103 : BitVec 32 := 0#32
  let v160 : BitVec 1 := Scalar.cmpi .slt c4_i32_99 c0_i32_103
  let v161 : BitVec 32 := Scalar.extui v160
  let v162 : BitVec 32 := Scalar.subi v159 v161
  let v163 : BitVec 1 := Scalar.cmpi .ne v157 v162
  let v164 : BitVec 32 := Scalar.remsi v137 c4_i32_99
  let c0_i32_104 : BitVec 32 := 0#32
  let v165 : BitVec 1 := Scalar.cmpi .ne v164 c0_i32_104
  let v166 : BitVec 1 := Scalar.andi v163 v165
  let v152 : BitVec 32 := Scalar.divsi v137 c4_i32_99
  let c1_i32_105 : BitVec 32 := 1#32
  let v167 : BitVec 32 := Scalar.subi v152 c1_i32_105
  let v168 : BitVec 32 := Scalar.select v166 v167 v152
  let c2_i32_106 : BitVec 32 := 2#32
  let c0_i32_107 : BitVec 32 := 0#32
  let v169 : BitVec 1 := Scalar.cmpi .eq c2_i32_106 c0_i32_107
  let c1_i32_108 : BitVec 32 := 1#32
  let v170 : BitVec 32 := Scalar.select v169 c1_i32_108 c2_i32_106
  let v171 : BitVec 32 := Scalar.remsi v168 v170
  let c0_i32_110 : BitVec 32 := 0#32
  let v173 : BitVec 1 := Scalar.cmpi .slt v171 c0_i32_110
  let c0_i32_111 : BitVec 32 := 0#32
  let v174 : BitVec 1 := Scalar.cmpi .slt v170 c0_i32_111
  let v175 : BitVec 1 := Scalar.xori v173 v174
  let c0_i32_109 : BitVec 32 := 0#32
  let v172 : BitVec 1 := Scalar.cmpi .ne v171 c0_i32_109
  let v176 : BitVec 1 := Scalar.andi v175 v172
  let v177 : BitVec 32 := Scalar.addi v171 v170
  let v178 : BitVec 32 := Scalar.select v176 v177 v171
  let c4_i32_135 : BitVec 32 := 4#32
  let v221 : BitVec 32 := Scalar.muli v178 c4_i32_135
  let c1_i32_136 : BitVec 32 := 1#32
  let c0_i32_113 : BitVec 32 := 0#32
  let v180 : BitVec 1 := Scalar.cmpi .sgt v137 c0_i32_113
  let v181 : BitVec 32 := Scalar.extui v180
  let c0_i32_114 : BitVec 32 := 0#32
  let v182 : BitVec 1 := Scalar.cmpi .slt v137 c0_i32_114
  let v183 : BitVec 32 := Scalar.extui v182
  let v184 : BitVec 32 := Scalar.subi v181 v183
  let c2_i32_112 : BitVec 32 := 2#32
  let c0_i32_115 : BitVec 32 := 0#32
  let v185 : BitVec 1 := Scalar.cmpi .sgt c2_i32_112 c0_i32_115
  let v186 : BitVec 32 := Scalar.extui v185
  let c0_i32_116 : BitVec 32 := 0#32
  let v187 : BitVec 1 := Scalar.cmpi .slt c2_i32_112 c0_i32_116
  let v188 : BitVec 32 := Scalar.extui v187
  let v189 : BitVec 32 := Scalar.subi v186 v188
  let v190 : BitVec 1 := Scalar.cmpi .ne v184 v189
  let v191 : BitVec 32 := Scalar.remsi v137 c2_i32_112
  let c0_i32_117 : BitVec 32 := 0#32
  let v192 : BitVec 1 := Scalar.cmpi .ne v191 c0_i32_117
  let v193 : BitVec 1 := Scalar.andi v190 v192
  let v179 : BitVec 32 := Scalar.divsi v137 c2_i32_112
  let c1_i32_118 : BitVec 32 := 1#32
  let v194 : BitVec 32 := Scalar.subi v179 c1_i32_118
  let v195 : BitVec 32 := Scalar.select v193 v194 v179
  let c2_i32_119 : BitVec 32 := 2#32
  let c0_i32_120 : BitVec 32 := 0#32
  let v196 : BitVec 1 := Scalar.cmpi .eq c2_i32_119 c0_i32_120
  let c1_i32_121 : BitVec 32 := 1#32
  let v197 : BitVec 32 := Scalar.select v196 c1_i32_121 c2_i32_119
  let v198 : BitVec 32 := Scalar.remsi v195 v197
  let c0_i32_123 : BitVec 32 := 0#32
  let v200 : BitVec 1 := Scalar.cmpi .slt v198 c0_i32_123
  let c0_i32_124 : BitVec 32 := 0#32
  let v201 : BitVec 1 := Scalar.cmpi .slt v197 c0_i32_124
  let v202 : BitVec 1 := Scalar.xori v200 v201
  let c0_i32_122 : BitVec 32 := 0#32
  let v199 : BitVec 1 := Scalar.cmpi .ne v198 c0_i32_122
  let v203 : BitVec 1 := Scalar.andi v202 v199
  let v204 : BitVec 32 := Scalar.addi v198 v197
  let v205 : BitVec 32 := Scalar.select v203 v204 v198
  let v222 : BitVec 32 := Scalar.subi c1_i32_136 v205
  let c2_i32_137 : BitVec 32 := 2#32
  let v223 : BitVec 32 := Scalar.muli v222 c2_i32_137
  let v224 : BitVec 32 := Scalar.addi v221 v223
  let c256_i32_323 : BitVec 32 := 256#32
  let v473 : BitVec 32 := Scalar.muli v224 c256_i32_323
  let v474 : Index := Scalar.indexCast v473
  let c0_324 : Index := 0#32
  ![v474.toNat, 0]
def k0_off4 (d66 : Dev nD) : Fin 2 → Nat :=
  let c4_i32_85 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v138 : BitVec 32 := Scalar.muli c4_i32_85 v132
  let c2_i32_86 : BitVec 32 := 2#32
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v139 : BitVec 32 := Scalar.muli c2_i32_86 v105
  let v140 : BitVec 32 := Scalar.addi v138 v139
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let v133 : BitVec 32 := Scalar.xori v78 v105
  let v141 : BitVec 32 := Scalar.addi v140 v133
  let c0_i32_140 : BitVec 32 := 0#32
  let v228 : BitVec 1 := Scalar.cmpi .sgt v141 c0_i32_140
  let v229 : BitVec 32 := Scalar.extui v228
  let c0_i32_141 : BitVec 32 := 0#32
  let v230 : BitVec 1 := Scalar.cmpi .slt v141 c0_i32_141
  let v231 : BitVec 32 := Scalar.extui v230
  let v232 : BitVec 32 := Scalar.subi v229 v231
  let c4_i32_139 : BitVec 32 := 4#32
  let c0_i32_142 : BitVec 32 := 0#32
  let v233 : BitVec 1 := Scalar.cmpi .sgt c4_i32_139 c0_i32_142
  let v234 : BitVec 32 := Scalar.extui v233
  let c0_i32_143 : BitVec 32 := 0#32
  let v235 : BitVec 1 := Scalar.cmpi .slt c4_i32_139 c0_i32_143
  let v236 : BitVec 32 := Scalar.extui v235
  let v237 : BitVec 32 := Scalar.subi v234 v236
  let v238 : BitVec 1 := Scalar.cmpi .ne v232 v237
  let v239 : BitVec 32 := Scalar.remsi v141 c4_i32_139
  let c0_i32_144 : BitVec 32 := 0#32
  let v240 : BitVec 1 := Scalar.cmpi .ne v239 c0_i32_144
  let v241 : BitVec 1 := Scalar.andi v238 v240
  let v227 : BitVec 32 := Scalar.divsi v141 c4_i32_139
  let c1_i32_145 : BitVec 32 := 1#32
  let v242 : BitVec 32 := Scalar.subi v227 c1_i32_145
  let v243 : BitVec 32 := Scalar.select v241 v242 v227
  let c2_i32_146 : BitVec 32 := 2#32
  let c0_i32_147 : BitVec 32 := 0#32
  let v244 : BitVec 1 := Scalar.cmpi .eq c2_i32_146 c0_i32_147
  let c1_i32_148 : BitVec 32 := 1#32
  let v245 : BitVec 32 := Scalar.select v244 c1_i32_148 c2_i32_146
  let v246 : BitVec 32 := Scalar.remsi v243 v245
  let c0_i32_150 : BitVec 32 := 0#32
  let v248 : BitVec 1 := Scalar.cmpi .slt v246 c0_i32_150
  let c0_i32_151 : BitVec 32 := 0#32
  let v249 : BitVec 1 := Scalar.cmpi .slt v245 c0_i32_151
  let v250 : BitVec 1 := Scalar.xori v248 v249
  let c0_i32_149 : BitVec 32 := 0#32
  let v247 : BitVec 1 := Scalar.cmpi .ne v246 c0_i32_149
  let v251 : BitVec 1 := Scalar.andi v250 v247
  let v252 : BitVec 32 := Scalar.addi v246 v245
  let v253 : BitVec 32 := Scalar.select v251 v252 v246
  let c4_i32_175 : BitVec 32 := 4#32
  let v296 : BitVec 32 := Scalar.muli v253 c4_i32_175
  let c1_i32_176 : BitVec 32 := 1#32
  let c0_i32_153 : BitVec 32 := 0#32
  let v255 : BitVec 1 := Scalar.cmpi .sgt v141 c0_i32_153
  let v256 : BitVec 32 := Scalar.extui v255
  let c0_i32_154 : BitVec 32 := 0#32
  let v257 : BitVec 1 := Scalar.cmpi .slt v141 c0_i32_154
  let v258 : BitVec 32 := Scalar.extui v257
  let v259 : BitVec 32 := Scalar.subi v256 v258
  let c2_i32_152 : BitVec 32 := 2#32
  let c0_i32_155 : BitVec 32 := 0#32
  let v260 : BitVec 1 := Scalar.cmpi .sgt c2_i32_152 c0_i32_155
  let v261 : BitVec 32 := Scalar.extui v260
  let c0_i32_156 : BitVec 32 := 0#32
  let v262 : BitVec 1 := Scalar.cmpi .slt c2_i32_152 c0_i32_156
  let v263 : BitVec 32 := Scalar.extui v262
  let v264 : BitVec 32 := Scalar.subi v261 v263
  let v265 : BitVec 1 := Scalar.cmpi .ne v259 v264
  let v266 : BitVec 32 := Scalar.remsi v141 c2_i32_152
  let c0_i32_157 : BitVec 32 := 0#32
  let v267 : BitVec 1 := Scalar.cmpi .ne v266 c0_i32_157
  let v268 : BitVec 1 := Scalar.andi v265 v267
  let v254 : BitVec 32 := Scalar.divsi v141 c2_i32_152
  let c1_i32_158 : BitVec 32 := 1#32
  let v269 : BitVec 32 := Scalar.subi v254 c1_i32_158
  let v270 : BitVec 32 := Scalar.select v268 v269 v254
  let c2_i32_159 : BitVec 32 := 2#32
  let c0_i32_160 : BitVec 32 := 0#32
  let v271 : BitVec 1 := Scalar.cmpi .eq c2_i32_159 c0_i32_160
  let c1_i32_161 : BitVec 32 := 1#32
  let v272 : BitVec 32 := Scalar.select v271 c1_i32_161 c2_i32_159
  let v273 : BitVec 32 := Scalar.remsi v270 v272
  let c0_i32_163 : BitVec 32 := 0#32
  let v275 : BitVec 1 := Scalar.cmpi .slt v273 c0_i32_163
  let c0_i32_164 : BitVec 32 := 0#32
  let v276 : BitVec 1 := Scalar.cmpi .slt v272 c0_i32_164
  let v277 : BitVec 1 := Scalar.xori v275 v276
  let c0_i32_162 : BitVec 32 := 0#32
  let v274 : BitVec 1 := Scalar.cmpi .ne v273 c0_i32_162
  let v278 : BitVec 1 := Scalar.andi v277 v274
  let v279 : BitVec 32 := Scalar.addi v273 v272
  let v280 : BitVec 32 := Scalar.select v278 v279 v273
  let v297 : BitVec 32 := Scalar.subi c1_i32_176 v280
  let c2_i32_177 : BitVec 32 := 2#32
  let v298 : BitVec 32 := Scalar.muli v297 c2_i32_177
  let v299 : BitVec 32 := Scalar.addi v296 v298
  let c256_i32_341 : BitVec 32 := 256#32
  let v492 : BitVec 32 := Scalar.muli v299 c256_i32_341
  let v493 : Index := Scalar.indexCast v492
  let c0_342 : Index := 0#32
  ![v493.toNat, 0]
def k0_off5 (d66 : Dev nD) : Fin 2 → Nat :=
  let c4_i32_83 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v133 : BitVec 32 := Scalar.xori v78 v105
  let v134 : BitVec 32 := Scalar.muli c4_i32_83 v133
  let c2_i32_84 : BitVec 32 := 2#32
  let v135 : BitVec 32 := Scalar.muli c2_i32_84 v105
  let v136 : BitVec 32 := Scalar.addi v134 v135
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v137 : BitVec 32 := Scalar.addi v136 v132
  let c0_i32_100 : BitVec 32 := 0#32
  let v153 : BitVec 1 := Scalar.cmpi .sgt v137 c0_i32_100
  let v154 : BitVec 32 := Scalar.extui v153
  let c0_i32_101 : BitVec 32 := 0#32
  let v155 : BitVec 1 := Scalar.cmpi .slt v137 c0_i32_101
  let v156 : BitVec 32 := Scalar.extui v155
  let v157 : BitVec 32 := Scalar.subi v154 v156
  let c4_i32_99 : BitVec 32 := 4#32
  let c0_i32_102 : BitVec 32 := 0#32
  let v158 : BitVec 1 := Scalar.cmpi .sgt c4_i32_99 c0_i32_102
  let v159 : BitVec 32 := Scalar.extui v158
  let c0_i32_103 : BitVec 32 := 0#32
  let v160 : BitVec 1 := Scalar.cmpi .slt c4_i32_99 c0_i32_103
  let v161 : BitVec 32 := Scalar.extui v160
  let v162 : BitVec 32 := Scalar.subi v159 v161
  let v163 : BitVec 1 := Scalar.cmpi .ne v157 v162
  let v164 : BitVec 32 := Scalar.remsi v137 c4_i32_99
  let c0_i32_104 : BitVec 32 := 0#32
  let v165 : BitVec 1 := Scalar.cmpi .ne v164 c0_i32_104
  let v166 : BitVec 1 := Scalar.andi v163 v165
  let v152 : BitVec 32 := Scalar.divsi v137 c4_i32_99
  let c1_i32_105 : BitVec 32 := 1#32
  let v167 : BitVec 32 := Scalar.subi v152 c1_i32_105
  let v168 : BitVec 32 := Scalar.select v166 v167 v152
  let c2_i32_106 : BitVec 32 := 2#32
  let c0_i32_107 : BitVec 32 := 0#32
  let v169 : BitVec 1 := Scalar.cmpi .eq c2_i32_106 c0_i32_107
  let c1_i32_108 : BitVec 32 := 1#32
  let v170 : BitVec 32 := Scalar.select v169 c1_i32_108 c2_i32_106
  let v171 : BitVec 32 := Scalar.remsi v168 v170
  let c0_i32_110 : BitVec 32 := 0#32
  let v173 : BitVec 1 := Scalar.cmpi .slt v171 c0_i32_110
  let c0_i32_111 : BitVec 32 := 0#32
  let v174 : BitVec 1 := Scalar.cmpi .slt v170 c0_i32_111
  let v175 : BitVec 1 := Scalar.xori v173 v174
  let c0_i32_109 : BitVec 32 := 0#32
  let v172 : BitVec 1 := Scalar.cmpi .ne v171 c0_i32_109
  let v176 : BitVec 1 := Scalar.andi v175 v172
  let v177 : BitVec 32 := Scalar.addi v171 v170
  let v178 : BitVec 32 := Scalar.select v176 v177 v171
  let c4_i32_135 : BitVec 32 := 4#32
  let v221 : BitVec 32 := Scalar.muli v178 c4_i32_135
  let c1_i32_136 : BitVec 32 := 1#32
  let c0_i32_113 : BitVec 32 := 0#32
  let v180 : BitVec 1 := Scalar.cmpi .sgt v137 c0_i32_113
  let v181 : BitVec 32 := Scalar.extui v180
  let c0_i32_114 : BitVec 32 := 0#32
  let v182 : BitVec 1 := Scalar.cmpi .slt v137 c0_i32_114
  let v183 : BitVec 32 := Scalar.extui v182
  let v184 : BitVec 32 := Scalar.subi v181 v183
  let c2_i32_112 : BitVec 32 := 2#32
  let c0_i32_115 : BitVec 32 := 0#32
  let v185 : BitVec 1 := Scalar.cmpi .sgt c2_i32_112 c0_i32_115
  let v186 : BitVec 32 := Scalar.extui v185
  let c0_i32_116 : BitVec 32 := 0#32
  let v187 : BitVec 1 := Scalar.cmpi .slt c2_i32_112 c0_i32_116
  let v188 : BitVec 32 := Scalar.extui v187
  let v189 : BitVec 32 := Scalar.subi v186 v188
  let v190 : BitVec 1 := Scalar.cmpi .ne v184 v189
  let v191 : BitVec 32 := Scalar.remsi v137 c2_i32_112
  let c0_i32_117 : BitVec 32 := 0#32
  let v192 : BitVec 1 := Scalar.cmpi .ne v191 c0_i32_117
  let v193 : BitVec 1 := Scalar.andi v190 v192
  let v179 : BitVec 32 := Scalar.divsi v137 c2_i32_112
  let c1_i32_118 : BitVec 32 := 1#32
  let v194 : BitVec 32 := Scalar.subi v179 c1_i32_118
  let v195 : BitVec 32 := Scalar.select v193 v194 v179
  let c2_i32_119 : BitVec 32 := 2#32
  let c0_i32_120 : BitVec 32 := 0#32
  let v196 : BitVec 1 := Scalar.cmpi .eq c2_i32_119 c0_i32_120
  let c1_i32_121 : BitVec 32 := 1#32
  let v197 : BitVec 32 := Scalar.select v196 c1_i32_121 c2_i32_119
  let v198 : BitVec 32 := Scalar.remsi v195 v197
  let c0_i32_123 : BitVec 32 := 0#32
  let v200 : BitVec 1 := Scalar.cmpi .slt v198 c0_i32_123
  let c0_i32_124 : BitVec 32 := 0#32
  let v201 : BitVec 1 := Scalar.cmpi .slt v197 c0_i32_124
  let v202 : BitVec 1 := Scalar.xori v200 v201
  let c0_i32_122 : BitVec 32 := 0#32
  let v199 : BitVec 1 := Scalar.cmpi .ne v198 c0_i32_122
  let v203 : BitVec 1 := Scalar.andi v202 v199
  let v204 : BitVec 32 := Scalar.addi v198 v197
  let v205 : BitVec 32 := Scalar.select v203 v204 v198
  let v222 : BitVec 32 := Scalar.subi c1_i32_136 v205
  let c2_i32_137 : BitVec 32 := 2#32
  let v223 : BitVec 32 := Scalar.muli v222 c2_i32_137
  let v224 : BitVec 32 := Scalar.addi v221 v223
  let c1_i32_346 : BitVec 32 := 1#32
  let c2_i32_125 : BitVec 32 := 2#32
  let c0_i32_126 : BitVec 32 := 0#32
  let v206 : BitVec 1 := Scalar.cmpi .eq c2_i32_125 c0_i32_126
  let c1_i32_127 : BitVec 32 := 1#32
  let v207 : BitVec 32 := Scalar.select v206 c1_i32_127 c2_i32_125
  let v208 : BitVec 32 := Scalar.remsi v137 v207
  let c0_i32_129 : BitVec 32 := 0#32
  let v210 : BitVec 1 := Scalar.cmpi .slt v208 c0_i32_129
  let c0_i32_130 : BitVec 32 := 0#32
  let v211 : BitVec 1 := Scalar.cmpi .slt v207 c0_i32_130
  let v212 : BitVec 1 := Scalar.xori v210 v211
  let c0_i32_128 : BitVec 32 := 0#32
  let v209 : BitVec 1 := Scalar.cmpi .ne v208 c0_i32_128
  let v213 : BitVec 1 := Scalar.andi v212 v209
  let v214 : BitVec 32 := Scalar.addi v208 v207
  let v215 : BitVec 32 := Scalar.select v213 v214 v208
  let v501 : BitVec 32 := Scalar.subi c1_i32_346 v215
  let v502 : BitVec 32 := Scalar.addi v224 v501
  let c256_i32_347 : BitVec 32 := 256#32
  let v503 : BitVec 32 := Scalar.muli v502 c256_i32_347
  let c0_i32_355 : BitVec 32 := 0#32
  ![v503.toNat, 0]
def k0_dev6 (d66 : Dev nD) : Nat :=
  let c0_i32_352 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c3_i32_348 : BitVec 32 := 3#32
  let v504 : BitVec 32 := Scalar.xori v68 c3_i32_348
  let c1_i32_351 : BitVec 32 := 1#32
  let v505 : BitVec 32 := Scalar.muli v504 c1_i32_351
  let v506 : BitVec 32 := Scalar.addi c0_i32_352 v505
  v506.toNat
def k0_off6 (d66 : Dev nD) : Fin 2 → Nat :=
  let c1_i32_131 : BitVec 32 := 1#32
  let c4_i32_83 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v133 : BitVec 32 := Scalar.xori v78 v105
  let v134 : BitVec 32 := Scalar.muli c4_i32_83 v133
  let c2_i32_84 : BitVec 32 := 2#32
  let v135 : BitVec 32 := Scalar.muli c2_i32_84 v105
  let v136 : BitVec 32 := Scalar.addi v134 v135
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v137 : BitVec 32 := Scalar.addi v136 v132
  let c0_i32_100 : BitVec 32 := 0#32
  let v153 : BitVec 1 := Scalar.cmpi .sgt v137 c0_i32_100
  let v154 : BitVec 32 := Scalar.extui v153
  let c0_i32_101 : BitVec 32 := 0#32
  let v155 : BitVec 1 := Scalar.cmpi .slt v137 c0_i32_101
  let v156 : BitVec 32 := Scalar.extui v155
  let v157 : BitVec 32 := Scalar.subi v154 v156
  let c4_i32_99 : BitVec 32 := 4#32
  let c0_i32_102 : BitVec 32 := 0#32
  let v158 : BitVec 1 := Scalar.cmpi .sgt c4_i32_99 c0_i32_102
  let v159 : BitVec 32 := Scalar.extui v158
  let c0_i32_103 : BitVec 32 := 0#32
  let v160 : BitVec 1 := Scalar.cmpi .slt c4_i32_99 c0_i32_103
  let v161 : BitVec 32 := Scalar.extui v160
  let v162 : BitVec 32 := Scalar.subi v159 v161
  let v163 : BitVec 1 := Scalar.cmpi .ne v157 v162
  let v164 : BitVec 32 := Scalar.remsi v137 c4_i32_99
  let c0_i32_104 : BitVec 32 := 0#32
  let v165 : BitVec 1 := Scalar.cmpi .ne v164 c0_i32_104
  let v166 : BitVec 1 := Scalar.andi v163 v165
  let v152 : BitVec 32 := Scalar.divsi v137 c4_i32_99
  let c1_i32_105 : BitVec 32 := 1#32
  let v167 : BitVec 32 := Scalar.subi v152 c1_i32_105
  let v168 : BitVec 32 := Scalar.select v166 v167 v152
  let c2_i32_106 : BitVec 32 := 2#32
  let c0_i32_107 : BitVec 32 := 0#32
  let v169 : BitVec 1 := Scalar.cmpi .eq c2_i32_106 c0_i32_107
  let c1_i32_108 : BitVec 32 := 1#32
  let v170 : BitVec 32 := Scalar.select v169 c1_i32_108 c2_i32_106
  let v171 : BitVec 32 := Scalar.remsi v168 v170
  let c0_i32_110 : BitVec 32 := 0#32
  let v173 : BitVec 1 := Scalar.cmpi .slt v171 c0_i32_110
  let c0_i32_111 : BitVec 32 := 0#32
  let v174 : BitVec 1 := Scalar.cmpi .slt v170 c0_i32_111
  let v175 : BitVec 1 := Scalar.xori v173 v174
  let c0_i32_109 : BitVec 32 := 0#32
  let v172 : BitVec 1 := Scalar.cmpi .ne v171 c0_i32_109
  let v176 : BitVec 1 := Scalar.andi v175 v172
  let v177 : BitVec 32 := Scalar.addi v171 v170
  let v178 : BitVec 32 := Scalar.select v176 v177 v171
  let v216 : BitVec 32 := Scalar.subi c1_i32_131 v178
  let c4_i32_132 : BitVec 32 := 4#32
  let v217 : BitVec 32 := Scalar.muli v216 c4_i32_132
  let c0_i32_113 : BitVec 32 := 0#32
  let v180 : BitVec 1 := Scalar.cmpi .sgt v137 c0_i32_113
  let v181 : BitVec 32 := Scalar.extui v180
  let c0_i32_114 : BitVec 32 := 0#32
  let v182 : BitVec 1 := Scalar.cmpi .slt v137 c0_i32_114
  let v183 : BitVec 32 := Scalar.extui v182
  let v184 : BitVec 32 := Scalar.subi v181 v183
  let c2_i32_112 : BitVec 32 := 2#32
  let c0_i32_115 : BitVec 32 := 0#32
  let v185 : BitVec 1 := Scalar.cmpi .sgt c2_i32_112 c0_i32_115
  let v186 : BitVec 32 := Scalar.extui v185
  let c0_i32_116 : BitVec 32 := 0#32
  let v187 : BitVec 1 := Scalar.cmpi .slt c2_i32_112 c0_i32_116
  let v188 : BitVec 32 := Scalar.extui v187
  let v189 : BitVec 32 := Scalar.subi v186 v188
  let v190 : BitVec 1 := Scalar.cmpi .ne v184 v189
  let v191 : BitVec 32 := Scalar.remsi v137 c2_i32_112
  let c0_i32_117 : BitVec 32 := 0#32
  let v192 : BitVec 1 := Scalar.cmpi .ne v191 c0_i32_117
  let v193 : BitVec 1 := Scalar.andi v190 v192
  let v179 : BitVec 32 := Scalar.divsi v137 c2_i32_112
  let c1_i32_118 : BitVec 32 := 1#32
  let v194 : BitVec 32 := Scalar.subi v179 c1_i32_118
  let v195 : BitVec 32 := Scalar.select v193 v194 v179
  let c2_i32_119 : BitVec 32 := 2#32
  let c0_i32_120 : BitVec 32 := 0#32
  let v196 : BitVec 1 := Scalar.cmpi .eq c2_i32_119 c0_i32_120
  let c1_i32_121 : BitVec 32 := 1#32
  let v197 : BitVec 32 := Scalar.select v196 c1_i32_121 c2_i32_119
  let v198 : BitVec 32 := Scalar.remsi v195 v197
  let c0_i32_123 : BitVec 32 := 0#32
  let v200 : BitVec 1 := Scalar.cmpi .slt v198 c0_i32_123
  let c0_i32_124 : BitVec 32 := 0#32
  let v201 : BitVec 1 := Scalar.cmpi .slt v197 c0_i32_124
  let v202 : BitVec 1 := Scalar.xori v200 v201
  let c0_i32_122 : BitVec 32 := 0#32
  let v199 : BitVec 1 := Scalar.cmpi .ne v198 c0_i32_122
  let v203 : BitVec 1 := Scalar.andi v202 v199
  let v204 : BitVec 32 := Scalar.addi v198 v197
  let v205 : BitVec 32 := Scalar.select v203 v204 v198
  let c2_i32_356 : BitVec 32 := 2#32
  let v513 : BitVec 32 := Scalar.muli v205 c2_i32_356
  let v514 : BitVec 32 := Scalar.addi v217 v513
  let c256_i32_357 : BitVec 32 := 256#32
  let v515 : BitVec 32 := Scalar.muli v514 c256_i32_357
  let c0_i32_365 : BitVec 32 := 0#32
  ![v515.toNat, 0]
def k0_dev7 (d66 : Dev nD) : Nat :=
  let c0_i32_362 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c1_i32_358 : BitVec 32 := 1#32
  let v516 : BitVec 32 := Scalar.xori v68 c1_i32_358
  let c1_i32_361 : BitVec 32 := 1#32
  let v517 : BitVec 32 := Scalar.muli v516 c1_i32_361
  let v518 : BitVec 32 := Scalar.addi c0_i32_362 v517
  v518.toNat
def k0_off7 (d66 : Dev nD) : Fin 2 → Nat :=
  let c4_i32_85 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v138 : BitVec 32 := Scalar.muli c4_i32_85 v132
  let c2_i32_86 : BitVec 32 := 2#32
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v139 : BitVec 32 := Scalar.muli c2_i32_86 v105
  let v140 : BitVec 32 := Scalar.addi v138 v139
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let v133 : BitVec 32 := Scalar.xori v78 v105
  let v141 : BitVec 32 := Scalar.addi v140 v133
  let c0_i32_140 : BitVec 32 := 0#32
  let v228 : BitVec 1 := Scalar.cmpi .sgt v141 c0_i32_140
  let v229 : BitVec 32 := Scalar.extui v228
  let c0_i32_141 : BitVec 32 := 0#32
  let v230 : BitVec 1 := Scalar.cmpi .slt v141 c0_i32_141
  let v231 : BitVec 32 := Scalar.extui v230
  let v232 : BitVec 32 := Scalar.subi v229 v231
  let c4_i32_139 : BitVec 32 := 4#32
  let c0_i32_142 : BitVec 32 := 0#32
  let v233 : BitVec 1 := Scalar.cmpi .sgt c4_i32_139 c0_i32_142
  let v234 : BitVec 32 := Scalar.extui v233
  let c0_i32_143 : BitVec 32 := 0#32
  let v235 : BitVec 1 := Scalar.cmpi .slt c4_i32_139 c0_i32_143
  let v236 : BitVec 32 := Scalar.extui v235
  let v237 : BitVec 32 := Scalar.subi v234 v236
  let v238 : BitVec 1 := Scalar.cmpi .ne v232 v237
  let v239 : BitVec 32 := Scalar.remsi v141 c4_i32_139
  let c0_i32_144 : BitVec 32 := 0#32
  let v240 : BitVec 1 := Scalar.cmpi .ne v239 c0_i32_144
  let v241 : BitVec 1 := Scalar.andi v238 v240
  let v227 : BitVec 32 := Scalar.divsi v141 c4_i32_139
  let c1_i32_145 : BitVec 32 := 1#32
  let v242 : BitVec 32 := Scalar.subi v227 c1_i32_145
  let v243 : BitVec 32 := Scalar.select v241 v242 v227
  let c2_i32_146 : BitVec 32 := 2#32
  let c0_i32_147 : BitVec 32 := 0#32
  let v244 : BitVec 1 := Scalar.cmpi .eq c2_i32_146 c0_i32_147
  let c1_i32_148 : BitVec 32 := 1#32
  let v245 : BitVec 32 := Scalar.select v244 c1_i32_148 c2_i32_146
  let v246 : BitVec 32 := Scalar.remsi v243 v245
  let c0_i32_150 : BitVec 32 := 0#32
  let v248 : BitVec 1 := Scalar.cmpi .slt v246 c0_i32_150
  let c0_i32_151 : BitVec 32 := 0#32
  let v249 : BitVec 1 := Scalar.cmpi .slt v245 c0_i32_151
  let v250 : BitVec 1 := Scalar.xori v248 v249
  let c0_i32_149 : BitVec 32 := 0#32
  let v247 : BitVec 1 := Scalar.cmpi .ne v246 c0_i32_149
  let v251 : BitVec 1 := Scalar.andi v250 v247
  let v252 : BitVec 32 := Scalar.addi v246 v245
  let v253 : BitVec 32 := Scalar.select v251 v252 v246
  let c4_i32_175 : BitVec 32 := 4#32
  let v296 : BitVec 32 := Scalar.muli v253 c4_i32_175
  let c1_i32_176 : BitVec 32 := 1#32
  let c0_i32_153 : BitVec 32 := 0#32
  let v255 : BitVec 1 := Scalar.cmpi .sgt v141 c0_i32_153
  let v256 : BitVec 32 := Scalar.extui v255
  let c0_i32_154 : BitVec 32 := 0#32
  let v257 : BitVec 1 := Scalar.cmpi .slt v141 c0_i32_154
  let v258 : BitVec 32 := Scalar.extui v257
  let v259 : BitVec 32 := Scalar.subi v256 v258
  let c2_i32_152 : BitVec 32 := 2#32
  let c0_i32_155 : BitVec 32 := 0#32
  let v260 : BitVec 1 := Scalar.cmpi .sgt c2_i32_152 c0_i32_155
  let v261 : BitVec 32 := Scalar.extui v260
  let c0_i32_156 : BitVec 32 := 0#32
  let v262 : BitVec 1 := Scalar.cmpi .slt c2_i32_152 c0_i32_156
  let v263 : BitVec 32 := Scalar.extui v262
  let v264 : BitVec 32 := Scalar.subi v261 v263
  let v265 : BitVec 1 := Scalar.cmpi .ne v259 v264
  let v266 : BitVec 32 := Scalar.remsi v141 c2_i32_152
  let c0_i32_157 : BitVec 32 := 0#32
  let v267 : BitVec 1 := Scalar.cmpi .ne v266 c0_i32_157
  let v268 : BitVec 1 := Scalar.andi v265 v267
  let v254 : BitVec 32 := Scalar.divsi v141 c2_i32_152
  let c1_i32_158 : BitVec 32 := 1#32
  let v269 : BitVec 32 := Scalar.subi v254 c1_i32_158
  let v270 : BitVec 32 := Scalar.select v268 v269 v254
  let c2_i32_159 : BitVec 32 := 2#32
  let c0_i32_160 : BitVec 32 := 0#32
  let v271 : BitVec 1 := Scalar.cmpi .eq c2_i32_159 c0_i32_160
  let c1_i32_161 : BitVec 32 := 1#32
  let v272 : BitVec 32 := Scalar.select v271 c1_i32_161 c2_i32_159
  let v273 : BitVec 32 := Scalar.remsi v270 v272
  let c0_i32_163 : BitVec 32 := 0#32
  let v275 : BitVec 1 := Scalar.cmpi .slt v273 c0_i32_163
  let c0_i32_164 : BitVec 32 := 0#32
  let v276 : BitVec 1 := Scalar.cmpi .slt v272 c0_i32_164
  let v277 : BitVec 1 := Scalar.xori v275 v276
  let c0_i32_162 : BitVec 32 := 0#32
  let v274 : BitVec 1 := Scalar.cmpi .ne v273 c0_i32_162
  let v278 : BitVec 1 := Scalar.andi v277 v274
  let v279 : BitVec 32 := Scalar.addi v273 v272
  let v280 : BitVec 32 := Scalar.select v278 v279 v273
  let v297 : BitVec 32 := Scalar.subi c1_i32_176 v280
  let c2_i32_177 : BitVec 32 := 2#32
  let v298 : BitVec 32 := Scalar.muli v297 c2_i32_177
  let v299 : BitVec 32 := Scalar.addi v296 v298
  let c1_i32_366 : BitVec 32 := 1#32
  let c2_i32_165 : BitVec 32 := 2#32
  let c0_i32_166 : BitVec 32 := 0#32
  let v281 : BitVec 1 := Scalar.cmpi .eq c2_i32_165 c0_i32_166
  let c1_i32_167 : BitVec 32 := 1#32
  let v282 : BitVec 32 := Scalar.select v281 c1_i32_167 c2_i32_165
  let v283 : BitVec 32 := Scalar.remsi v141 v282
  let c0_i32_169 : BitVec 32 := 0#32
  let v285 : BitVec 1 := Scalar.cmpi .slt v283 c0_i32_169
  let c0_i32_170 : BitVec 32 := 0#32
  let v286 : BitVec 1 := Scalar.cmpi .slt v282 c0_i32_170
  let v287 : BitVec 1 := Scalar.xori v285 v286
  let c0_i32_168 : BitVec 32 := 0#32
  let v284 : BitVec 1 := Scalar.cmpi .ne v283 c0_i32_168
  let v288 : BitVec 1 := Scalar.andi v287 v284
  let v289 : BitVec 32 := Scalar.addi v283 v282
  let v290 : BitVec 32 := Scalar.select v288 v289 v283
  let v525 : BitVec 32 := Scalar.subi c1_i32_366 v290
  let v526 : BitVec 32 := Scalar.addi v299 v525
  let c256_i32_367 : BitVec 32 := 256#32
  let v527 : BitVec 32 := Scalar.muli v526 c256_i32_367
  let c0_i32_375 : BitVec 32 := 0#32
  ![v527.toNat, 0]
def k0_dev8 (d66 : Dev nD) : Nat :=
  let c0_i32_372 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c3_i32_368 : BitVec 32 := 3#32
  let v528 : BitVec 32 := Scalar.xori v68 c3_i32_368
  let c1_i32_371 : BitVec 32 := 1#32
  let v529 : BitVec 32 := Scalar.muli v528 c1_i32_371
  let v530 : BitVec 32 := Scalar.addi c0_i32_372 v529
  v530.toNat
def k0_off8 (d66 : Dev nD) : Fin 2 → Nat :=
  let c1_i32_171 : BitVec 32 := 1#32
  let c4_i32_85 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v138 : BitVec 32 := Scalar.muli c4_i32_85 v132
  let c2_i32_86 : BitVec 32 := 2#32
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v139 : BitVec 32 := Scalar.muli c2_i32_86 v105
  let v140 : BitVec 32 := Scalar.addi v138 v139
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let v133 : BitVec 32 := Scalar.xori v78 v105
  let v141 : BitVec 32 := Scalar.addi v140 v133
  let c0_i32_140 : BitVec 32 := 0#32
  let v228 : BitVec 1 := Scalar.cmpi .sgt v141 c0_i32_140
  let v229 : BitVec 32 := Scalar.extui v228
  let c0_i32_141 : BitVec 32 := 0#32
  let v230 : BitVec 1 := Scalar.cmpi .slt v141 c0_i32_141
  let v231 : BitVec 32 := Scalar.extui v230
  let v232 : BitVec 32 := Scalar.subi v229 v231
  let c4_i32_139 : BitVec 32 := 4#32
  let c0_i32_142 : BitVec 32 := 0#32
  let v233 : BitVec 1 := Scalar.cmpi .sgt c4_i32_139 c0_i32_142
  let v234 : BitVec 32 := Scalar.extui v233
  let c0_i32_143 : BitVec 32 := 0#32
  let v235 : BitVec 1 := Scalar.cmpi .slt c4_i32_139 c0_i32_143
  let v236 : BitVec 32 := Scalar.extui v235
  let v237 : BitVec 32 := Scalar.subi v234 v236
  let v238 : BitVec 1 := Scalar.cmpi .ne v232 v237
  let v239 : BitVec 32 := Scalar.remsi v141 c4_i32_139
  let c0_i32_144 : BitVec 32 := 0#32
  let v240 : BitVec 1 := Scalar.cmpi .ne v239 c0_i32_144
  let v241 : BitVec 1 := Scalar.andi v238 v240
  let v227 : BitVec 32 := Scalar.divsi v141 c4_i32_139
  let c1_i32_145 : BitVec 32 := 1#32
  let v242 : BitVec 32 := Scalar.subi v227 c1_i32_145
  let v243 : BitVec 32 := Scalar.select v241 v242 v227
  let c2_i32_146 : BitVec 32 := 2#32
  let c0_i32_147 : BitVec 32 := 0#32
  let v244 : BitVec 1 := Scalar.cmpi .eq c2_i32_146 c0_i32_147
  let c1_i32_148 : BitVec 32 := 1#32
  let v245 : BitVec 32 := Scalar.select v244 c1_i32_148 c2_i32_146
  let v246 : BitVec 32 := Scalar.remsi v243 v245
  let c0_i32_150 : BitVec 32 := 0#32
  let v248 : BitVec 1 := Scalar.cmpi .slt v246 c0_i32_150
  let c0_i32_151 : BitVec 32 := 0#32
  let v249 : BitVec 1 := Scalar.cmpi .slt v245 c0_i32_151
  let v250 : BitVec 1 := Scalar.xori v248 v249
  let c0_i32_149 : BitVec 32 := 0#32
  let v247 : BitVec 1 := Scalar.cmpi .ne v246 c0_i32_149
  let v251 : BitVec 1 := Scalar.andi v250 v247
  let v252 : BitVec 32 := Scalar.addi v246 v245
  let v253 : BitVec 32 := Scalar.select v251 v252 v246
  let v291 : BitVec 32 := Scalar.subi c1_i32_171 v253
  let c4_i32_172 : BitVec 32 := 4#32
  let v292 : BitVec 32 := Scalar.muli v291 c4_i32_172
  let c0_i32_153 : BitVec 32 := 0#32
  let v255 : BitVec 1 := Scalar.cmpi .sgt v141 c0_i32_153
  let v256 : BitVec 32 := Scalar.extui v255
  let c0_i32_154 : BitVec 32 := 0#32
  let v257 : BitVec 1 := Scalar.cmpi .slt v141 c0_i32_154
  let v258 : BitVec 32 := Scalar.extui v257
  let v259 : BitVec 32 := Scalar.subi v256 v258
  let c2_i32_152 : BitVec 32 := 2#32
  let c0_i32_155 : BitVec 32 := 0#32
  let v260 : BitVec 1 := Scalar.cmpi .sgt c2_i32_152 c0_i32_155
  let v261 : BitVec 32 := Scalar.extui v260
  let c0_i32_156 : BitVec 32 := 0#32
  let v262 : BitVec 1 := Scalar.cmpi .slt c2_i32_152 c0_i32_156
  let v263 : BitVec 32 := Scalar.extui v262
  let v264 : BitVec 32 := Scalar.subi v261 v263
  let v265 : BitVec 1 := Scalar.cmpi .ne v259 v264
  let v266 : BitVec 32 := Scalar.remsi v141 c2_i32_152
  let c0_i32_157 : BitVec 32 := 0#32
  let v267 : BitVec 1 := Scalar.cmpi .ne v266 c0_i32_157
  let v268 : BitVec 1 := Scalar.andi v265 v267
  let v254 : BitVec 32 := Scalar.divsi v141 c2_i32_152
  let c1_i32_158 : BitVec 32 := 1#32
  let v269 : BitVec 32 := Scalar.subi v254 c1_i32_158
  let v270 : BitVec 32 := Scalar.select v268 v269 v254
  let c2_i32_159 : BitVec 32 := 2#32
  let c0_i32_160 : BitVec 32 := 0#32
  let v271 : BitVec 1 := Scalar.cmpi .eq c2_i32_159 c0_i32_160
  let c1_i32_161 : BitVec 32 := 1#32
  let v272 : BitVec 32 := Scalar.select v271 c1_i32_161 c2_i32_159
  let v273 : BitVec 32 := Scalar.remsi v270 v272
  let c0_i32_163 : BitVec 32 := 0#32
  let v275 : BitVec 1 := Scalar.cmpi .slt v273 c0_i32_163
  let c0_i32_164 : BitVec 32 := 0#32
  let v276 : BitVec 1 := Scalar.cmpi .slt v272 c0_i32_164
  let v277 : BitVec 1 := Scalar.xori v275 v276
  let c0_i32_162 : BitVec 32 := 0#32
  let v274 : BitVec 1 := Scalar.cmpi .ne v273 c0_i32_162
  let v278 : BitVec 1 := Scalar.andi v277 v274
  let v279 : BitVec 32 := Scalar.addi v273 v272
  let v280 : BitVec 32 := Scalar.select v278 v279 v273
  let c2_i32_376 : BitVec 32 := 2#32
  let v537 : BitVec 32 := Scalar.muli v280 c2_i32_376
  let v538 : BitVec 32 := Scalar.addi v292 v537
  let c256_i32_377 : BitVec 32 := 256#32
  let v539 : BitVec 32 := Scalar.muli v538 c256_i32_377
  let c0_i32_385 : BitVec 32 := 0#32
  ![v539.toNat, 0]
def k0_dev9 (d66 : Dev nD) : Nat :=
  let c0_i32_382 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c4_i32_378 : BitVec 32 := 4#32
  let v540 : BitVec 32 := Scalar.xori v68 c4_i32_378
  let c1_i32_381 : BitVec 32 := 1#32
  let v541 : BitVec 32 := Scalar.muli v540 c1_i32_381
  let v542 : BitVec 32 := Scalar.addi c0_i32_382 v541
  v542.toNat
def k0_off9 (d66 : Dev nD) : Fin 2 → Nat :=
  let c4_i32_83 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v133 : BitVec 32 := Scalar.xori v78 v105
  let v134 : BitVec 32 := Scalar.muli c4_i32_83 v133
  let c2_i32_84 : BitVec 32 := 2#32
  let v135 : BitVec 32 := Scalar.muli c2_i32_84 v105
  let v136 : BitVec 32 := Scalar.addi v134 v135
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v137 : BitVec 32 := Scalar.addi v136 v132
  let c0_i32_100 : BitVec 32 := 0#32
  let v153 : BitVec 1 := Scalar.cmpi .sgt v137 c0_i32_100
  let v154 : BitVec 32 := Scalar.extui v153
  let c0_i32_101 : BitVec 32 := 0#32
  let v155 : BitVec 1 := Scalar.cmpi .slt v137 c0_i32_101
  let v156 : BitVec 32 := Scalar.extui v155
  let v157 : BitVec 32 := Scalar.subi v154 v156
  let c4_i32_99 : BitVec 32 := 4#32
  let c0_i32_102 : BitVec 32 := 0#32
  let v158 : BitVec 1 := Scalar.cmpi .sgt c4_i32_99 c0_i32_102
  let v159 : BitVec 32 := Scalar.extui v158
  let c0_i32_103 : BitVec 32 := 0#32
  let v160 : BitVec 1 := Scalar.cmpi .slt c4_i32_99 c0_i32_103
  let v161 : BitVec 32 := Scalar.extui v160
  let v162 : BitVec 32 := Scalar.subi v159 v161
  let v163 : BitVec 1 := Scalar.cmpi .ne v157 v162
  let v164 : BitVec 32 := Scalar.remsi v137 c4_i32_99
  let c0_i32_104 : BitVec 32 := 0#32
  let v165 : BitVec 1 := Scalar.cmpi .ne v164 c0_i32_104
  let v166 : BitVec 1 := Scalar.andi v163 v165
  let v152 : BitVec 32 := Scalar.divsi v137 c4_i32_99
  let c1_i32_105 : BitVec 32 := 1#32
  let v167 : BitVec 32 := Scalar.subi v152 c1_i32_105
  let v168 : BitVec 32 := Scalar.select v166 v167 v152
  let c2_i32_106 : BitVec 32 := 2#32
  let c0_i32_107 : BitVec 32 := 0#32
  let v169 : BitVec 1 := Scalar.cmpi .eq c2_i32_106 c0_i32_107
  let c1_i32_108 : BitVec 32 := 1#32
  let v170 : BitVec 32 := Scalar.select v169 c1_i32_108 c2_i32_106
  let v171 : BitVec 32 := Scalar.remsi v168 v170
  let c0_i32_110 : BitVec 32 := 0#32
  let v173 : BitVec 1 := Scalar.cmpi .slt v171 c0_i32_110
  let c0_i32_111 : BitVec 32 := 0#32
  let v174 : BitVec 1 := Scalar.cmpi .slt v170 c0_i32_111
  let v175 : BitVec 1 := Scalar.xori v173 v174
  let c0_i32_109 : BitVec 32 := 0#32
  let v172 : BitVec 1 := Scalar.cmpi .ne v171 c0_i32_109
  let v176 : BitVec 1 := Scalar.andi v175 v172
  let v177 : BitVec 32 := Scalar.addi v171 v170
  let v178 : BitVec 32 := Scalar.select v176 v177 v171
  let c4_i32_133 : BitVec 32 := 4#32
  let v218 : BitVec 32 := Scalar.muli v178 c4_i32_133
  let c0_i32_113 : BitVec 32 := 0#32
  let v180 : BitVec 1 := Scalar.cmpi .sgt v137 c0_i32_113
  let v181 : BitVec 32 := Scalar.extui v180
  let c0_i32_114 : BitVec 32 := 0#32
  let v182 : BitVec 1 := Scalar.cmpi .slt v137 c0_i32_114
  let v183 : BitVec 32 := Scalar.extui v182
  let v184 : BitVec 32 := Scalar.subi v181 v183
  let c2_i32_112 : BitVec 32 := 2#32
  let c0_i32_115 : BitVec 32 := 0#32
  let v185 : BitVec 1 := Scalar.cmpi .sgt c2_i32_112 c0_i32_115
  let v186 : BitVec 32 := Scalar.extui v185
  let c0_i32_116 : BitVec 32 := 0#32
  let v187 : BitVec 1 := Scalar.cmpi .slt c2_i32_112 c0_i32_116
  let v188 : BitVec 32 := Scalar.extui v187
  let v189 : BitVec 32 := Scalar.subi v186 v188
  let v190 : BitVec 1 := Scalar.cmpi .ne v184 v189
  let v191 : BitVec 32 := Scalar.remsi v137 c2_i32_112
  let c0_i32_117 : BitVec 32 := 0#32
  let v192 : BitVec 1 := Scalar.cmpi .ne v191 c0_i32_117
  let v193 : BitVec 1 := Scalar.andi v190 v192
  let v179 : BitVec 32 := Scalar.divsi v137 c2_i32_112
  let c1_i32_118 : BitVec 32 := 1#32
  let v194 : BitVec 32 := Scalar.subi v179 c1_i32_118
  let v195 : BitVec 32 := Scalar.select v193 v194 v179
  let c2_i32_119 : BitVec 32 := 2#32
  let c0_i32_120 : BitVec 32 := 0#32
  let v196 : BitVec 1 := Scalar.cmpi .eq c2_i32_119 c0_i32_120
  let c1_i32_121 : BitVec 32 := 1#32
  let v197 : BitVec 32 := Scalar.select v196 c1_i32_121 c2_i32_119
  let v198 : BitVec 32 := Scalar.remsi v195 v197
  let c0_i32_123 : BitVec 32 := 0#32
  let v200 : BitVec 1 := Scalar.cmpi .slt v198 c0_i32_123
  let c0_i32_124 : BitVec 32 := 0#32
  let v201 : BitVec 1 := Scalar.cmpi .slt v197 c0_i32_124
  let v202 : BitVec 1 := Scalar.xori v200 v201
  let c0_i32_122 : BitVec 32 := 0#32
  let v199 : BitVec 1 := Scalar.cmpi .ne v198 c0_i32_122
  let v203 : BitVec 1 := Scalar.andi v202 v199
  let v204 : BitVec 32 := Scalar.addi v198 v197
  let v205 : BitVec 32 := Scalar.select v203 v204 v198
  let c2_i32_134 : BitVec 32 := 2#32
  let v219 : BitVec 32 := Scalar.muli v205 c2_i32_134
  let v220 : BitVec 32 := Scalar.addi v218 v219
  let c256_i32_399 : BitVec 32 := 256#32
  let v559 : BitVec 32 := Scalar.muli v220 c256_i32_399
  let v560 : Index := Scalar.indexCast v559
  let c0_400 : Index := 0#32
  ![v560.toNat, 0]
def k0_off10 (d66 : Dev nD) : Fin 2 → Nat :=
  let c4_i32_83 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v133 : BitVec 32 := Scalar.xori v78 v105
  let v134 : BitVec 32 := Scalar.muli c4_i32_83 v133
  let c2_i32_84 : BitVec 32 := 2#32
  let v135 : BitVec 32 := Scalar.muli c2_i32_84 v105
  let v136 : BitVec 32 := Scalar.addi v134 v135
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v137 : BitVec 32 := Scalar.addi v136 v132
  let c0_i32_100 : BitVec 32 := 0#32
  let v153 : BitVec 1 := Scalar.cmpi .sgt v137 c0_i32_100
  let v154 : BitVec 32 := Scalar.extui v153
  let c0_i32_101 : BitVec 32 := 0#32
  let v155 : BitVec 1 := Scalar.cmpi .slt v137 c0_i32_101
  let v156 : BitVec 32 := Scalar.extui v155
  let v157 : BitVec 32 := Scalar.subi v154 v156
  let c4_i32_99 : BitVec 32 := 4#32
  let c0_i32_102 : BitVec 32 := 0#32
  let v158 : BitVec 1 := Scalar.cmpi .sgt c4_i32_99 c0_i32_102
  let v159 : BitVec 32 := Scalar.extui v158
  let c0_i32_103 : BitVec 32 := 0#32
  let v160 : BitVec 1 := Scalar.cmpi .slt c4_i32_99 c0_i32_103
  let v161 : BitVec 32 := Scalar.extui v160
  let v162 : BitVec 32 := Scalar.subi v159 v161
  let v163 : BitVec 1 := Scalar.cmpi .ne v157 v162
  let v164 : BitVec 32 := Scalar.remsi v137 c4_i32_99
  let c0_i32_104 : BitVec 32 := 0#32
  let v165 : BitVec 1 := Scalar.cmpi .ne v164 c0_i32_104
  let v166 : BitVec 1 := Scalar.andi v163 v165
  let v152 : BitVec 32 := Scalar.divsi v137 c4_i32_99
  let c1_i32_105 : BitVec 32 := 1#32
  let v167 : BitVec 32 := Scalar.subi v152 c1_i32_105
  let v168 : BitVec 32 := Scalar.select v166 v167 v152
  let c2_i32_106 : BitVec 32 := 2#32
  let c0_i32_107 : BitVec 32 := 0#32
  let v169 : BitVec 1 := Scalar.cmpi .eq c2_i32_106 c0_i32_107
  let c1_i32_108 : BitVec 32 := 1#32
  let v170 : BitVec 32 := Scalar.select v169 c1_i32_108 c2_i32_106
  let v171 : BitVec 32 := Scalar.remsi v168 v170
  let c0_i32_110 : BitVec 32 := 0#32
  let v173 : BitVec 1 := Scalar.cmpi .slt v171 c0_i32_110
  let c0_i32_111 : BitVec 32 := 0#32
  let v174 : BitVec 1 := Scalar.cmpi .slt v170 c0_i32_111
  let v175 : BitVec 1 := Scalar.xori v173 v174
  let c0_i32_109 : BitVec 32 := 0#32
  let v172 : BitVec 1 := Scalar.cmpi .ne v171 c0_i32_109
  let v176 : BitVec 1 := Scalar.andi v175 v172
  let v177 : BitVec 32 := Scalar.addi v171 v170
  let v178 : BitVec 32 := Scalar.select v176 v177 v171
  let c4_i32_133 : BitVec 32 := 4#32
  let v218 : BitVec 32 := Scalar.muli v178 c4_i32_133
  let c0_i32_113 : BitVec 32 := 0#32
  let v180 : BitVec 1 := Scalar.cmpi .sgt v137 c0_i32_113
  let v181 : BitVec 32 := Scalar.extui v180
  let c0_i32_114 : BitVec 32 := 0#32
  let v182 : BitVec 1 := Scalar.cmpi .slt v137 c0_i32_114
  let v183 : BitVec 32 := Scalar.extui v182
  let v184 : BitVec 32 := Scalar.subi v181 v183
  let c2_i32_112 : BitVec 32 := 2#32
  let c0_i32_115 : BitVec 32 := 0#32
  let v185 : BitVec 1 := Scalar.cmpi .sgt c2_i32_112 c0_i32_115
  let v186 : BitVec 32 := Scalar.extui v185
  let c0_i32_116 : BitVec 32 := 0#32
  let v187 : BitVec 1 := Scalar.cmpi .slt c2_i32_112 c0_i32_116
  let v188 : BitVec 32 := Scalar.extui v187
  let v189 : BitVec 32 := Scalar.subi v186 v188
  let v190 : BitVec 1 := Scalar.cmpi .ne v184 v189
  let v191 : BitVec 32 := Scalar.remsi v137 c2_i32_112
  let c0_i32_117 : BitVec 32 := 0#32
  let v192 : BitVec 1 := Scalar.cmpi .ne v191 c0_i32_117
  let v193 : BitVec 1 := Scalar.andi v190 v192
  let v179 : BitVec 32 := Scalar.divsi v137 c2_i32_112
  let c1_i32_118 : BitVec 32 := 1#32
  let v194 : BitVec 32 := Scalar.subi v179 c1_i32_118
  let v195 : BitVec 32 := Scalar.select v193 v194 v179
  let c2_i32_119 : BitVec 32 := 2#32
  let c0_i32_120 : BitVec 32 := 0#32
  let v196 : BitVec 1 := Scalar.cmpi .eq c2_i32_119 c0_i32_120
  let c1_i32_121 : BitVec 32 := 1#32
  let v197 : BitVec 32 := Scalar.select v196 c1_i32_121 c2_i32_119
  let v198 : BitVec 32 := Scalar.remsi v195 v197
  let c0_i32_123 : BitVec 32 := 0#32
  let v200 : BitVec 1 := Scalar.cmpi .slt v198 c0_i32_123
  let c0_i32_124 : BitVec 32 := 0#32
  let v201 : BitVec 1 := Scalar.cmpi .slt v197 c0_i32_124
  let v202 : BitVec 1 := Scalar.xori v200 v201
  let c0_i32_122 : BitVec 32 := 0#32
  let v199 : BitVec 1 := Scalar.cmpi .ne v198 c0_i32_122
  let v203 : BitVec 1 := Scalar.andi v202 v199
  let v204 : BitVec 32 := Scalar.addi v198 v197
  let v205 : BitVec 32 := Scalar.select v203 v204 v198
  let c2_i32_134 : BitVec 32 := 2#32
  let v219 : BitVec 32 := Scalar.muli v205 c2_i32_134
  let v220 : BitVec 32 := Scalar.addi v218 v219
  let c1_i32_138 : BitVec 32 := 1#32
  let c2_i32_125 : BitVec 32 := 2#32
  let c0_i32_126 : BitVec 32 := 0#32
  let v206 : BitVec 1 := Scalar.cmpi .eq c2_i32_125 c0_i32_126
  let c1_i32_127 : BitVec 32 := 1#32
  let v207 : BitVec 32 := Scalar.select v206 c1_i32_127 c2_i32_125
  let v208 : BitVec 32 := Scalar.remsi v137 v207
  let c0_i32_129 : BitVec 32 := 0#32
  let v210 : BitVec 1 := Scalar.cmpi .slt v208 c0_i32_129
  let c0_i32_130 : BitVec 32 := 0#32
  let v211 : BitVec 1 := Scalar.cmpi .slt v207 c0_i32_130
  let v212 : BitVec 1 := Scalar.xori v210 v211
  let c0_i32_128 : BitVec 32 := 0#32
  let v209 : BitVec 1 := Scalar.cmpi .ne v208 c0_i32_128
  let v213 : BitVec 1 := Scalar.andi v212 v209
  let v214 : BitVec 32 := Scalar.addi v208 v207
  let v215 : BitVec 32 := Scalar.select v213 v214 v208
  let v225 : BitVec 32 := Scalar.subi c1_i32_138 v215
  let v226 : BitVec 32 := Scalar.addi v220 v225
  let c256_i32_416 : BitVec 32 := 256#32
  let v578 : BitVec 32 := Scalar.muli v226 c256_i32_416
  let v579 : Index := Scalar.indexCast v578
  let c0_417 : Index := 0#32
  ![v579.toNat, 0]
def k0_off11 (d66 : Dev nD) : Fin 2 → Nat :=
  let c4_i32_85 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v138 : BitVec 32 := Scalar.muli c4_i32_85 v132
  let c2_i32_86 : BitVec 32 := 2#32
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v139 : BitVec 32 := Scalar.muli c2_i32_86 v105
  let v140 : BitVec 32 := Scalar.addi v138 v139
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let v133 : BitVec 32 := Scalar.xori v78 v105
  let v141 : BitVec 32 := Scalar.addi v140 v133
  let c0_i32_140 : BitVec 32 := 0#32
  let v228 : BitVec 1 := Scalar.cmpi .sgt v141 c0_i32_140
  let v229 : BitVec 32 := Scalar.extui v228
  let c0_i32_141 : BitVec 32 := 0#32
  let v230 : BitVec 1 := Scalar.cmpi .slt v141 c0_i32_141
  let v231 : BitVec 32 := Scalar.extui v230
  let v232 : BitVec 32 := Scalar.subi v229 v231
  let c4_i32_139 : BitVec 32 := 4#32
  let c0_i32_142 : BitVec 32 := 0#32
  let v233 : BitVec 1 := Scalar.cmpi .sgt c4_i32_139 c0_i32_142
  let v234 : BitVec 32 := Scalar.extui v233
  let c0_i32_143 : BitVec 32 := 0#32
  let v235 : BitVec 1 := Scalar.cmpi .slt c4_i32_139 c0_i32_143
  let v236 : BitVec 32 := Scalar.extui v235
  let v237 : BitVec 32 := Scalar.subi v234 v236
  let v238 : BitVec 1 := Scalar.cmpi .ne v232 v237
  let v239 : BitVec 32 := Scalar.remsi v141 c4_i32_139
  let c0_i32_144 : BitVec 32 := 0#32
  let v240 : BitVec 1 := Scalar.cmpi .ne v239 c0_i32_144
  let v241 : BitVec 1 := Scalar.andi v238 v240
  let v227 : BitVec 32 := Scalar.divsi v141 c4_i32_139
  let c1_i32_145 : BitVec 32 := 1#32
  let v242 : BitVec 32 := Scalar.subi v227 c1_i32_145
  let v243 : BitVec 32 := Scalar.select v241 v242 v227
  let c2_i32_146 : BitVec 32 := 2#32
  let c0_i32_147 : BitVec 32 := 0#32
  let v244 : BitVec 1 := Scalar.cmpi .eq c2_i32_146 c0_i32_147
  let c1_i32_148 : BitVec 32 := 1#32
  let v245 : BitVec 32 := Scalar.select v244 c1_i32_148 c2_i32_146
  let v246 : BitVec 32 := Scalar.remsi v243 v245
  let c0_i32_150 : BitVec 32 := 0#32
  let v248 : BitVec 1 := Scalar.cmpi .slt v246 c0_i32_150
  let c0_i32_151 : BitVec 32 := 0#32
  let v249 : BitVec 1 := Scalar.cmpi .slt v245 c0_i32_151
  let v250 : BitVec 1 := Scalar.xori v248 v249
  let c0_i32_149 : BitVec 32 := 0#32
  let v247 : BitVec 1 := Scalar.cmpi .ne v246 c0_i32_149
  let v251 : BitVec 1 := Scalar.andi v250 v247
  let v252 : BitVec 32 := Scalar.addi v246 v245
  let v253 : BitVec 32 := Scalar.select v251 v252 v246
  let c4_i32_173 : BitVec 32 := 4#32
  let v293 : BitVec 32 := Scalar.muli v253 c4_i32_173
  let c0_i32_153 : BitVec 32 := 0#32
  let v255 : BitVec 1 := Scalar.cmpi .sgt v141 c0_i32_153
  let v256 : BitVec 32 := Scalar.extui v255
  let c0_i32_154 : BitVec 32 := 0#32
  let v257 : BitVec 1 := Scalar.cmpi .slt v141 c0_i32_154
  let v258 : BitVec 32 := Scalar.extui v257
  let v259 : BitVec 32 := Scalar.subi v256 v258
  let c2_i32_152 : BitVec 32 := 2#32
  let c0_i32_155 : BitVec 32 := 0#32
  let v260 : BitVec 1 := Scalar.cmpi .sgt c2_i32_152 c0_i32_155
  let v261 : BitVec 32 := Scalar.extui v260
  let c0_i32_156 : BitVec 32 := 0#32
  let v262 : BitVec 1 := Scalar.cmpi .slt c2_i32_152 c0_i32_156
  let v263 : BitVec 32 := Scalar.extui v262
  let v264 : BitVec 32 := Scalar.subi v261 v263
  let v265 : BitVec 1 := Scalar.cmpi .ne v259 v264
  let v266 : BitVec 32 := Scalar.remsi v141 c2_i32_152
  let c0_i32_157 : BitVec 32 := 0#32
  let v267 : BitVec 1 := Scalar.cmpi .ne v266 c0_i32_157
  let v268 : BitVec 1 := Scalar.andi v265 v267
  let v254 : BitVec 32 := Scalar.divsi v141 c2_i32_152
  let c1_i32_158 : BitVec 32 := 1#32
  let v269 : BitVec 32 := Scalar.subi v254 c1_i32_158
  let v270 : BitVec 32 := Scalar.select v268 v269 v254
  let c2_i32_159 : BitVec 32 := 2#32
  let c0_i32_160 : BitVec 32 := 0#32
  let v271 : BitVec 1 := Scalar.cmpi .eq c2_i32_159 c0_i32_160
  let c1_i32_161 : BitVec 32 := 1#32
  let v272 : BitVec 32 := Scalar.select v271 c1_i32_161 c2_i32_159
  let v273 : BitVec 32 := Scalar.remsi v270 v272
  let c0_i32_163 : BitVec 32 := 0#32
  let v275 : BitVec 1 := Scalar.cmpi .slt v273 c0_i32_163
  let c0_i32_164 : BitVec 32 := 0#32
  let v276 : BitVec 1 := Scalar.cmpi .slt v272 c0_i32_164
  let v277 : BitVec 1 := Scalar.xori v275 v276
  let c0_i32_162 : BitVec 32 := 0#32
  let v274 : BitVec 1 := Scalar.cmpi .ne v273 c0_i32_162
  let v278 : BitVec 1 := Scalar.andi v277 v274
  let v279 : BitVec 32 := Scalar.addi v273 v272
  let v280 : BitVec 32 := Scalar.select v278 v279 v273
  let c2_i32_174 : BitVec 32 := 2#32
  let v294 : BitVec 32 := Scalar.muli v280 c2_i32_174
  let v295 : BitVec 32 := Scalar.addi v293 v294
  let c256_i32_434 : BitVec 32 := 256#32
  let v597 : BitVec 32 := Scalar.muli v295 c256_i32_434
  let v598 : Index := Scalar.indexCast v597
  let c0_435 : Index := 0#32
  ![v598.toNat, 0]
def k0_off12 (d66 : Dev nD) : Fin 2 → Nat :=
  let c4_i32_85 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v138 : BitVec 32 := Scalar.muli c4_i32_85 v132
  let c2_i32_86 : BitVec 32 := 2#32
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v139 : BitVec 32 := Scalar.muli c2_i32_86 v105
  let v140 : BitVec 32 := Scalar.addi v138 v139
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let v133 : BitVec 32 := Scalar.xori v78 v105
  let v141 : BitVec 32 := Scalar.addi v140 v133
  let c0_i32_140 : BitVec 32 := 0#32
  let v228 : BitVec 1 := Scalar.cmpi .sgt v141 c0_i32_140
  let v229 : BitVec 32 := Scalar.extui v228
  let c0_i32_141 : BitVec 32 := 0#32
  let v230 : BitVec 1 := Scalar.cmpi .slt v141 c0_i32_141
  let v231 : BitVec 32 := Scalar.extui v230
  let v232 : BitVec 32 := Scalar.subi v229 v231
  let c4_i32_139 : BitVec 32 := 4#32
  let c0_i32_142 : BitVec 32 := 0#32
  let v233 : BitVec 1 := Scalar.cmpi .sgt c4_i32_139 c0_i32_142
  let v234 : BitVec 32 := Scalar.extui v233
  let c0_i32_143 : BitVec 32 := 0#32
  let v235 : BitVec 1 := Scalar.cmpi .slt c4_i32_139 c0_i32_143
  let v236 : BitVec 32 := Scalar.extui v235
  let v237 : BitVec 32 := Scalar.subi v234 v236
  let v238 : BitVec 1 := Scalar.cmpi .ne v232 v237
  let v239 : BitVec 32 := Scalar.remsi v141 c4_i32_139
  let c0_i32_144 : BitVec 32 := 0#32
  let v240 : BitVec 1 := Scalar.cmpi .ne v239 c0_i32_144
  let v241 : BitVec 1 := Scalar.andi v238 v240
  let v227 : BitVec 32 := Scalar.divsi v141 c4_i32_139
  let c1_i32_145 : BitVec 32 := 1#32
  let v242 : BitVec 32 := Scalar.subi v227 c1_i32_145
  let v243 : BitVec 32 := Scalar.select v241 v242 v227
  let c2_i32_146 : BitVec 32 := 2#32
  let c0_i32_147 : BitVec 32 := 0#32
  let v244 : BitVec 1 := Scalar.cmpi .eq c2_i32_146 c0_i32_147
  let c1_i32_148 : BitVec 32 := 1#32
  let v245 : BitVec 32 := Scalar.select v244 c1_i32_148 c2_i32_146
  let v246 : BitVec 32 := Scalar.remsi v243 v245
  let c0_i32_150 : BitVec 32 := 0#32
  let v248 : BitVec 1 := Scalar.cmpi .slt v246 c0_i32_150
  let c0_i32_151 : BitVec 32 := 0#32
  let v249 : BitVec 1 := Scalar.cmpi .slt v245 c0_i32_151
  let v250 : BitVec 1 := Scalar.xori v248 v249
  let c0_i32_149 : BitVec 32 := 0#32
  let v247 : BitVec 1 := Scalar.cmpi .ne v246 c0_i32_149
  let v251 : BitVec 1 := Scalar.andi v250 v247
  let v252 : BitVec 32 := Scalar.addi v246 v245
  let v253 : BitVec 32 := Scalar.select v251 v252 v246
  let c4_i32_173 : BitVec 32 := 4#32
  let v293 : BitVec 32 := Scalar.muli v253 c4_i32_173
  let c0_i32_153 : BitVec 32 := 0#32
  let v255 : BitVec 1 := Scalar.cmpi .sgt v141 c0_i32_153
  let v256 : BitVec 32 := Scalar.extui v255
  let c0_i32_154 : BitVec 32 := 0#32
  let v257 : BitVec 1 := Scalar.cmpi .slt v141 c0_i32_154
  let v258 : BitVec 32 := Scalar.extui v257
  let v259 : BitVec 32 := Scalar.subi v256 v258
  let c2_i32_152 : BitVec 32 := 2#32
  let c0_i32_155 : BitVec 32 := 0#32
  let v260 : BitVec 1 := Scalar.cmpi .sgt c2_i32_152 c0_i32_155
  let v261 : BitVec 32 := Scalar.extui v260
  let c0_i32_156 : BitVec 32 := 0#32
  let v262 : BitVec 1 := Scalar.cmpi .slt c2_i32_152 c0_i32_156
  let v263 : BitVec 32 := Scalar.extui v262
  let v264 : BitVec 32 := Scalar.subi v261 v263
  let v265 : BitVec 1 := Scalar.cmpi .ne v259 v264
  let v266 : BitVec 32 := Scalar.remsi v141 c2_i32_152
  let c0_i32_157 : BitVec 32 := 0#32
  let v267 : BitVec 1 := Scalar.cmpi .ne v266 c0_i32_157
  let v268 : BitVec 1 := Scalar.andi v265 v267
  let v254 : BitVec 32 := Scalar.divsi v141 c2_i32_152
  let c1_i32_158 : BitVec 32 := 1#32
  let v269 : BitVec 32 := Scalar.subi v254 c1_i32_158
  let v270 : BitVec 32 := Scalar.select v268 v269 v254
  let c2_i32_159 : BitVec 32 := 2#32
  let c0_i32_160 : BitVec 32 := 0#32
  let v271 : BitVec 1 := Scalar.cmpi .eq c2_i32_159 c0_i32_160
  let c1_i32_161 : BitVec 32 := 1#32
  let v272 : BitVec 32 := Scalar.select v271 c1_i32_161 c2_i32_159
  let v273 : BitVec 32 := Scalar.remsi v270 v272
  let c0_i32_163 : BitVec 32 := 0#32
  let v275 : BitVec 1 := Scalar.cmpi .slt v273 c0_i32_163
  let c0_i32_164 : BitVec 32 := 0#32
  let v276 : BitVec 1 := Scalar.cmpi .slt v272 c0_i32_164
  let v277 : BitVec 1 := Scalar.xori v275 v276
  let c0_i32_162 : BitVec 32 := 0#32
  let v274 : BitVec 1 := Scalar.cmpi .ne v273 c0_i32_162
  let v278 : BitVec 1 := Scalar.andi v277 v274
  let v279 : BitVec 32 := Scalar.addi v273 v272
  let v280 : BitVec 32 := Scalar.select v278 v279 v273
  let c2_i32_174 : BitVec 32 := 2#32
  let v294 : BitVec 32 := Scalar.muli v280 c2_i32_174
  let v295 : BitVec 32 := Scalar.addi v293 v294
  let c1_i32_178 : BitVec 32 := 1#32
  let c2_i32_165 : BitVec 32 := 2#32
  let c0_i32_166 : BitVec 32 := 0#32
  let v281 : BitVec 1 := Scalar.cmpi .eq c2_i32_165 c0_i32_166
  let c1_i32_167 : BitVec 32 := 1#32
  let v282 : BitVec 32 := Scalar.select v281 c1_i32_167 c2_i32_165
  let v283 : BitVec 32 := Scalar.remsi v141 v282
  let c0_i32_169 : BitVec 32 := 0#32
  let v285 : BitVec 1 := Scalar.cmpi .slt v283 c0_i32_169
  let c0_i32_170 : BitVec 32 := 0#32
  let v286 : BitVec 1 := Scalar.cmpi .slt v282 c0_i32_170
  let v287 : BitVec 1 := Scalar.xori v285 v286
  let c0_i32_168 : BitVec 32 := 0#32
  let v284 : BitVec 1 := Scalar.cmpi .ne v283 c0_i32_168
  let v288 : BitVec 1 := Scalar.andi v287 v284
  let v289 : BitVec 32 := Scalar.addi v283 v282
  let v290 : BitVec 32 := Scalar.select v288 v289 v283
  let v300 : BitVec 32 := Scalar.subi c1_i32_178 v290
  let v301 : BitVec 32 := Scalar.addi v295 v300
  let c256_i32_452 : BitVec 32 := 256#32
  let v616 : BitVec 32 := Scalar.muli v301 c256_i32_452
  let v617 : Index := Scalar.indexCast v616
  let c0_453 : Index := 0#32
  ![v617.toNat, 0]
def k0_off13 (d66 : Dev nD) : Fin 2 → Nat :=
  let c4_i32_83 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v133 : BitVec 32 := Scalar.xori v78 v105
  let v134 : BitVec 32 := Scalar.muli c4_i32_83 v133
  let c2_i32_84 : BitVec 32 := 2#32
  let v135 : BitVec 32 := Scalar.muli c2_i32_84 v105
  let v136 : BitVec 32 := Scalar.addi v134 v135
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v137 : BitVec 32 := Scalar.addi v136 v132
  let c0_i32_100 : BitVec 32 := 0#32
  let v153 : BitVec 1 := Scalar.cmpi .sgt v137 c0_i32_100
  let v154 : BitVec 32 := Scalar.extui v153
  let c0_i32_101 : BitVec 32 := 0#32
  let v155 : BitVec 1 := Scalar.cmpi .slt v137 c0_i32_101
  let v156 : BitVec 32 := Scalar.extui v155
  let v157 : BitVec 32 := Scalar.subi v154 v156
  let c4_i32_99 : BitVec 32 := 4#32
  let c0_i32_102 : BitVec 32 := 0#32
  let v158 : BitVec 1 := Scalar.cmpi .sgt c4_i32_99 c0_i32_102
  let v159 : BitVec 32 := Scalar.extui v158
  let c0_i32_103 : BitVec 32 := 0#32
  let v160 : BitVec 1 := Scalar.cmpi .slt c4_i32_99 c0_i32_103
  let v161 : BitVec 32 := Scalar.extui v160
  let v162 : BitVec 32 := Scalar.subi v159 v161
  let v163 : BitVec 1 := Scalar.cmpi .ne v157 v162
  let v164 : BitVec 32 := Scalar.remsi v137 c4_i32_99
  let c0_i32_104 : BitVec 32 := 0#32
  let v165 : BitVec 1 := Scalar.cmpi .ne v164 c0_i32_104
  let v166 : BitVec 1 := Scalar.andi v163 v165
  let v152 : BitVec 32 := Scalar.divsi v137 c4_i32_99
  let c1_i32_105 : BitVec 32 := 1#32
  let v167 : BitVec 32 := Scalar.subi v152 c1_i32_105
  let v168 : BitVec 32 := Scalar.select v166 v167 v152
  let c2_i32_106 : BitVec 32 := 2#32
  let c0_i32_107 : BitVec 32 := 0#32
  let v169 : BitVec 1 := Scalar.cmpi .eq c2_i32_106 c0_i32_107
  let c1_i32_108 : BitVec 32 := 1#32
  let v170 : BitVec 32 := Scalar.select v169 c1_i32_108 c2_i32_106
  let v171 : BitVec 32 := Scalar.remsi v168 v170
  let c0_i32_110 : BitVec 32 := 0#32
  let v173 : BitVec 1 := Scalar.cmpi .slt v171 c0_i32_110
  let c0_i32_111 : BitVec 32 := 0#32
  let v174 : BitVec 1 := Scalar.cmpi .slt v170 c0_i32_111
  let v175 : BitVec 1 := Scalar.xori v173 v174
  let c0_i32_109 : BitVec 32 := 0#32
  let v172 : BitVec 1 := Scalar.cmpi .ne v171 c0_i32_109
  let v176 : BitVec 1 := Scalar.andi v175 v172
  let v177 : BitVec 32 := Scalar.addi v171 v170
  let v178 : BitVec 32 := Scalar.select v176 v177 v171
  let c4_i32_133 : BitVec 32 := 4#32
  let v218 : BitVec 32 := Scalar.muli v178 c4_i32_133
  let c0_i32_113 : BitVec 32 := 0#32
  let v180 : BitVec 1 := Scalar.cmpi .sgt v137 c0_i32_113
  let v181 : BitVec 32 := Scalar.extui v180
  let c0_i32_114 : BitVec 32 := 0#32
  let v182 : BitVec 1 := Scalar.cmpi .slt v137 c0_i32_114
  let v183 : BitVec 32 := Scalar.extui v182
  let v184 : BitVec 32 := Scalar.subi v181 v183
  let c2_i32_112 : BitVec 32 := 2#32
  let c0_i32_115 : BitVec 32 := 0#32
  let v185 : BitVec 1 := Scalar.cmpi .sgt c2_i32_112 c0_i32_115
  let v186 : BitVec 32 := Scalar.extui v185
  let c0_i32_116 : BitVec 32 := 0#32
  let v187 : BitVec 1 := Scalar.cmpi .slt c2_i32_112 c0_i32_116
  let v188 : BitVec 32 := Scalar.extui v187
  let v189 : BitVec 32 := Scalar.subi v186 v188
  let v190 : BitVec 1 := Scalar.cmpi .ne v184 v189
  let v191 : BitVec 32 := Scalar.remsi v137 c2_i32_112
  let c0_i32_117 : BitVec 32 := 0#32
  let v192 : BitVec 1 := Scalar.cmpi .ne v191 c0_i32_117
  let v193 : BitVec 1 := Scalar.andi v190 v192
  let v179 : BitVec 32 := Scalar.divsi v137 c2_i32_112
  let c1_i32_118 : BitVec 32 := 1#32
  let v194 : BitVec 32 := Scalar.subi v179 c1_i32_118
  let v195 : BitVec 32 := Scalar.select v193 v194 v179
  let c2_i32_119 : BitVec 32 := 2#32
  let c0_i32_120 : BitVec 32 := 0#32
  let v196 : BitVec 1 := Scalar.cmpi .eq c2_i32_119 c0_i32_120
  let c1_i32_121 : BitVec 32 := 1#32
  let v197 : BitVec 32 := Scalar.select v196 c1_i32_121 c2_i32_119
  let v198 : BitVec 32 := Scalar.remsi v195 v197
  let c0_i32_123 : BitVec 32 := 0#32
  let v200 : BitVec 1 := Scalar.cmpi .slt v198 c0_i32_123
  let c0_i32_124 : BitVec 32 := 0#32
  let v201 : BitVec 1 := Scalar.cmpi .slt v197 c0_i32_124
  let v202 : BitVec 1 := Scalar.xori v200 v201
  let c0_i32_122 : BitVec 32 := 0#32
  let v199 : BitVec 1 := Scalar.cmpi .ne v198 c0_i32_122
  let v203 : BitVec 1 := Scalar.andi v202 v199
  let v204 : BitVec 32 := Scalar.addi v198 v197
  let v205 : BitVec 32 := Scalar.select v203 v204 v198
  let c2_i32_134 : BitVec 32 := 2#32
  let v219 : BitVec 32 := Scalar.muli v205 c2_i32_134
  let v220 : BitVec 32 := Scalar.addi v218 v219
  let c1_i32_138 : BitVec 32 := 1#32
  let c2_i32_125 : BitVec 32 := 2#32
  let c0_i32_126 : BitVec 32 := 0#32
  let v206 : BitVec 1 := Scalar.cmpi .eq c2_i32_125 c0_i32_126
  let c1_i32_127 : BitVec 32 := 1#32
  let v207 : BitVec 32 := Scalar.select v206 c1_i32_127 c2_i32_125
  let v208 : BitVec 32 := Scalar.remsi v137 v207
  let c0_i32_129 : BitVec 32 := 0#32
  let v210 : BitVec 1 := Scalar.cmpi .slt v208 c0_i32_129
  let c0_i32_130 : BitVec 32 := 0#32
  let v211 : BitVec 1 := Scalar.cmpi .slt v207 c0_i32_130
  let v212 : BitVec 1 := Scalar.xori v210 v211
  let c0_i32_128 : BitVec 32 := 0#32
  let v209 : BitVec 1 := Scalar.cmpi .ne v208 c0_i32_128
  let v213 : BitVec 1 := Scalar.andi v212 v209
  let v214 : BitVec 32 := Scalar.addi v208 v207
  let v215 : BitVec 32 := Scalar.select v213 v214 v208
  let v225 : BitVec 32 := Scalar.subi c1_i32_138 v215
  let v226 : BitVec 32 := Scalar.addi v220 v225
  let c256_i32_457 : BitVec 32 := 256#32
  let v625 : BitVec 32 := Scalar.muli v226 c256_i32_457
  let c0_i32_465 : BitVec 32 := 0#32
  ![v625.toNat, 0]
def k0_dev10 (d66 : Dev nD) : Nat :=
  let c0_i32_462 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c4_i32_458 : BitVec 32 := 4#32
  let v626 : BitVec 32 := Scalar.xori v68 c4_i32_458
  let c1_i32_461 : BitVec 32 := 1#32
  let v627 : BitVec 32 := Scalar.muli v626 c1_i32_461
  let v628 : BitVec 32 := Scalar.addi c0_i32_462 v627
  v628.toNat
def k0_off14 (d66 : Dev nD) : Fin 2 → Nat :=
  let c4_i32_83 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v133 : BitVec 32 := Scalar.xori v78 v105
  let v134 : BitVec 32 := Scalar.muli c4_i32_83 v133
  let c2_i32_84 : BitVec 32 := 2#32
  let v135 : BitVec 32 := Scalar.muli c2_i32_84 v105
  let v136 : BitVec 32 := Scalar.addi v134 v135
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v137 : BitVec 32 := Scalar.addi v136 v132
  let c0_i32_100 : BitVec 32 := 0#32
  let v153 : BitVec 1 := Scalar.cmpi .sgt v137 c0_i32_100
  let v154 : BitVec 32 := Scalar.extui v153
  let c0_i32_101 : BitVec 32 := 0#32
  let v155 : BitVec 1 := Scalar.cmpi .slt v137 c0_i32_101
  let v156 : BitVec 32 := Scalar.extui v155
  let v157 : BitVec 32 := Scalar.subi v154 v156
  let c4_i32_99 : BitVec 32 := 4#32
  let c0_i32_102 : BitVec 32 := 0#32
  let v158 : BitVec 1 := Scalar.cmpi .sgt c4_i32_99 c0_i32_102
  let v159 : BitVec 32 := Scalar.extui v158
  let c0_i32_103 : BitVec 32 := 0#32
  let v160 : BitVec 1 := Scalar.cmpi .slt c4_i32_99 c0_i32_103
  let v161 : BitVec 32 := Scalar.extui v160
  let v162 : BitVec 32 := Scalar.subi v159 v161
  let v163 : BitVec 1 := Scalar.cmpi .ne v157 v162
  let v164 : BitVec 32 := Scalar.remsi v137 c4_i32_99
  let c0_i32_104 : BitVec 32 := 0#32
  let v165 : BitVec 1 := Scalar.cmpi .ne v164 c0_i32_104
  let v166 : BitVec 1 := Scalar.andi v163 v165
  let v152 : BitVec 32 := Scalar.divsi v137 c4_i32_99
  let c1_i32_105 : BitVec 32 := 1#32
  let v167 : BitVec 32 := Scalar.subi v152 c1_i32_105
  let v168 : BitVec 32 := Scalar.select v166 v167 v152
  let c2_i32_106 : BitVec 32 := 2#32
  let c0_i32_107 : BitVec 32 := 0#32
  let v169 : BitVec 1 := Scalar.cmpi .eq c2_i32_106 c0_i32_107
  let c1_i32_108 : BitVec 32 := 1#32
  let v170 : BitVec 32 := Scalar.select v169 c1_i32_108 c2_i32_106
  let v171 : BitVec 32 := Scalar.remsi v168 v170
  let c0_i32_110 : BitVec 32 := 0#32
  let v173 : BitVec 1 := Scalar.cmpi .slt v171 c0_i32_110
  let c0_i32_111 : BitVec 32 := 0#32
  let v174 : BitVec 1 := Scalar.cmpi .slt v170 c0_i32_111
  let v175 : BitVec 1 := Scalar.xori v173 v174
  let c0_i32_109 : BitVec 32 := 0#32
  let v172 : BitVec 1 := Scalar.cmpi .ne v171 c0_i32_109
  let v176 : BitVec 1 := Scalar.andi v175 v172
  let v177 : BitVec 32 := Scalar.addi v171 v170
  let v178 : BitVec 32 := Scalar.select v176 v177 v171
  let c4_i32_135 : BitVec 32 := 4#32
  let v221 : BitVec 32 := Scalar.muli v178 c4_i32_135
  let c1_i32_136 : BitVec 32 := 1#32
  let c0_i32_113 : BitVec 32 := 0#32
  let v180 : BitVec 1 := Scalar.cmpi .sgt v137 c0_i32_113
  let v181 : BitVec 32 := Scalar.extui v180
  let c0_i32_114 : BitVec 32 := 0#32
  let v182 : BitVec 1 := Scalar.cmpi .slt v137 c0_i32_114
  let v183 : BitVec 32 := Scalar.extui v182
  let v184 : BitVec 32 := Scalar.subi v181 v183
  let c2_i32_112 : BitVec 32 := 2#32
  let c0_i32_115 : BitVec 32 := 0#32
  let v185 : BitVec 1 := Scalar.cmpi .sgt c2_i32_112 c0_i32_115
  let v186 : BitVec 32 := Scalar.extui v185
  let c0_i32_116 : BitVec 32 := 0#32
  let v187 : BitVec 1 := Scalar.cmpi .slt c2_i32_112 c0_i32_116
  let v188 : BitVec 32 := Scalar.extui v187
  let v189 : BitVec 32 := Scalar.subi v186 v188
  let v190 : BitVec 1 := Scalar.cmpi .ne v184 v189
  let v191 : BitVec 32 := Scalar.remsi v137 c2_i32_112
  let c0_i32_117 : BitVec 32 := 0#32
  let v192 : BitVec 1 := Scalar.cmpi .ne v191 c0_i32_117
  let v193 : BitVec 1 := Scalar.andi v190 v192
  let v179 : BitVec 32 := Scalar.divsi v137 c2_i32_112
  let c1_i32_118 : BitVec 32 := 1#32
  let v194 : BitVec 32 := Scalar.subi v179 c1_i32_118
  let v195 : BitVec 32 := Scalar.select v193 v194 v179
  let c2_i32_119 : BitVec 32 := 2#32
  let c0_i32_120 : BitVec 32 := 0#32
  let v196 : BitVec 1 := Scalar.cmpi .eq c2_i32_119 c0_i32_120
  let c1_i32_121 : BitVec 32 := 1#32
  let v197 : BitVec 32 := Scalar.select v196 c1_i32_121 c2_i32_119
  let v198 : BitVec 32 := Scalar.remsi v195 v197
  let c0_i32_123 : BitVec 32 := 0#32
  let v200 : BitVec 1 := Scalar.cmpi .slt v198 c0_i32_123
  let c0_i32_124 : BitVec 32 := 0#32
  let v201 : BitVec 1 := Scalar.cmpi .slt v197 c0_i32_124
  let v202 : BitVec 1 := Scalar.xori v200 v201
  let c0_i32_122 : BitVec 32 := 0#32
  let v199 : BitVec 1 := Scalar.cmpi .ne v198 c0_i32_122
  let v203 : BitVec 1 := Scalar.andi v202 v199
  let v204 : BitVec 32 := Scalar.addi v198 v197
  let v205 : BitVec 32 := Scalar.select v203 v204 v198
  let v222 : BitVec 32 := Scalar.subi c1_i32_136 v205
  let c2_i32_137 : BitVec 32 := 2#32
  let v223 : BitVec 32 := Scalar.muli v222 c2_i32_137
  let v224 : BitVec 32 := Scalar.addi v221 v223
  let c2_i32_125 : BitVec 32 := 2#32
  let c0_i32_126 : BitVec 32 := 0#32
  let v206 : BitVec 1 := Scalar.cmpi .eq c2_i32_125 c0_i32_126
  let c1_i32_127 : BitVec 32 := 1#32
  let v207 : BitVec 32 := Scalar.select v206 c1_i32_127 c2_i32_125
  let v208 : BitVec 32 := Scalar.remsi v137 v207
  let c0_i32_129 : BitVec 32 := 0#32
  let v210 : BitVec 1 := Scalar.cmpi .slt v208 c0_i32_129
  let c0_i32_130 : BitVec 32 := 0#32
  let v211 : BitVec 1 := Scalar.cmpi .slt v207 c0_i32_130
  let v212 : BitVec 1 := Scalar.xori v210 v211
  let c0_i32_128 : BitVec 32 := 0#32
  let v209 : BitVec 1 := Scalar.cmpi .ne v208 c0_i32_128
  let v213 : BitVec 1 := Scalar.andi v212 v209
  let v214 : BitVec 32 := Scalar.addi v208 v207
  let v215 : BitVec 32 := Scalar.select v213 v214 v208
  let v635 : BitVec 32 := Scalar.addi v224 v215
  let c256_i32_466 : BitVec 32 := 256#32
  let v636 : BitVec 32 := Scalar.muli v635 c256_i32_466
  let c0_i32_474 : BitVec 32 := 0#32
  ![v636.toNat, 0]
def k0_dev11 (d66 : Dev nD) : Nat :=
  let c0_i32_471 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c3_i32_467 : BitVec 32 := 3#32
  let v637 : BitVec 32 := Scalar.xori v68 c3_i32_467
  let c1_i32_470 : BitVec 32 := 1#32
  let v638 : BitVec 32 := Scalar.muli v637 c1_i32_470
  let v639 : BitVec 32 := Scalar.addi c0_i32_471 v638
  v639.toNat
def k0_off15 (d66 : Dev nD) : Fin 2 → Nat :=
  let c4_i32_85 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v138 : BitVec 32 := Scalar.muli c4_i32_85 v132
  let c2_i32_86 : BitVec 32 := 2#32
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v139 : BitVec 32 := Scalar.muli c2_i32_86 v105
  let v140 : BitVec 32 := Scalar.addi v138 v139
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let v133 : BitVec 32 := Scalar.xori v78 v105
  let v141 : BitVec 32 := Scalar.addi v140 v133
  let c0_i32_140 : BitVec 32 := 0#32
  let v228 : BitVec 1 := Scalar.cmpi .sgt v141 c0_i32_140
  let v229 : BitVec 32 := Scalar.extui v228
  let c0_i32_141 : BitVec 32 := 0#32
  let v230 : BitVec 1 := Scalar.cmpi .slt v141 c0_i32_141
  let v231 : BitVec 32 := Scalar.extui v230
  let v232 : BitVec 32 := Scalar.subi v229 v231
  let c4_i32_139 : BitVec 32 := 4#32
  let c0_i32_142 : BitVec 32 := 0#32
  let v233 : BitVec 1 := Scalar.cmpi .sgt c4_i32_139 c0_i32_142
  let v234 : BitVec 32 := Scalar.extui v233
  let c0_i32_143 : BitVec 32 := 0#32
  let v235 : BitVec 1 := Scalar.cmpi .slt c4_i32_139 c0_i32_143
  let v236 : BitVec 32 := Scalar.extui v235
  let v237 : BitVec 32 := Scalar.subi v234 v236
  let v238 : BitVec 1 := Scalar.cmpi .ne v232 v237
  let v239 : BitVec 32 := Scalar.remsi v141 c4_i32_139
  let c0_i32_144 : BitVec 32 := 0#32
  let v240 : BitVec 1 := Scalar.cmpi .ne v239 c0_i32_144
  let v241 : BitVec 1 := Scalar.andi v238 v240
  let v227 : BitVec 32 := Scalar.divsi v141 c4_i32_139
  let c1_i32_145 : BitVec 32 := 1#32
  let v242 : BitVec 32 := Scalar.subi v227 c1_i32_145
  let v243 : BitVec 32 := Scalar.select v241 v242 v227
  let c2_i32_146 : BitVec 32 := 2#32
  let c0_i32_147 : BitVec 32 := 0#32
  let v244 : BitVec 1 := Scalar.cmpi .eq c2_i32_146 c0_i32_147
  let c1_i32_148 : BitVec 32 := 1#32
  let v245 : BitVec 32 := Scalar.select v244 c1_i32_148 c2_i32_146
  let v246 : BitVec 32 := Scalar.remsi v243 v245
  let c0_i32_150 : BitVec 32 := 0#32
  let v248 : BitVec 1 := Scalar.cmpi .slt v246 c0_i32_150
  let c0_i32_151 : BitVec 32 := 0#32
  let v249 : BitVec 1 := Scalar.cmpi .slt v245 c0_i32_151
  let v250 : BitVec 1 := Scalar.xori v248 v249
  let c0_i32_149 : BitVec 32 := 0#32
  let v247 : BitVec 1 := Scalar.cmpi .ne v246 c0_i32_149
  let v251 : BitVec 1 := Scalar.andi v250 v247
  let v252 : BitVec 32 := Scalar.addi v246 v245
  let v253 : BitVec 32 := Scalar.select v251 v252 v246
  let c4_i32_173 : BitVec 32 := 4#32
  let v293 : BitVec 32 := Scalar.muli v253 c4_i32_173
  let c0_i32_153 : BitVec 32 := 0#32
  let v255 : BitVec 1 := Scalar.cmpi .sgt v141 c0_i32_153
  let v256 : BitVec 32 := Scalar.extui v255
  let c0_i32_154 : BitVec 32 := 0#32
  let v257 : BitVec 1 := Scalar.cmpi .slt v141 c0_i32_154
  let v258 : BitVec 32 := Scalar.extui v257
  let v259 : BitVec 32 := Scalar.subi v256 v258
  let c2_i32_152 : BitVec 32 := 2#32
  let c0_i32_155 : BitVec 32 := 0#32
  let v260 : BitVec 1 := Scalar.cmpi .sgt c2_i32_152 c0_i32_155
  let v261 : BitVec 32 := Scalar.extui v260
  let c0_i32_156 : BitVec 32 := 0#32
  let v262 : BitVec 1 := Scalar.cmpi .slt c2_i32_152 c0_i32_156
  let v263 : BitVec 32 := Scalar.extui v262
  let v264 : BitVec 32 := Scalar.subi v261 v263
  let v265 : BitVec 1 := Scalar.cmpi .ne v259 v264
  let v266 : BitVec 32 := Scalar.remsi v141 c2_i32_152
  let c0_i32_157 : BitVec 32 := 0#32
  let v267 : BitVec 1 := Scalar.cmpi .ne v266 c0_i32_157
  let v268 : BitVec 1 := Scalar.andi v265 v267
  let v254 : BitVec 32 := Scalar.divsi v141 c2_i32_152
  let c1_i32_158 : BitVec 32 := 1#32
  let v269 : BitVec 32 := Scalar.subi v254 c1_i32_158
  let v270 : BitVec 32 := Scalar.select v268 v269 v254
  let c2_i32_159 : BitVec 32 := 2#32
  let c0_i32_160 : BitVec 32 := 0#32
  let v271 : BitVec 1 := Scalar.cmpi .eq c2_i32_159 c0_i32_160
  let c1_i32_161 : BitVec 32 := 1#32
  let v272 : BitVec 32 := Scalar.select v271 c1_i32_161 c2_i32_159
  let v273 : BitVec 32 := Scalar.remsi v270 v272
  let c0_i32_163 : BitVec 32 := 0#32
  let v275 : BitVec 1 := Scalar.cmpi .slt v273 c0_i32_163
  let c0_i32_164 : BitVec 32 := 0#32
  let v276 : BitVec 1 := Scalar.cmpi .slt v272 c0_i32_164
  let v277 : BitVec 1 := Scalar.xori v275 v276
  let c0_i32_162 : BitVec 32 := 0#32
  let v274 : BitVec 1 := Scalar.cmpi .ne v273 c0_i32_162
  let v278 : BitVec 1 := Scalar.andi v277 v274
  let v279 : BitVec 32 := Scalar.addi v273 v272
  let v280 : BitVec 32 := Scalar.select v278 v279 v273
  let c2_i32_174 : BitVec 32 := 2#32
  let v294 : BitVec 32 := Scalar.muli v280 c2_i32_174
  let v295 : BitVec 32 := Scalar.addi v293 v294
  let c1_i32_178 : BitVec 32 := 1#32
  let c2_i32_165 : BitVec 32 := 2#32
  let c0_i32_166 : BitVec 32 := 0#32
  let v281 : BitVec 1 := Scalar.cmpi .eq c2_i32_165 c0_i32_166
  let c1_i32_167 : BitVec 32 := 1#32
  let v282 : BitVec 32 := Scalar.select v281 c1_i32_167 c2_i32_165
  let v283 : BitVec 32 := Scalar.remsi v141 v282
  let c0_i32_169 : BitVec 32 := 0#32
  let v285 : BitVec 1 := Scalar.cmpi .slt v283 c0_i32_169
  let c0_i32_170 : BitVec 32 := 0#32
  let v286 : BitVec 1 := Scalar.cmpi .slt v282 c0_i32_170
  let v287 : BitVec 1 := Scalar.xori v285 v286
  let c0_i32_168 : BitVec 32 := 0#32
  let v284 : BitVec 1 := Scalar.cmpi .ne v283 c0_i32_168
  let v288 : BitVec 1 := Scalar.andi v287 v284
  let v289 : BitVec 32 := Scalar.addi v283 v282
  let v290 : BitVec 32 := Scalar.select v288 v289 v283
  let v300 : BitVec 32 := Scalar.subi c1_i32_178 v290
  let v301 : BitVec 32 := Scalar.addi v295 v300
  let c256_i32_475 : BitVec 32 := 256#32
  let v646 : BitVec 32 := Scalar.muli v301 c256_i32_475
  let c0_i32_483 : BitVec 32 := 0#32
  ![v646.toNat, 0]
def k0_dev12 (d66 : Dev nD) : Nat :=
  let c0_i32_480 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c1_i32_476 : BitVec 32 := 1#32
  let v647 : BitVec 32 := Scalar.xori v68 c1_i32_476
  let c1_i32_479 : BitVec 32 := 1#32
  let v648 : BitVec 32 := Scalar.muli v647 c1_i32_479
  let v649 : BitVec 32 := Scalar.addi c0_i32_480 v648
  v649.toNat
def k0_off16 (d66 : Dev nD) : Fin 2 → Nat :=
  let c4_i32_85 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v138 : BitVec 32 := Scalar.muli c4_i32_85 v132
  let c2_i32_86 : BitVec 32 := 2#32
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v139 : BitVec 32 := Scalar.muli c2_i32_86 v105
  let v140 : BitVec 32 := Scalar.addi v138 v139
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let v133 : BitVec 32 := Scalar.xori v78 v105
  let v141 : BitVec 32 := Scalar.addi v140 v133
  let c0_i32_140 : BitVec 32 := 0#32
  let v228 : BitVec 1 := Scalar.cmpi .sgt v141 c0_i32_140
  let v229 : BitVec 32 := Scalar.extui v228
  let c0_i32_141 : BitVec 32 := 0#32
  let v230 : BitVec 1 := Scalar.cmpi .slt v141 c0_i32_141
  let v231 : BitVec 32 := Scalar.extui v230
  let v232 : BitVec 32 := Scalar.subi v229 v231
  let c4_i32_139 : BitVec 32 := 4#32
  let c0_i32_142 : BitVec 32 := 0#32
  let v233 : BitVec 1 := Scalar.cmpi .sgt c4_i32_139 c0_i32_142
  let v234 : BitVec 32 := Scalar.extui v233
  let c0_i32_143 : BitVec 32 := 0#32
  let v235 : BitVec 1 := Scalar.cmpi .slt c4_i32_139 c0_i32_143
  let v236 : BitVec 32 := Scalar.extui v235
  let v237 : BitVec 32 := Scalar.subi v234 v236
  let v238 : BitVec 1 := Scalar.cmpi .ne v232 v237
  let v239 : BitVec 32 := Scalar.remsi v141 c4_i32_139
  let c0_i32_144 : BitVec 32 := 0#32
  let v240 : BitVec 1 := Scalar.cmpi .ne v239 c0_i32_144
  let v241 : BitVec 1 := Scalar.andi v238 v240
  let v227 : BitVec 32 := Scalar.divsi v141 c4_i32_139
  let c1_i32_145 : BitVec 32 := 1#32
  let v242 : BitVec 32 := Scalar.subi v227 c1_i32_145
  let v243 : BitVec 32 := Scalar.select v241 v242 v227
  let c2_i32_146 : BitVec 32 := 2#32
  let c0_i32_147 : BitVec 32 := 0#32
  let v244 : BitVec 1 := Scalar.cmpi .eq c2_i32_146 c0_i32_147
  let c1_i32_148 : BitVec 32 := 1#32
  let v245 : BitVec 32 := Scalar.select v244 c1_i32_148 c2_i32_146
  let v246 : BitVec 32 := Scalar.remsi v243 v245
  let c0_i32_150 : BitVec 32 := 0#32
  let v248 : BitVec 1 := Scalar.cmpi .slt v246 c0_i32_150
  let c0_i32_151 : BitVec 32 := 0#32
  let v249 : BitVec 1 := Scalar.cmpi .slt v245 c0_i32_151
  let v250 : BitVec 1 := Scalar.xori v248 v249
  let c0_i32_149 : BitVec 32 := 0#32
  let v247 : BitVec 1 := Scalar.cmpi .ne v246 c0_i32_149
  let v251 : BitVec 1 := Scalar.andi v250 v247
  let v252 : BitVec 32 := Scalar.addi v246 v245
  let v253 : BitVec 32 := Scalar.select v251 v252 v246
  let c4_i32_175 : BitVec 32 := 4#32
  let v296 : BitVec 32 := Scalar.muli v253 c4_i32_175
  let c1_i32_176 : BitVec 32 := 1#32
  let c0_i32_153 : BitVec 32 := 0#32
  let v255 : BitVec 1 := Scalar.cmpi .sgt v141 c0_i32_153
  let v256 : BitVec 32 := Scalar.extui v255
  let c0_i32_154 : BitVec 32 := 0#32
  let v257 : BitVec 1 := Scalar.cmpi .slt v141 c0_i32_154
  let v258 : BitVec 32 := Scalar.extui v257
  let v259 : BitVec 32 := Scalar.subi v256 v258
  let c2_i32_152 : BitVec 32 := 2#32
  let c0_i32_155 : BitVec 32 := 0#32
  let v260 : BitVec 1 := Scalar.cmpi .sgt c2_i32_152 c0_i32_155
  let v261 : BitVec 32 := Scalar.extui v260
  let c0_i32_156 : BitVec 32 := 0#32
  let v262 : BitVec 1 := Scalar.cmpi .slt c2_i32_152 c0_i32_156
  let v263 : BitVec 32 := Scalar.extui v262
  let v264 : BitVec 32 := Scalar.subi v261 v263
  let v265 : BitVec 1 := Scalar.cmpi .ne v259 v264
  let v266 : BitVec 32 := Scalar.remsi v141 c2_i32_152
  let c0_i32_157 : BitVec 32 := 0#32
  let v267 : BitVec 1 := Scalar.cmpi .ne v266 c0_i32_157
  let v268 : BitVec 1 := Scalar.andi v265 v267
  let v254 : BitVec 32 := Scalar.divsi v141 c2_i32_152
  let c1_i32_158 : BitVec 32 := 1#32
  let v269 : BitVec 32 := Scalar.subi v254 c1_i32_158
  let v270 : BitVec 32 := Scalar.select v268 v269 v254
  let c2_i32_159 : BitVec 32 := 2#32
  let c0_i32_160 : BitVec 32 := 0#32
  let v271 : BitVec 1 := Scalar.cmpi .eq c2_i32_159 c0_i32_160
  let c1_i32_161 : BitVec 32 := 1#32
  let v272 : BitVec 32 := Scalar.select v271 c1_i32_161 c2_i32_159
  let v273 : BitVec 32 := Scalar.remsi v270 v272
  let c0_i32_163 : BitVec 32 := 0#32
  let v275 : BitVec 1 := Scalar.cmpi .slt v273 c0_i32_163
  let c0_i32_164 : BitVec 32 := 0#32
  let v276 : BitVec 1 := Scalar.cmpi .slt v272 c0_i32_164
  let v277 : BitVec 1 := Scalar.xori v275 v276
  let c0_i32_162 : BitVec 32 := 0#32
  let v274 : BitVec 1 := Scalar.cmpi .ne v273 c0_i32_162
  let v278 : BitVec 1 := Scalar.andi v277 v274
  let v279 : BitVec 32 := Scalar.addi v273 v272
  let v280 : BitVec 32 := Scalar.select v278 v279 v273
  let v297 : BitVec 32 := Scalar.subi c1_i32_176 v280
  let c2_i32_177 : BitVec 32 := 2#32
  let v298 : BitVec 32 := Scalar.muli v297 c2_i32_177
  let v299 : BitVec 32 := Scalar.addi v296 v298
  let c2_i32_165 : BitVec 32 := 2#32
  let c0_i32_166 : BitVec 32 := 0#32
  let v281 : BitVec 1 := Scalar.cmpi .eq c2_i32_165 c0_i32_166
  let c1_i32_167 : BitVec 32 := 1#32
  let v282 : BitVec 32 := Scalar.select v281 c1_i32_167 c2_i32_165
  let v283 : BitVec 32 := Scalar.remsi v141 v282
  let c0_i32_169 : BitVec 32 := 0#32
  let v285 : BitVec 1 := Scalar.cmpi .slt v283 c0_i32_169
  let c0_i32_170 : BitVec 32 := 0#32
  let v286 : BitVec 1 := Scalar.cmpi .slt v282 c0_i32_170
  let v287 : BitVec 1 := Scalar.xori v285 v286
  let c0_i32_168 : BitVec 32 := 0#32
  let v284 : BitVec 1 := Scalar.cmpi .ne v283 c0_i32_168
  let v288 : BitVec 1 := Scalar.andi v287 v284
  let v289 : BitVec 32 := Scalar.addi v283 v282
  let v290 : BitVec 32 := Scalar.select v288 v289 v283
  let v656 : BitVec 32 := Scalar.addi v299 v290
  let c256_i32_484 : BitVec 32 := 256#32
  let v657 : BitVec 32 := Scalar.muli v656 c256_i32_484
  let c0_i32_492 : BitVec 32 := 0#32
  ![v657.toNat, 0]
def k0_dev13 (d66 : Dev nD) : Nat :=
  let c0_i32_489 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c3_i32_485 : BitVec 32 := 3#32
  let v658 : BitVec 32 := Scalar.xori v68 c3_i32_485
  let c1_i32_488 : BitVec 32 := 1#32
  let v659 : BitVec 32 := Scalar.muli v658 c1_i32_488
  let v660 : BitVec 32 := Scalar.addi c0_i32_489 v659
  v660.toNat
def k0_dev14 (d66 : Dev nD) : Nat :=
  let c0_i32_572 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c1_i32_568 : BitVec 32 := 1#32
  let v751 : BitVec 32 := Scalar.xori v68 c1_i32_568
  let c1_i32_571 : BitVec 32 := 1#32
  let v752 : BitVec 32 := Scalar.muli v751 c1_i32_571
  let v753 : BitVec 32 := Scalar.addi c0_i32_572 v752
  v753.toNat
def k0_dev15 (d66 : Dev nD) : Nat :=
  let c0_i32_583 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c4_i32_579 : BitVec 32 := 4#32
  let v764 : BitVec 32 := Scalar.xori v68 c4_i32_579
  let c1_i32_582 : BitVec 32 := 1#32
  let v765 : BitVec 32 := Scalar.muli v764 c1_i32_582
  let v766 : BitVec 32 := Scalar.addi c0_i32_583 v765
  v766.toNat
def k0_off17 (d66 : Dev nD) : Fin 2 → Nat :=
  let c4_i32_83 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v133 : BitVec 32 := Scalar.xori v78 v105
  let v134 : BitVec 32 := Scalar.muli c4_i32_83 v133
  let c2_i32_84 : BitVec 32 := 2#32
  let v135 : BitVec 32 := Scalar.muli c2_i32_84 v105
  let v136 : BitVec 32 := Scalar.addi v134 v135
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v137 : BitVec 32 := Scalar.addi v136 v132
  let c256_i32_600 : BitVec 32 := 256#32
  let v783 : BitVec 32 := Scalar.muli v137 c256_i32_600
  let v784 : Index := Scalar.indexCast v783
  let c0_601 : Index := 0#32
  ![v784.toNat, 0]
def k0_off18 (d66 : Dev nD) : Fin 2 → Nat :=
  let c4_i32_85 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v138 : BitVec 32 := Scalar.muli c4_i32_85 v132
  let c2_i32_86 : BitVec 32 := 2#32
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v139 : BitVec 32 := Scalar.muli c2_i32_86 v105
  let v140 : BitVec 32 := Scalar.addi v138 v139
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let v133 : BitVec 32 := Scalar.xori v78 v105
  let v141 : BitVec 32 := Scalar.addi v140 v133
  let c256_i32_634 : BitVec 32 := 256#32
  let v820 : BitVec 32 := Scalar.muli v141 c256_i32_634
  let v821 : Index := Scalar.indexCast v820
  let c0_635 : Index := 0#32
  ![v821.toNat, 0]
def k0_off19 (d66 : Dev nD) (c0_i32_666 : BitVec 32) : Fin 2 → Nat :=
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c512_i32_665 : BitVec 32 := 512#32
  let v859 : BitVec 32 := Scalar.muli v68 c512_i32_665
  let v860 : BitVec 32 := Scalar.addi v859 c0_i32_666
  let c0_i32_669 : BitVec 32 := 0#32
  ![v860.toNat, 0]
def k0_off20 (d66 : Dev nD) : Fin 2 → Nat :=
  let c4_i32_83 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v133 : BitVec 32 := Scalar.xori v78 v105
  let v134 : BitVec 32 := Scalar.muli c4_i32_83 v133
  let c2_i32_84 : BitVec 32 := 2#32
  let v135 : BitVec 32 := Scalar.muli c2_i32_84 v105
  let v136 : BitVec 32 := Scalar.addi v134 v135
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v137 : BitVec 32 := Scalar.addi v136 v132
  let c256_i32_675 : BitVec 32 := 256#32
  let v873 : BitVec 32 := Scalar.muli v137 c256_i32_675
  let c0_i32_681 : BitVec 32 := 0#32
  ![v873.toNat, 0]
def k0_dev16 (d66 : Dev nD) : Nat :=
  let c0_i32_680 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c4_i32_676 : BitVec 32 := 4#32
  let v874 : BitVec 32 := Scalar.xori v68 c4_i32_676
  let c1_i32_679 : BitVec 32 := 1#32
  let v875 : BitVec 32 := Scalar.muli v874 c1_i32_679
  let v876 : BitVec 32 := Scalar.addi c0_i32_680 v875
  v876.toNat
def k0_dev17 (d66 : Dev nD) : Nat :=
  let c0_i32_689 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c3_i32_685 : BitVec 32 := 3#32
  let v885 : BitVec 32 := Scalar.xori v68 c3_i32_685
  let c1_i32_688 : BitVec 32 := 1#32
  let v886 : BitVec 32 := Scalar.muli v885 c1_i32_688
  let v887 : BitVec 32 := Scalar.addi c0_i32_689 v886
  v887.toNat
def k0_dev18 (d66 : Dev nD) : Nat :=
  let c0_i32_698 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c1_i32_694 : BitVec 32 := 1#32
  let v896 : BitVec 32 := Scalar.xori v68 c1_i32_694
  let c1_i32_697 : BitVec 32 := 1#32
  let v897 : BitVec 32 := Scalar.muli v896 c1_i32_697
  let v898 : BitVec 32 := Scalar.addi c0_i32_698 v897
  v898.toNat
def k0_off21 (d66 : Dev nD) (c0_i32_707 : BitVec 32) : Fin 2 → Nat :=
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c512_i32_706 : BitVec 32 := 512#32
  let v910 : BitVec 32 := Scalar.muli v68 c512_i32_706
  let v911 : BitVec 32 := Scalar.addi v910 c0_i32_707
  let c512_i32_710 : BitVec 32 := 512#32
  ![v911.toNat, 512]
def k0_off22 (d66 : Dev nD) : Fin 2 → Nat :=
  let c4_i32_85 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v138 : BitVec 32 := Scalar.muli c4_i32_85 v132
  let c2_i32_86 : BitVec 32 := 2#32
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v139 : BitVec 32 := Scalar.muli c2_i32_86 v105
  let v140 : BitVec 32 := Scalar.addi v138 v139
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let v133 : BitVec 32 := Scalar.xori v78 v105
  let v141 : BitVec 32 := Scalar.addi v140 v133
  let c256_i32_716 : BitVec 32 := 256#32
  let v924 : BitVec 32 := Scalar.muli v141 c256_i32_716
  let c0_i32_722 : BitVec 32 := 0#32
  ![v924.toNat, 0]
def k0_dev19 (d66 : Dev nD) : Nat :=
  let c0_i32_721 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c1_i32_717 : BitVec 32 := 1#32
  let v925 : BitVec 32 := Scalar.xori v68 c1_i32_717
  let c1_i32_720 : BitVec 32 := 1#32
  let v926 : BitVec 32 := Scalar.muli v925 c1_i32_720
  let v927 : BitVec 32 := Scalar.addi c0_i32_721 v926
  v927.toNat
def k0_dev20 (d66 : Dev nD) : Nat :=
  let c0_i32_730 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c3_i32_726 : BitVec 32 := 3#32
  let v936 : BitVec 32 := Scalar.xori v68 c3_i32_726
  let c1_i32_729 : BitVec 32 := 1#32
  let v937 : BitVec 32 := Scalar.muli v936 c1_i32_729
  let v938 : BitVec 32 := Scalar.addi c0_i32_730 v937
  v938.toNat
def k0_dev21 (d66 : Dev nD) : Nat :=
  let c0_i32_739 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c4_i32_735 : BitVec 32 := 4#32
  let v947 : BitVec 32 := Scalar.xori v68 c4_i32_735
  let c1_i32_738 : BitVec 32 := 1#32
  let v948 : BitVec 32 := Scalar.muli v947 c1_i32_738
  let v949 : BitVec 32 := Scalar.addi c0_i32_739 v948
  v949.toNat
def k0_dev22 (d66 : Dev nD) : Nat :=
  let c0_i32_816 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c3_i32_812 : BitVec 32 := 3#32
  let v1045 : BitVec 32 := Scalar.xori v68 c3_i32_812
  let c1_i32_815 : BitVec 32 := 1#32
  let v1046 : BitVec 32 := Scalar.muli v1045 c1_i32_815
  let v1047 : BitVec 32 := Scalar.addi c0_i32_816 v1046
  v1047.toNat
def k0_dev23 (d66 : Dev nD) : Nat :=
  let c0_i32_826 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c1_i32_822 : BitVec 32 := 1#32
  let v1057 : BitVec 32 := Scalar.xori v68 c1_i32_822
  let c1_i32_825 : BitVec 32 := 1#32
  let v1058 : BitVec 32 := Scalar.muli v1057 c1_i32_825
  let v1059 : BitVec 32 := Scalar.addi c0_i32_826 v1058
  v1059.toNat
def k0_dev24 (d66 : Dev nD) : Nat :=
  let c0_i32_835 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c3_i32_832 : BitVec 32 := 3#32
  let v1069 : BitVec 32 := Scalar.xori v68 c3_i32_832
  let c1_i32_834 : BitVec 32 := 1#32
  let v1070 : BitVec 32 := Scalar.muli v1069 c1_i32_834
  let v1071 : BitVec 32 := Scalar.addi c0_i32_835 v1070
  v1071.toNat
def k0_dev25 (d66 : Dev nD) : Nat :=
  let c0_i32_845 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c4_i32_841 : BitVec 32 := 4#32
  let v1081 : BitVec 32 := Scalar.xori v68 c4_i32_841
  let c1_i32_844 : BitVec 32 := 1#32
  let v1082 : BitVec 32 := Scalar.muli v1081 c1_i32_844
  let v1083 : BitVec 32 := Scalar.addi c0_i32_845 v1082
  v1083.toNat
def k0_off23 (d66 : Dev nD) (c1_i32_855 : BitVec 32) : Fin 2 → Nat :=
  let c4_i32_83 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v133 : BitVec 32 := Scalar.xori v78 v105
  let v134 : BitVec 32 := Scalar.muli c4_i32_83 v133
  let c2_i32_84 : BitVec 32 := 2#32
  let v135 : BitVec 32 := Scalar.muli c2_i32_84 v105
  let v136 : BitVec 32 := Scalar.addi v134 v135
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v137 : BitVec 32 := Scalar.addi v136 v132
  let v1096 : BitVec 32 := Scalar.xori v137 c1_i32_855
  let c256_i32_857 : BitVec 32 := 256#32
  let v1098 : BitVec 32 := Scalar.muli v1096 c256_i32_857
  let c0_i32_863 : BitVec 32 := 0#32
  ![v1098.toNat, 0]
def k0_dev26 (d66 : Dev nD) : Nat :=
  let c0_i32_862 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c3_i32_858 : BitVec 32 := 3#32
  let v1099 : BitVec 32 := Scalar.xori v68 c3_i32_858
  let c1_i32_861 : BitVec 32 := 1#32
  let v1100 : BitVec 32 := Scalar.muli v1099 c1_i32_861
  let v1101 : BitVec 32 := Scalar.addi c0_i32_862 v1100
  v1101.toNat
def k0_dev27 (d66 : Dev nD) : Nat :=
  let c0_i32_872 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c1_i32_868 : BitVec 32 := 1#32
  let v1111 : BitVec 32 := Scalar.xori v68 c1_i32_868
  let c1_i32_871 : BitVec 32 := 1#32
  let v1112 : BitVec 32 := Scalar.muli v1111 c1_i32_871
  let v1113 : BitVec 32 := Scalar.addi c0_i32_872 v1112
  v1113.toNat
def k0_off24 (d66 : Dev nD) (c1_i32_875 : BitVec 32) : Fin 2 → Nat :=
  let c4_i32_83 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v133 : BitVec 32 := Scalar.xori v78 v105
  let v134 : BitVec 32 := Scalar.muli c4_i32_83 v133
  let c2_i32_84 : BitVec 32 := 2#32
  let v135 : BitVec 32 := Scalar.muli c2_i32_84 v105
  let v136 : BitVec 32 := Scalar.addi v134 v135
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v137 : BitVec 32 := Scalar.addi v136 v132
  let v1120 : BitVec 32 := Scalar.xori v137 c1_i32_875
  let c256_i32_910 : BitVec 32 := 256#32
  let v1190 : BitVec 32 := Scalar.muli v1120 c256_i32_910
  let v1191 : Index := Scalar.indexCast v1190
  let c0_911 : Index := 0#32
  ![v1191.toNat, 0]
def k0_off25 (d66 : Dev nD) (c1_i32_875 : BitVec 32) (c0_i32_915 : BitVec 32) : Fin 2 → Nat :=
  let c4_i32_83 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v133 : BitVec 32 := Scalar.xori v78 v105
  let v134 : BitVec 32 := Scalar.muli c4_i32_83 v133
  let c2_i32_84 : BitVec 32 := 2#32
  let v135 : BitVec 32 := Scalar.muli c2_i32_84 v105
  let v136 : BitVec 32 := Scalar.addi v134 v135
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v137 : BitVec 32 := Scalar.addi v136 v132
  let v1120 : BitVec 32 := Scalar.xori v137 c1_i32_875
  let c0_i32_877 : BitVec 32 := 0#32
  let v1122 : BitVec 1 := Scalar.cmpi .sgt v1120 c0_i32_877
  let v1123 : BitVec 32 := Scalar.extui v1122
  let c0_i32_878 : BitVec 32 := 0#32
  let v1124 : BitVec 1 := Scalar.cmpi .slt v1120 c0_i32_878
  let v1125 : BitVec 32 := Scalar.extui v1124
  let v1126 : BitVec 32 := Scalar.subi v1123 v1125
  let c4_i32_876 : BitVec 32 := 4#32
  let c0_i32_879 : BitVec 32 := 0#32
  let v1127 : BitVec 1 := Scalar.cmpi .sgt c4_i32_876 c0_i32_879
  let v1128 : BitVec 32 := Scalar.extui v1127
  let c0_i32_880 : BitVec 32 := 0#32
  let v1129 : BitVec 1 := Scalar.cmpi .slt c4_i32_876 c0_i32_880
  let v1130 : BitVec 32 := Scalar.extui v1129
  let v1131 : BitVec 32 := Scalar.subi v1128 v1130
  let v1132 : BitVec 1 := Scalar.cmpi .ne v1126 v1131
  let v1133 : BitVec 32 := Scalar.remsi v1120 c4_i32_876
  let c0_i32_881 : BitVec 32 := 0#32
  let v1134 : BitVec 1 := Scalar.cmpi .ne v1133 c0_i32_881
  let v1135 : BitVec 1 := Scalar.andi v1132 v1134
  let v1121 : BitVec 32 := Scalar.divsi v1120 c4_i32_876
  let c1_i32_882 : BitVec 32 := 1#32
  let v1136 : BitVec 32 := Scalar.subi v1121 c1_i32_882
  let v1137 : BitVec 32 := Scalar.select v1135 v1136 v1121
  let c2_i32_883 : BitVec 32 := 2#32
  let c0_i32_884 : BitVec 32 := 0#32
  let v1138 : BitVec 1 := Scalar.cmpi .eq c2_i32_883 c0_i32_884
  let c1_i32_885 : BitVec 32 := 1#32
  let v1139 : BitVec 32 := Scalar.select v1138 c1_i32_885 c2_i32_883
  let v1140 : BitVec 32 := Scalar.remsi v1137 v1139
  let c0_i32_887 : BitVec 32 := 0#32
  let v1142 : BitVec 1 := Scalar.cmpi .slt v1140 c0_i32_887
  let c0_i32_888 : BitVec 32 := 0#32
  let v1143 : BitVec 1 := Scalar.cmpi .slt v1139 c0_i32_888
  let v1144 : BitVec 1 := Scalar.xori v1142 v1143
  let c0_i32_886 : BitVec 32 := 0#32
  let v1141 : BitVec 1 := Scalar.cmpi .ne v1140 c0_i32_886
  let v1145 : BitVec 1 := Scalar.andi v1144 v1141
  let v1146 : BitVec 32 := Scalar.addi v1140 v1139
  let v1147 : BitVec 32 := Scalar.select v1145 v1146 v1140
  let c0_i32_890 : BitVec 32 := 0#32
  let v1149 : BitVec 1 := Scalar.cmpi .sgt v1120 c0_i32_890
  let v1150 : BitVec 32 := Scalar.extui v1149
  let c0_i32_891 : BitVec 32 := 0#32
  let v1151 : BitVec 1 := Scalar.cmpi .slt v1120 c0_i32_891
  let v1152 : BitVec 32 := Scalar.extui v1151
  let v1153 : BitVec 32 := Scalar.subi v1150 v1152
  let c2_i32_889 : BitVec 32 := 2#32
  let c0_i32_892 : BitVec 32 := 0#32
  let v1154 : BitVec 1 := Scalar.cmpi .sgt c2_i32_889 c0_i32_892
  let v1155 : BitVec 32 := Scalar.extui v1154
  let c0_i32_893 : BitVec 32 := 0#32
  let v1156 : BitVec 1 := Scalar.cmpi .slt c2_i32_889 c0_i32_893
  let v1157 : BitVec 32 := Scalar.extui v1156
  let v1158 : BitVec 32 := Scalar.subi v1155 v1157
  let v1159 : BitVec 1 := Scalar.cmpi .ne v1153 v1158
  let v1160 : BitVec 32 := Scalar.remsi v1120 c2_i32_889
  let c0_i32_894 : BitVec 32 := 0#32
  let v1161 : BitVec 1 := Scalar.cmpi .ne v1160 c0_i32_894
  let v1162 : BitVec 1 := Scalar.andi v1159 v1161
  let v1148 : BitVec 32 := Scalar.divsi v1120 c2_i32_889
  let c1_i32_895 : BitVec 32 := 1#32
  let v1163 : BitVec 32 := Scalar.subi v1148 c1_i32_895
  let v1164 : BitVec 32 := Scalar.select v1162 v1163 v1148
  let c2_i32_896 : BitVec 32 := 2#32
  let c0_i32_897 : BitVec 32 := 0#32
  let v1165 : BitVec 1 := Scalar.cmpi .eq c2_i32_896 c0_i32_897
  let c1_i32_898 : BitVec 32 := 1#32
  let v1166 : BitVec 32 := Scalar.select v1165 c1_i32_898 c2_i32_896
  let v1167 : BitVec 32 := Scalar.remsi v1164 v1166
  let c0_i32_900 : BitVec 32 := 0#32
  let v1169 : BitVec 1 := Scalar.cmpi .slt v1167 c0_i32_900
  let c0_i32_901 : BitVec 32 := 0#32
  let v1170 : BitVec 1 := Scalar.cmpi .slt v1166 c0_i32_901
  let v1171 : BitVec 1 := Scalar.xori v1169 v1170
  let c0_i32_899 : BitVec 32 := 0#32
  let v1168 : BitVec 1 := Scalar.cmpi .ne v1167 c0_i32_899
  let v1172 : BitVec 1 := Scalar.andi v1171 v1168
  let v1173 : BitVec 32 := Scalar.addi v1167 v1166
  let v1174 : BitVec 32 := Scalar.select v1172 v1173 v1167
  let v1185 : BitVec 32 := Scalar.xori v1147 v1174
  let c2_i32_908 : BitVec 32 := 2#32
  let v1186 : BitVec 32 := Scalar.muli c2_i32_908 v1174
  let v1187 : BitVec 32 := Scalar.addi v1185 v1186
  let c4_i32_909 : BitVec 32 := 4#32
  let c2_i32_902 : BitVec 32 := 2#32
  let c0_i32_903 : BitVec 32 := 0#32
  let v1175 : BitVec 1 := Scalar.cmpi .eq c2_i32_902 c0_i32_903
  let c1_i32_904 : BitVec 32 := 1#32
  let v1176 : BitVec 32 := Scalar.select v1175 c1_i32_904 c2_i32_902
  let v1177 : BitVec 32 := Scalar.remsi v1120 v1176
  let c0_i32_906 : BitVec 32 := 0#32
  let v1179 : BitVec 1 := Scalar.cmpi .slt v1177 c0_i32_906
  let c0_i32_907 : BitVec 32 := 0#32
  let v1180 : BitVec 1 := Scalar.cmpi .slt v1176 c0_i32_907
  let v1181 : BitVec 1 := Scalar.xori v1179 v1180
  let c0_i32_905 : BitVec 32 := 0#32
  let v1178 : BitVec 1 := Scalar.cmpi .ne v1177 c0_i32_905
  let v1182 : BitVec 1 := Scalar.andi v1181 v1178
  let v1183 : BitVec 32 := Scalar.addi v1177 v1176
  let v1184 : BitVec 32 := Scalar.select v1182 v1183 v1177
  let v1188 : BitVec 32 := Scalar.muli c4_i32_909 v1184
  let v1189 : BitVec 32 := Scalar.addi v1187 v1188
  let c512_i32_914 : BitVec 32 := 512#32
  let v1197 : BitVec 32 := Scalar.muli v1189 c512_i32_914
  let v1198 : BitVec 32 := Scalar.addi v1197 c0_i32_915
  let c0_i32_918 : BitVec 32 := 0#32
  ![v1198.toNat, 0]
def k0_off26 (d66 : Dev nD) (c1_i32_927 : BitVec 32) : Fin 2 → Nat :=
  let c4_i32_85 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v138 : BitVec 32 := Scalar.muli c4_i32_85 v132
  let c2_i32_86 : BitVec 32 := 2#32
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v139 : BitVec 32 := Scalar.muli c2_i32_86 v105
  let v140 : BitVec 32 := Scalar.addi v138 v139
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let v133 : BitVec 32 := Scalar.xori v78 v105
  let v141 : BitVec 32 := Scalar.addi v140 v133
  let v1210 : BitVec 32 := Scalar.xori v141 c1_i32_927
  let c256_i32_929 : BitVec 32 := 256#32
  let v1212 : BitVec 32 := Scalar.muli v1210 c256_i32_929
  let c0_i32_935 : BitVec 32 := 0#32
  ![v1212.toNat, 0]
def k0_dev28 (d66 : Dev nD) : Nat :=
  let c0_i32_934 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c3_i32_930 : BitVec 32 := 3#32
  let v1213 : BitVec 32 := Scalar.xori v68 c3_i32_930
  let c1_i32_933 : BitVec 32 := 1#32
  let v1214 : BitVec 32 := Scalar.muli v1213 c1_i32_933
  let v1215 : BitVec 32 := Scalar.addi c0_i32_934 v1214
  v1215.toNat
def k0_dev29 (d66 : Dev nD) : Nat :=
  let c0_i32_944 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c4_i32_940 : BitVec 32 := 4#32
  let v1225 : BitVec 32 := Scalar.xori v68 c4_i32_940
  let c1_i32_943 : BitVec 32 := 1#32
  let v1226 : BitVec 32 := Scalar.muli v1225 c1_i32_943
  let v1227 : BitVec 32 := Scalar.addi c0_i32_944 v1226
  v1227.toNat
def k0_off27 (d66 : Dev nD) (c1_i32_947 : BitVec 32) : Fin 2 → Nat :=
  let c4_i32_85 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v138 : BitVec 32 := Scalar.muli c4_i32_85 v132
  let c2_i32_86 : BitVec 32 := 2#32
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v139 : BitVec 32 := Scalar.muli c2_i32_86 v105
  let v140 : BitVec 32 := Scalar.addi v138 v139
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let v133 : BitVec 32 := Scalar.xori v78 v105
  let v141 : BitVec 32 := Scalar.addi v140 v133
  let v1234 : BitVec 32 := Scalar.xori v141 c1_i32_947
  let c256_i32_982 : BitVec 32 := 256#32
  let v1304 : BitVec 32 := Scalar.muli v1234 c256_i32_982
  let v1305 : Index := Scalar.indexCast v1304
  let c0_983 : Index := 0#32
  ![v1305.toNat, 0]
def k0_off28 (d66 : Dev nD) (c1_i32_947 : BitVec 32) (c0_i32_987 : BitVec 32) : Fin 2 → Nat :=
  let c4_i32_85 : BitVec 32 := 4#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c0_i32_71 : BitVec 32 := 0#32
  let v107 : BitVec 1 := Scalar.cmpi .sgt v68 c0_i32_71
  let v108 : BitVec 32 := Scalar.extui v107
  let c0_i32_72 : BitVec 32 := 0#32
  let v109 : BitVec 1 := Scalar.cmpi .slt v68 c0_i32_72
  let v110 : BitVec 32 := Scalar.extui v109
  let v111 : BitVec 32 := Scalar.subi v108 v110
  let c4_i32_70 : BitVec 32 := 4#32
  let c0_i32_73 : BitVec 32 := 0#32
  let v112 : BitVec 1 := Scalar.cmpi .sgt c4_i32_70 c0_i32_73
  let v113 : BitVec 32 := Scalar.extui v112
  let c0_i32_74 : BitVec 32 := 0#32
  let v114 : BitVec 1 := Scalar.cmpi .slt c4_i32_70 c0_i32_74
  let v115 : BitVec 32 := Scalar.extui v114
  let v116 : BitVec 32 := Scalar.subi v113 v115
  let v117 : BitVec 1 := Scalar.cmpi .ne v111 v116
  let v118 : BitVec 32 := Scalar.remsi v68 c4_i32_70
  let c0_i32_75 : BitVec 32 := 0#32
  let v119 : BitVec 1 := Scalar.cmpi .ne v118 c0_i32_75
  let v120 : BitVec 1 := Scalar.andi v117 v119
  let v106 : BitVec 32 := Scalar.divsi v68 c4_i32_70
  let c1_i32_76 : BitVec 32 := 1#32
  let v121 : BitVec 32 := Scalar.subi v106 c1_i32_76
  let v122 : BitVec 32 := Scalar.select v120 v121 v106
  let c2_i32_77 : BitVec 32 := 2#32
  let c0_i32_78 : BitVec 32 := 0#32
  let v123 : BitVec 1 := Scalar.cmpi .eq c2_i32_77 c0_i32_78
  let c1_i32_79 : BitVec 32 := 1#32
  let v124 : BitVec 32 := Scalar.select v123 c1_i32_79 c2_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v138 : BitVec 32 := Scalar.muli c4_i32_85 v132
  let c2_i32_86 : BitVec 32 := 2#32
  let c0_i32_58 : BitVec 32 := 0#32
  let v80 : BitVec 1 := Scalar.cmpi .sgt v68 c0_i32_58
  let v81 : BitVec 32 := Scalar.extui v80
  let c0_i32_59 : BitVec 32 := 0#32
  let v82 : BitVec 1 := Scalar.cmpi .slt v68 c0_i32_59
  let v83 : BitVec 32 := Scalar.extui v82
  let v84 : BitVec 32 := Scalar.subi v81 v83
  let c2_i32_57 : BitVec 32 := 2#32
  let c0_i32_60 : BitVec 32 := 0#32
  let v85 : BitVec 1 := Scalar.cmpi .sgt c2_i32_57 c0_i32_60
  let v86 : BitVec 32 := Scalar.extui v85
  let c0_i32_61 : BitVec 32 := 0#32
  let v87 : BitVec 1 := Scalar.cmpi .slt c2_i32_57 c0_i32_61
  let v88 : BitVec 32 := Scalar.extui v87
  let v89 : BitVec 32 := Scalar.subi v86 v88
  let v90 : BitVec 1 := Scalar.cmpi .ne v84 v89
  let v91 : BitVec 32 := Scalar.remsi v68 c2_i32_57
  let c0_i32_62 : BitVec 32 := 0#32
  let v92 : BitVec 1 := Scalar.cmpi .ne v91 c0_i32_62
  let v93 : BitVec 1 := Scalar.andi v90 v92
  let v79 : BitVec 32 := Scalar.divsi v68 c2_i32_57
  let c1_i32_63 : BitVec 32 := 1#32
  let v94 : BitVec 32 := Scalar.subi v79 c1_i32_63
  let v95 : BitVec 32 := Scalar.select v93 v94 v79
  let c2_i32_64 : BitVec 32 := 2#32
  let c0_i32_65 : BitVec 32 := 0#32
  let v96 : BitVec 1 := Scalar.cmpi .eq c2_i32_64 c0_i32_65
  let c1_i32_66 : BitVec 32 := 1#32
  let v97 : BitVec 32 := Scalar.select v96 c1_i32_66 c2_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let v139 : BitVec 32 := Scalar.muli c2_i32_86 v105
  let v140 : BitVec 32 := Scalar.addi v138 v139
  let c2_i32_51 : BitVec 32 := 2#32
  let c0_i32_52 : BitVec 32 := 0#32
  let v69 : BitVec 1 := Scalar.cmpi .eq c2_i32_51 c0_i32_52
  let c1_i32_53 : BitVec 32 := 1#32
  let v70 : BitVec 32 := Scalar.select v69 c1_i32_53 c2_i32_51
  let v71 : BitVec 32 := Scalar.remsi v68 v70
  let c0_i32_55 : BitVec 32 := 0#32
  let v73 : BitVec 1 := Scalar.cmpi .slt v71 c0_i32_55
  let c0_i32_56 : BitVec 32 := 0#32
  let v74 : BitVec 1 := Scalar.cmpi .slt v70 c0_i32_56
  let v75 : BitVec 1 := Scalar.xori v73 v74
  let c0_i32_54 : BitVec 32 := 0#32
  let v72 : BitVec 1 := Scalar.cmpi .ne v71 c0_i32_54
  let v76 : BitVec 1 := Scalar.andi v75 v72
  let v77 : BitVec 32 := Scalar.addi v71 v70
  let v78 : BitVec 32 := Scalar.select v76 v77 v71
  let v133 : BitVec 32 := Scalar.xori v78 v105
  let v141 : BitVec 32 := Scalar.addi v140 v133
  let v1234 : BitVec 32 := Scalar.xori v141 c1_i32_947
  let c2_i32_974 : BitVec 32 := 2#32
  let c0_i32_975 : BitVec 32 := 0#32
  let v1289 : BitVec 1 := Scalar.cmpi .eq c2_i32_974 c0_i32_975
  let c1_i32_976 : BitVec 32 := 1#32
  let v1290 : BitVec 32 := Scalar.select v1289 c1_i32_976 c2_i32_974
  let v1291 : BitVec 32 := Scalar.remsi v1234 v1290
  let c0_i32_978 : BitVec 32 := 0#32
  let v1293 : BitVec 1 := Scalar.cmpi .slt v1291 c0_i32_978
  let c0_i32_979 : BitVec 32 := 0#32
  let v1294 : BitVec 1 := Scalar.cmpi .slt v1290 c0_i32_979
  let v1295 : BitVec 1 := Scalar.xori v1293 v1294
  let c0_i32_977 : BitVec 32 := 0#32
  let v1292 : BitVec 1 := Scalar.cmpi .ne v1291 c0_i32_977
  let v1296 : BitVec 1 := Scalar.andi v1295 v1292
  let v1297 : BitVec 32 := Scalar.addi v1291 v1290
  let v1298 : BitVec 32 := Scalar.select v1296 v1297 v1291
  let c0_i32_962 : BitVec 32 := 0#32
  let v1263 : BitVec 1 := Scalar.cmpi .sgt v1234 c0_i32_962
  let v1264 : BitVec 32 := Scalar.extui v1263
  let c0_i32_963 : BitVec 32 := 0#32
  let v1265 : BitVec 1 := Scalar.cmpi .slt v1234 c0_i32_963
  let v1266 : BitVec 32 := Scalar.extui v1265
  let v1267 : BitVec 32 := Scalar.subi v1264 v1266
  let c2_i32_961 : BitVec 32 := 2#32
  let c0_i32_964 : BitVec 32 := 0#32
  let v1268 : BitVec 1 := Scalar.cmpi .sgt c2_i32_961 c0_i32_964
  let v1269 : BitVec 32 := Scalar.extui v1268
  let c0_i32_965 : BitVec 32 := 0#32
  let v1270 : BitVec 1 := Scalar.cmpi .slt c2_i32_961 c0_i32_965
  let v1271 : BitVec 32 := Scalar.extui v1270
  let v1272 : BitVec 32 := Scalar.subi v1269 v1271
  let v1273 : BitVec 1 := Scalar.cmpi .ne v1267 v1272
  let v1274 : BitVec 32 := Scalar.remsi v1234 c2_i32_961
  let c0_i32_966 : BitVec 32 := 0#32
  let v1275 : BitVec 1 := Scalar.cmpi .ne v1274 c0_i32_966
  let v1276 : BitVec 1 := Scalar.andi v1273 v1275
  let v1262 : BitVec 32 := Scalar.divsi v1234 c2_i32_961
  let c1_i32_967 : BitVec 32 := 1#32
  let v1277 : BitVec 32 := Scalar.subi v1262 c1_i32_967
  let v1278 : BitVec 32 := Scalar.select v1276 v1277 v1262
  let c2_i32_968 : BitVec 32 := 2#32
  let c0_i32_969 : BitVec 32 := 0#32
  let v1279 : BitVec 1 := Scalar.cmpi .eq c2_i32_968 c0_i32_969
  let c1_i32_970 : BitVec 32 := 1#32
  let v1280 : BitVec 32 := Scalar.select v1279 c1_i32_970 c2_i32_968
  let v1281 : BitVec 32 := Scalar.remsi v1278 v1280
  let c0_i32_972 : BitVec 32 := 0#32
  let v1283 : BitVec 1 := Scalar.cmpi .slt v1281 c0_i32_972
  let c0_i32_973 : BitVec 32 := 0#32
  let v1284 : BitVec 1 := Scalar.cmpi .slt v1280 c0_i32_973
  let v1285 : BitVec 1 := Scalar.xori v1283 v1284
  let c0_i32_971 : BitVec 32 := 0#32
  let v1282 : BitVec 1 := Scalar.cmpi .ne v1281 c0_i32_971
  let v1286 : BitVec 1 := Scalar.andi v1285 v1282
  let v1287 : BitVec 32 := Scalar.addi v1281 v1280
  let v1288 : BitVec 32 := Scalar.select v1286 v1287 v1281
  let v1299 : BitVec 32 := Scalar.xori v1298 v1288
  let c2_i32_980 : BitVec 32 := 2#32
  let v1300 : BitVec 32 := Scalar.muli c2_i32_980 v1288
  let v1301 : BitVec 32 := Scalar.addi v1299 v1300
  let c4_i32_981 : BitVec 32 := 4#32
  let c0_i32_949 : BitVec 32 := 0#32
  let v1236 : BitVec 1 := Scalar.cmpi .sgt v1234 c0_i32_949
  let v1237 : BitVec 32 := Scalar.extui v1236
  let c0_i32_950 : BitVec 32 := 0#32
  let v1238 : BitVec 1 := Scalar.cmpi .slt v1234 c0_i32_950
  let v1239 : BitVec 32 := Scalar.extui v1238
  let v1240 : BitVec 32 := Scalar.subi v1237 v1239
  let c4_i32_948 : BitVec 32 := 4#32
  let c0_i32_951 : BitVec 32 := 0#32
  let v1241 : BitVec 1 := Scalar.cmpi .sgt c4_i32_948 c0_i32_951
  let v1242 : BitVec 32 := Scalar.extui v1241
  let c0_i32_952 : BitVec 32 := 0#32
  let v1243 : BitVec 1 := Scalar.cmpi .slt c4_i32_948 c0_i32_952
  let v1244 : BitVec 32 := Scalar.extui v1243
  let v1245 : BitVec 32 := Scalar.subi v1242 v1244
  let v1246 : BitVec 1 := Scalar.cmpi .ne v1240 v1245
  let v1247 : BitVec 32 := Scalar.remsi v1234 c4_i32_948
  let c0_i32_953 : BitVec 32 := 0#32
  let v1248 : BitVec 1 := Scalar.cmpi .ne v1247 c0_i32_953
  let v1249 : BitVec 1 := Scalar.andi v1246 v1248
  let v1235 : BitVec 32 := Scalar.divsi v1234 c4_i32_948
  let c1_i32_954 : BitVec 32 := 1#32
  let v1250 : BitVec 32 := Scalar.subi v1235 c1_i32_954
  let v1251 : BitVec 32 := Scalar.select v1249 v1250 v1235
  let c2_i32_955 : BitVec 32 := 2#32
  let c0_i32_956 : BitVec 32 := 0#32
  let v1252 : BitVec 1 := Scalar.cmpi .eq c2_i32_955 c0_i32_956
  let c1_i32_957 : BitVec 32 := 1#32
  let v1253 : BitVec 32 := Scalar.select v1252 c1_i32_957 c2_i32_955
  let v1254 : BitVec 32 := Scalar.remsi v1251 v1253
  let c0_i32_959 : BitVec 32 := 0#32
  let v1256 : BitVec 1 := Scalar.cmpi .slt v1254 c0_i32_959
  let c0_i32_960 : BitVec 32 := 0#32
  let v1257 : BitVec 1 := Scalar.cmpi .slt v1253 c0_i32_960
  let v1258 : BitVec 1 := Scalar.xori v1256 v1257
  let c0_i32_958 : BitVec 32 := 0#32
  let v1255 : BitVec 1 := Scalar.cmpi .ne v1254 c0_i32_958
  let v1259 : BitVec 1 := Scalar.andi v1258 v1255
  let v1260 : BitVec 32 := Scalar.addi v1254 v1253
  let v1261 : BitVec 32 := Scalar.select v1259 v1260 v1254
  let v1302 : BitVec 32 := Scalar.muli c4_i32_981 v1261
  let v1303 : BitVec 32 := Scalar.addi v1301 v1302
  let c512_i32_986 : BitVec 32 := 512#32
  let v1311 : BitVec 32 := Scalar.muli v1303 c512_i32_986
  let v1312 : BitVec 32 := Scalar.addi v1311 c0_i32_987
  let c512_i32_990 : BitVec 32 := 512#32
  ![v1312.toNat, 512]
def k0_dev30 (d66 : Dev nD) : Nat :=
  let c0_i32_1070 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c4_i32_1066 : BitVec 32 := 4#32
  let v1395 : BitVec 32 := Scalar.xori v68 c4_i32_1066
  let c1_i32_1069 : BitVec 32 := 1#32
  let v1396 : BitVec 32 := Scalar.muli v1395 c1_i32_1069
  let v1397 : BitVec 32 := Scalar.addi c0_i32_1070 v1396
  v1397.toNat
def k0_dev31 (d66 : Dev nD) : Nat :=
  let c0_i32_1079 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c3_i32_1075 : BitVec 32 := 3#32
  let v1406 : BitVec 32 := Scalar.xori v68 c3_i32_1075
  let c1_i32_1078 : BitVec 32 := 1#32
  let v1407 : BitVec 32 := Scalar.muli v1406 c1_i32_1078
  let v1408 : BitVec 32 := Scalar.addi c0_i32_1079 v1407
  v1408.toNat
def k0_dev32 (d66 : Dev nD) : Nat :=
  let c0_i32_1087 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c1_i32_1084 : BitVec 32 := 1#32
  let v1416 : BitVec 32 := Scalar.xori v68 c1_i32_1084
  let c1_i32_1086 : BitVec 32 := 1#32
  let v1417 : BitVec 32 := Scalar.muli v1416 c1_i32_1086
  let v1418 : BitVec 32 := Scalar.addi c0_i32_1087 v1417
  v1418.toNat
def k0_dev33 (d66 : Dev nD) : Nat :=
  let c0_i32_1095 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c3_i32_1092 : BitVec 32 := 3#32
  let v1427 : BitVec 32 := Scalar.xori v68 c3_i32_1092
  let c1_i32_1094 : BitVec 32 := 1#32
  let v1428 : BitVec 32 := Scalar.muli v1427 c1_i32_1094
  let v1429 : BitVec 32 := Scalar.addi c0_i32_1095 v1428
  v1429.toNat
def k0_dev34 (d66 : Dev nD) : Nat :=
  let c0_i32_1112 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c1_i32_1108 : BitVec 32 := 1#32
  let v1445 : BitVec 32 := Scalar.xori v68 c1_i32_1108
  let c1_i32_1111 : BitVec 32 := 1#32
  let v1446 : BitVec 32 := Scalar.muli v1445 c1_i32_1111
  let v1447 : BitVec 32 := Scalar.addi c0_i32_1112 v1446
  v1447.toNat
def k0_dev35 (d66 : Dev nD) : Nat :=
  let c0_i32_1180 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c4_i32_1176 : BitVec 32 := 4#32
  let v1552 : BitVec 32 := Scalar.xori v68 c4_i32_1176
  let c1_i32_1179 : BitVec 32 := 1#32
  let v1553 : BitVec 32 := Scalar.muli v1552 c1_i32_1179
  let v1554 : BitVec 32 := Scalar.addi c0_i32_1180 v1553
  v1554.toNat
def k0_dev36 (d66 : Dev nD) : Nat :=
  let c0_i32_1248 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c1_i32_1244 : BitVec 32 := 1#32
  let v1659 : BitVec 32 := Scalar.xori v68 c1_i32_1244
  let c1_i32_1247 : BitVec 32 := 1#32
  let v1660 : BitVec 32 := Scalar.muli v1659 c1_i32_1247
  let v1661 : BitVec 32 := Scalar.addi c0_i32_1248 v1660
  v1661.toNat
def k0_dev37 (d66 : Dev nD) : Nat :=
  let c0_i32_1316 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c4_i32_1312 : BitVec 32 := 4#32
  let v1766 : BitVec 32 := Scalar.xori v68 c4_i32_1312
  let c1_i32_1315 : BitVec 32 := 1#32
  let v1767 : BitVec 32 := Scalar.muli v1766 c1_i32_1315
  let v1768 : BitVec 32 := Scalar.addi c0_i32_1316 v1767
  v1768.toNat
def k0_dev38 (d66 : Dev nD) : Nat :=
  let c0_i32_1935 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c4_i32_1931 : BitVec 32 := 4#32
  let v2730 : BitVec 32 := Scalar.xori v68 c4_i32_1931
  let c1_i32_1934 : BitVec 32 := 1#32
  let v2731 : BitVec 32 := Scalar.muli v2730 c1_i32_1934
  let v2732 : BitVec 32 := Scalar.addi c0_i32_1935 v2731
  v2732.toNat
def k0_dev39 (d66 : Dev nD) : Nat :=
  let c0_i32_1944 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c3_i32_1940 : BitVec 32 := 3#32
  let v2741 : BitVec 32 := Scalar.xori v68 c3_i32_1940
  let c1_i32_1943 : BitVec 32 := 1#32
  let v2742 : BitVec 32 := Scalar.muli v2741 c1_i32_1943
  let v2743 : BitVec 32 := Scalar.addi c0_i32_1944 v2742
  v2743.toNat
def k0_dev40 (d66 : Dev nD) : Nat :=
  let c0_i32_1953 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c1_i32_1949 : BitVec 32 := 1#32
  let v2752 : BitVec 32 := Scalar.xori v68 c1_i32_1949
  let c1_i32_1952 : BitVec 32 := 1#32
  let v2753 : BitVec 32 := Scalar.muli v2752 c1_i32_1952
  let v2754 : BitVec 32 := Scalar.addi c0_i32_1953 v2753
  v2754.toNat
def k0_dev41 (d66 : Dev nD) : Nat :=
  let c0_i32_1981 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c1_i32_1978 : BitVec 32 := 1#32
  let v2786 : BitVec 32 := Scalar.xori v68 c1_i32_1978
  let c1_i32_1980 : BitVec 32 := 1#32
  let v2787 : BitVec 32 := Scalar.muli v2786 c1_i32_1980
  let v2788 : BitVec 32 := Scalar.addi c0_i32_1981 v2787
  v2788.toNat
def k0_dev42 (d66 : Dev nD) : Nat :=
  let c0_i32_1989 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c3_i32_1986 : BitVec 32 := 3#32
  let v2797 : BitVec 32 := Scalar.xori v68 c3_i32_1986
  let c1_i32_1988 : BitVec 32 := 1#32
  let v2798 : BitVec 32 := Scalar.muli v2797 c1_i32_1988
  let v2799 : BitVec 32 := Scalar.addi c0_i32_1989 v2798
  v2799.toNat
def k0_dev43 (d66 : Dev nD) : Nat :=
  let c0_i32_1997 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c4_i32_1994 : BitVec 32 := 4#32
  let v2808 : BitVec 32 := Scalar.xori v68 c4_i32_1994
  let c1_i32_1996 : BitVec 32 := 1#32
  let v2809 : BitVec 32 := Scalar.muli v2808 c1_i32_1996
  let v2810 : BitVec 32 := Scalar.addi c0_i32_1997 v2809
  v2810.toNat
def k0_dev44 (d66 : Dev nD) : Nat :=
  let c0_i32_2013 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c3_i32_2009 : BitVec 32 := 3#32
  let v2826 : BitVec 32 := Scalar.xori v68 c3_i32_2009
  let c1_i32_2012 : BitVec 32 := 1#32
  let v2827 : BitVec 32 := Scalar.muli v2826 c1_i32_2012
  let v2828 : BitVec 32 := Scalar.addi c0_i32_2013 v2827
  v2828.toNat
def k0_dev45 (d66 : Dev nD) : Nat :=
  let c0_i32_2023 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c1_i32_2019 : BitVec 32 := 1#32
  let v2838 : BitVec 32 := Scalar.xori v68 c1_i32_2019
  let c1_i32_2022 : BitVec 32 := 1#32
  let v2839 : BitVec 32 := Scalar.muli v2838 c1_i32_2022
  let v2840 : BitVec 32 := Scalar.addi c0_i32_2023 v2839
  v2840.toNat
def k0_dev46 (d66 : Dev nD) : Nat :=
  let c0_i32_2090 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c3_i32_2087 : BitVec 32 := 3#32
  let v2945 : BitVec 32 := Scalar.xori v68 c3_i32_2087
  let c1_i32_2089 : BitVec 32 := 1#32
  let v2946 : BitVec 32 := Scalar.muli v2945 c1_i32_2089
  let v2947 : BitVec 32 := Scalar.addi c0_i32_2090 v2946
  v2947.toNat
def k0_dev47 (d66 : Dev nD) : Nat :=
  let c0_i32_2099 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c4_i32_2096 : BitVec 32 := 4#32
  let v2957 : BitVec 32 := Scalar.xori v68 c4_i32_2096
  let c1_i32_2098 : BitVec 32 := 1#32
  let v2958 : BitVec 32 := Scalar.muli v2957 c1_i32_2098
  let v2959 : BitVec 32 := Scalar.addi c0_i32_2099 v2958
  v2959.toNat
def k0_dev48 (d66 : Dev nD) : Nat :=
  let c0_i32_2167 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c1_i32_2163 : BitVec 32 := 1#32
  let v3064 : BitVec 32 := Scalar.xori v68 c1_i32_2163
  let c1_i32_2166 : BitVec 32 := 1#32
  let v3065 : BitVec 32 := Scalar.muli v3064 c1_i32_2166
  let v3066 : BitVec 32 := Scalar.addi c0_i32_2167 v3065
  v3066.toNat
def k0_dev49 (d66 : Dev nD) : Nat :=
  let c0_i32_2233 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c4_i32_2230 : BitVec 32 := 4#32
  let v3171 : BitVec 32 := Scalar.xori v68 c4_i32_2230
  let c1_i32_2232 : BitVec 32 := 1#32
  let v3172 : BitVec 32 := Scalar.muli v3171 c1_i32_2232
  let v3173 : BitVec 32 := Scalar.addi c0_i32_2233 v3172
  v3173.toNat
def k0_dev50 (d66 : Dev nD) : Nat :=
  let c0_i32_2301 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c1_i32_2297 : BitVec 32 := 1#32
  let v3278 : BitVec 32 := Scalar.xori v68 c1_i32_2297
  let c1_i32_2300 : BitVec 32 := 1#32
  let v3279 : BitVec 32 := Scalar.muli v3278 c1_i32_2300
  let v3280 : BitVec 32 := Scalar.addi c0_i32_2301 v3279
  v3280.toNat
def k0_dev51 (d66 : Dev nD) : Nat :=
  let c0_i32_2368 : BitVec 32 := 0#32
  let v66 : BitVec 32 := Dev.word d66
  let c1_i32_50 : BitVec 32 := 1#32
  let v67 : BitVec 32 := Scalar.divsi v66 c1_i32_50
  let c8_i32_49 : BitVec 32 := 8#32
  let v68 : BitVec 32 := Scalar.remsi v67 c8_i32_49
  let c4_i32_2365 : BitVec 32 := 4#32
  let v3385 : BitVec 32 := Scalar.xori v68 c4_i32_2365
  let c1_i32_2367 : BitVec 32 := 1#32
  let v3386 : BitVec 32 := Scalar.muli v3385 c1_i32_2367
  let v3387 : BitVec 32 := Scalar.addi c0_i32_2368 v3386
  v3387.toNat
-- ==== ReferenceIdeal.lean ====
abbrev S32768x1024 : Shape := ⟨2, ![32768, 1024]⟩
abbrev S1024x1024 : Shape := ⟨2, ![1024, 1024]⟩
abbrev S8x4096x1024 : Shape := ⟨3, ![8, 4096, 1024]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S8x4096x1024, .f32⟩
  | .hbm, ⟨3, _⟩ => ⟨S_, .f32⟩
  | .hbm, ⟨4, _⟩ => ⟨S4096x1024, .f32⟩
  | .hbm, ⟨5, _⟩ => ⟨S4096x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Ops.lean ====
module
public import proofs.«01_k».proof.Proof.Gen.KernelIdeal.Points
public import proofs.«01_k».proof.Proof.Gen.KernelIdeal.Skeleton

/-! The kernel's body as a list of instructions. Each instruction is a few memory operations; the
tables below name the memory references, semaphores, peers and offsets an instruction uses, by row
half `st`, column half `bf` and the number of the transfer. -/

@[expose] public section

noncomputable section
namespace Cert.KernelIdeal.Hcube
open Idealize.ShloMosaic Idealize.ShloMosaic.TcCoe
open Idealize.SL Idealize.SL.Sem
open Cert.KernelIdeal.Gen
variable {F : FTy → Type} [FloatOps F]

/-- The transfers of the reduction, for one row half and column half: the two halves of the first
exchange (`a`, `b`), of the second (`c`, `d`), and the third (`e`). The program's slots 0 … 4. -/
inductive RSlot | a | b | c | d | e
deriving DecidableEq
/-- The transfers of the gather: own chunk to three peers (0, 1, 2), and the passing on of chunks. -/
inductive GSlot | g0 | g1 | g2 | g3 | g4 | g5 | g6
deriving DecidableEq
/-- The remote transfers a device issues. -/
inductive XK | rs (st bf : Bool) (s : RSlot) | ag (st bf : Bool) (s : GSlot)
deriving DecidableEq

instance : Fintype RSlot := ⟨{.a, .b, .c, .d, .e}, fun s => by cases s <;> decide⟩
instance : Fintype GSlot := ⟨{.g0, .g1, .g2, .g3, .g4, .g5, .g6}, fun s => by cases s <;> decide⟩
def XK.equiv : (Bool × Bool × RSlot) ⊕ (Bool × Bool × GSlot) ≃ XK where
  toFun := fun x => match x with | .inl (st, bf, s) => .rs st bf s | .inr (st, bf, s) => .ag st bf s
  invFun := fun k => match k with | .rs st bf s => .inl (st, bf, s) | .ag st bf s => .inr (st, bf, s)
  left_inv := fun x => by rcases x with ⟨_, _, _⟩ | ⟨_, _, _⟩ <;> rfl
  right_inv := fun k => by cases k <;> rfl
instance : Fintype XK := Fintype.ofEquiv _ XK.equiv

/-! ### Memory references -/
/-- The accumulator of one row half and column half. -/
def accM : Bool → Bool → Memref sig .tc .vmem S2048x512 .bf16
  | false, false => Memref.whole cc0_scratch0 | false, true => Memref.whole cc0_scratch1
  | true, false => Memref.whole cc0_scratch2 | true, true => Memref.whole cc0_scratch3
theorem accM_whole : ∀ st bf, (accM st bf).IsWhole := by
  intro st bf; cases st <;> cases bf <;> exact Memref.isWhole_whole _
/-- The landing buffers of the first, second and third exchange. -/
def r0M : Bool → Bool → Memref sig .tc .vmem S1024x512 .bf16
  | false, false => Memref.whole cc0_scratch8 | false, true => Memref.whole cc0_scratch9
  | true, false => Memref.whole cc0_scratch14 | true, true => Memref.whole cc0_scratch15
def r1M : Bool → Bool → Memref sig .tc .vmem S512x512 .bf16
  | false, false => Memref.whole cc0_scratch10 | false, true => Memref.whole cc0_scratch11
  | true, false => Memref.whole cc0_scratch16 | true, true => Memref.whole cc0_scratch17
def r2M : Bool → Bool → Memref sig .tc .vmem S256x512 .bf16
  | false, false => Memref.whole cc0_scratch12 | false, true => Memref.whole cc0_scratch13
  | true, false => Memref.whole cc0_scratch18 | true, true => Memref.whole cc0_scratch19
theorem r0M_whole : ∀ st bf, (r0M st bf).IsWhole := by
  intro st bf; cases st <;> cases bf <;> exact Memref.isWhole_whole _
theorem r1M_whole : ∀ st bf, (r1M st bf).IsWhole := by
  intro st bf; cases st <;> cases bf <;> exact Memref.isWhole_whole _
theorem r2M_whole : ∀ st bf, (r2M st bf).IsWhole := by
  intro st bf; cases st <;> cases bf <;> exact Memref.isWhole_whole _
abbrev tHM : Memref sig .tc .hbm S4096x1024 .f32 := Memref.whole main_arg0
abbrev wHM : Memref sig .tc .hbm S1024x1024 .f32 := Memref.whole main_arg1
abbrev oHM : Memref sig .tc .hbm S4096x1024 .f32 := Memref.whole main_v1
abbrev tVM : Memref sig .tc .vmem S4096x1024 .f32 := Memref.whole cc0_scratch4
abbrev wVM : Memref sig .tc .vmem S1024x1024 .f32 := Memref.whole cc0_scratch5
abbrev wBM : Memref sig .tc .vmem S1024x1024 .bf16 := Memref.whole cc0_scratch6
abbrev stgM : Memref sig .tc .vmem S4x256x512 .f32 := Memref.whole cc0_scratch7

/-! ### Semaphores -/
theorem inb_sem {n i : Nat} (h : i < n) : ∀ a : Fin 1, (![i] : Fin 1 → Nat) a + S1.size a ≤ (⟨1, ![n]⟩ : Shape).size a := by
  intro a; obtain rfl : a = 0 := Subsingleton.elim _ _; exact h
def semAt {n : Nat} (A : DmaSems sig ⟨1, ![n]⟩) (i : Fin n) : DmaSem sig :=
  ((A.slice (Rect.unit (s := ⟨1, ![n]⟩) ![i.val] S1.size (inb_sem i.isLt))).squeeze S_ squeezes_S1_S_).sem
def RSlot.num : RSlot → Nat | .a => 0 | .b => 1 | .c => 2 | .d => 3 | .e => 4
def GSlot.num : GSlot → Nat | .g0 => 0 | .g1 => 1 | .g2 => 2 | .g3 => 3 | .g4 => 4 | .g5 => 5 | .g6 => 6
theorem rnum_lt (st bf : Bool) (s : RSlot) : 10 * st.toNat + 5 * bf.toNat + s.num < 20 := by
  cases st <;> cases bf <;> cases s <;> decide
theorem gnum_lt (st bf : Bool) (s : GSlot) : 14 * st.toNat + 7 * bf.toNat + s.num < 28 := by
  cases st <;> cases bf <;> cases s <;> decide
/-- The departure semaphore of a transfer. -/
def XK.ssem : XK → DmaSem sig
  | .rs st bf s => semAt cc0_scratch20 ⟨_, rnum_lt st bf s⟩
  | .ag st bf s => semAt cc0_scratch22 ⟨_, gnum_lt st bf s⟩
/-- The arrival semaphore of a transfer. -/
def XK.rsem : XK → DmaSem sig
  | .rs st bf s => semAt cc0_scratch21 ⟨_, rnum_lt st bf s⟩
  | .ag st bf s => semAt cc0_scratch23 ⟨_, gnum_lt st bf s⟩
def inSem (i : Fin 17) : DmaSem sig := semAt cc0_scratch24 i
def outSem (j : Fin 32) : DmaSem sig := semAt cc0_scratch25 j
def barSem : Sem sig := (SemArray.scalar (d := S_.size) (sig.barrier 0 rfl)).sem

/-! ### Transfers -/
/-- The peer a transfer goes to. -/
def XK.peer : XK → Dev nD → Dev nD
  | .rs false false .a, d => ⟨k0_dev4 d, k0_dev4_lt d⟩ | .rs false true .a, d => ⟨k0_dev5 d, k0_dev5_lt d⟩
  | .rs false false .b, d => ⟨k0_dev7 d, k0_dev7_lt d⟩ | .rs false true .b, d => ⟨k0_dev9 d, k0_dev9_lt d⟩
  | .rs false false .c, d => ⟨k0_dev6 d, k0_dev6_lt d⟩ | .rs false true .c, d => ⟨k0_dev8 d, k0_dev8_lt d⟩
  | .rs false false .d, d => ⟨k0_dev11 d, k0_dev11_lt d⟩ | .rs false true .d, d => ⟨k0_dev13 d, k0_dev13_lt d⟩
  | .rs false false .e, d => ⟨k0_dev10 d, k0_dev10_lt d⟩ | .rs false true .e, d => ⟨k0_dev12 d, k0_dev12_lt d⟩
  | .rs true false .a, d => ⟨k0_dev14 d, k0_dev14_lt d⟩ | .rs true true .a, d => ⟨k0_dev15 d, k0_dev15_lt d⟩
  | .rs true false .b, d => ⟨k0_dev23 d, k0_dev23_lt d⟩ | .rs true true .b, d => ⟨k0_dev25 d, k0_dev25_lt d⟩
  | .rs true false .c, d => ⟨k0_dev22 d, k0_dev22_lt d⟩ | .rs true true .c, d => ⟨k0_dev24 d, k0_dev24_lt d⟩
  | .rs true false .d, d => ⟨k0_dev31 d, k0_dev31_lt d⟩ | .rs true true .d, d => ⟨k0_dev33 d, k0_dev33_lt d⟩
  | .rs true false .e, d => ⟨k0_dev30 d, k0_dev30_lt d⟩ | .rs true true .e, d => ⟨k0_dev32 d, k0_dev32_lt d⟩
  | .ag false false .g0, d => ⟨k0_dev16 d, k0_dev16_lt d⟩ | .ag false true .g0, d => ⟨k0_dev19 d, k0_dev19_lt d⟩
  | .ag false false .g1, d => ⟨k0_dev17 d, k0_dev17_lt d⟩ | .ag false true .g1, d => ⟨k0_dev20 d, k0_dev20_lt d⟩
  | .ag false false .g2, d => ⟨k0_dev18 d, k0_dev18_lt d⟩ | .ag false true .g2, d => ⟨k0_dev21 d, k0_dev21_lt d⟩
  | .ag false false .g3, d => ⟨k0_dev26 d, k0_dev26_lt d⟩ | .ag false true .g3, d => ⟨k0_dev28 d, k0_dev28_lt d⟩
  | .ag false false .g4, d => ⟨k0_dev27 d, k0_dev27_lt d⟩ | .ag false true .g4, d => ⟨k0_dev29 d, k0_dev29_lt d⟩
  | .ag false false .g5, d => ⟨k0_dev34 d, k0_dev34_lt d⟩ | .ag false true .g5, d => ⟨k0_dev35 d, k0_dev35_lt d⟩
  | .ag false false .g6, d => ⟨k0_dev36 d, k0_dev36_lt d⟩ | .ag false true .g6, d => ⟨k0_dev37 d, k0_dev37_lt d⟩
  | .ag true false .g0, d => ⟨k0_dev38 d, k0_dev38_lt d⟩ | .ag true true .g0, d => ⟨k0_dev41 d, k0_dev41_lt d⟩
  | .ag true false .g1, d => ⟨k0_dev39 d, k0_dev39_lt d⟩ | .ag true true .g1, d => ⟨k0_dev42 d, k0_dev42_lt d⟩
  | .ag true false .g2, d => ⟨k0_dev40 d, k0_dev40_lt d⟩ | .ag true true .g2, d => ⟨k0_dev43 d, k0_dev43_lt d⟩
  | .ag true false .g3, d => ⟨k0_dev44 d, k0_dev44_lt d⟩ | .ag true true .g3, d => ⟨k0_dev46 d, k0_dev46_lt d⟩
  | .ag true false .g4, d => ⟨k0_dev45 d, k0_dev45_lt d⟩ | .ag true true .g4, d => ⟨k0_dev47 d, k0_dev47_lt d⟩
  | .ag true false .g5, d => ⟨k0_dev48 d, k0_dev48_lt d⟩ | .ag true true .g5, d => ⟨k0_dev49 d, k0_dev49_lt d⟩
  | .ag true false .g6, d => ⟨k0_dev50 d, k0_dev50_lt d⟩ | .ag true true .g6, d => ⟨k0_dev51 d, k0_dev51_lt d⟩

/-- The shape a transfer moves. -/
def RSlot.rows : RSlot → Nat | .a => 512 | .b => 512 | .c => 256 | .d => 256 | .e => 256
def XK.rows : XK → Nat | .rs _ _ s => s.rows | .ag _ _ _ => 256
abbrev RSlot.sh (s : RSlot) : Shape := ⟨2, ![s.rows, 512]⟩
abbrev XK.sh (k : XK) : Shape := ⟨2, ![k.rows, 512]⟩

/-- The offset in the accumulator of what a reduction transfer sends. -/
def rsOff : Bool → RSlot → Dev nD → Fin 2 → Nat
  | false, .a => k0_off1 | true, .a => k0_off2 | false, .b => k0_off6 | true, .b => k0_off8
  | false, .c => k0_off5 | true, .c => k0_off7 | false, .d => k0_off14 | true, .d => k0_off16
  | false, .e => k0_off13 | true, .e => k0_off15
/-- The offset in the accumulator of what a gather transfer sends. -/
def agOff : Bool → GSlot → Dev nD → Fin 2 → Nat
  | false, .g0 => k0_off20 | true, .g0 => k0_off22 | false, .g1 => k0_off20 | true, .g1 => k0_off22
  | false, .g2 => k0_off20 | true, .g2 => k0_off22
  | false, .g3 => (k0_off23 · 1#32) | true, .g3 => (k0_off26 · 1#32)
  | false, .g4 => (k0_off23 · 1#32) | true, .g4 => (k0_off26 · 1#32)
  | false, .g5 => (k0_off23 · 2#32) | true, .g5 => (k0_off26 · 2#32)
  | false, .g6 => (k0_off23 · 3#32) | true, .g6 => (k0_off26 · 3#32)
/-- The offset in the accumulator of what the addition after a reduction transfer updates. -/
def addOff : Bool → RSlot → Dev nD → Fin 2 → Nat
  | false, .a => k0_off3 | true, .a => k0_off4 | false, .b => k0_off9 | true, .b => k0_off11
  | false, .c => k0_off10 | true, .c => k0_off12 | false, .d => k0_off17 | true, .d => k0_off18
  | false, .e => k0_off17 | true, .e => k0_off18
theorem rsOff_inb : ∀ bf s d a, rsOff bf s d a + s.sh.size a ≤ S2048x512.size a := by decide +kernel
theorem rsOff_words : ∀ bf s d, (Rect.unit (s := S2048x512) (rsOff bf s d) s.sh.size (rsOff_inb bf s d)).WholeWords (EltTy.packing .bf16) := by decide +kernel
theorem agOff_inb : ∀ bf s d a, agOff bf s d a + S256x512.size a ≤ S2048x512.size a := by decide +kernel
theorem agOff_words : ∀ bf s d, (Rect.unit (s := S2048x512) (agOff bf s d) S256x512.size (agOff_inb bf s d)).WholeWords (EltTy.packing .bf16) := by decide +kernel
theorem addOff_inb : ∀ bf s d a, addOff bf s d a + s.sh.size a ≤ S2048x512.size a := by decide +kernel

def XK.st : XK → Bool | .rs st _ _ => st | .ag st _ _ => st
def XK.bf : XK → Bool | .rs _ bf _ => bf | .ag _ bf _ => bf
/-- What a transfer reads on the device `d` that issues it. -/
def XK.src : (k : XK) → Dev nD → Memref sig .tc .vmem k.sh .bf16
  | .rs st bf s, d => (accM st bf).slice (Rect.unit (s := S2048x512) (rsOff bf s d) s.sh.size (rsOff_inb bf s d)) (fun _ => rfl)
  | .ag st bf s, d => (accM st bf).slice (Rect.unit (s := S2048x512) (agOff bf s d) S256x512.size (agOff_inb bf s d)) (fun _ => rfl)
/-- What a transfer writes on the peer of the device `d` that issues it. -/
def XK.dst : (k : XK) → Dev nD → Memref sig .tc .vmem k.sh .bf16
  | .rs st bf .a, _ => (r0M st bf).slice (Rect.unit (s := S1024x512) ![0, 0] S512x512.size inb_S1024x512_S512x512_0_0) (fun _ => rfl)
  | .rs st bf .b, _ => (r0M st bf).slice (Rect.unit (s := S1024x512) ![512, 0] S512x512.size inb_S1024x512_S512x512_512_0) (fun _ => rfl)
  | .rs st bf .c, _ => (r1M st bf).slice (Rect.unit (s := S512x512) ![0, 0] S256x512.size inb_S512x512_S256x512_0_0) (fun _ => rfl)
  | .rs st bf .d, _ => (r1M st bf).slice (Rect.unit (s := S512x512) ![256, 0] S256x512.size inb_S512x512_S256x512_256_0) (fun _ => rfl)
  | .rs st bf .e, _ => (r2M st bf).slice (Rect.unit (s := S256x512) ![0, 0] S256x512.size inb_S256x512_S256x512_0_0) (fun _ => rfl)
  | .ag st bf s, d => (accM st bf).slice (Rect.unit (s := S2048x512) (agOff bf s d) S256x512.size (agOff_inb bf s d)) (fun _ => rfl)
theorem XK.src_words (k : XK) (d : Dev nD) : (k.src d).view.WordExact := by
  cases k with
  | rs st bf s => exact (accM_whole st bf).wordExact_slice rfl _ (rsOff_words bf s d)
  | ag st bf s => exact (accM_whole st bf).wordExact_slice rfl _ (agOff_words bf s d)
theorem XK.dst_words (k : XK) (d : Dev nD) : (k.dst d).view.WordExact := by
  cases k with
  | rs st bf s =>
    cases s with
    | a => exact (r0M_whole st bf).wordExact_slice rfl _ wordsbf16_S1024x512_S512x512_0_0
    | b => exact (r0M_whole st bf).wordExact_slice rfl _ wordsbf16_S1024x512_S512x512_512_0
    | c => exact (r1M_whole st bf).wordExact_slice rfl _ wordsbf16_S512x512_S256x512_0_0
    | d => exact (r1M_whole st bf).wordExact_slice rfl _ wordsbf16_S512x512_S256x512_256_0
    | e => exact (r2M_whole st bf).wordExact_slice rfl _ wordsbf16_S256x512_S256x512_0_0
  | ag st bf s => exact (accM_whole st bf).wordExact_slice rfl _ (agOff_words bf s d)

abbrev PG (F : FTy → Type) [FloatOps F] := Prog (TpuEff nD τ sig (Elt F) Λ₀ .tc)

/-! ### The instructions -/
def sendOp (k : XK) (d : Dev nD) : PG F PUnit :=
  Prog.lift (.enqueueDma (k.src d) (.remote (Dev.tc (k.peer d)) (k.dst d) (.dma k.ssem)) (.dma k.rsem) (k.src_words d) (k.dst_words d) ⟨⟨rfl, Or.inl rfl⟩, trivial⟩)
def waitSOp (k : XK) (d : Dev nD) : PG F PUnit :=
  Prog.lift (.waitDma2 k.ssem (k.dst d) (k.src d) (k.dst_words d) (k.src_words d))
def waitROp (k : XK) (d : Dev nD) : PG F PUnit :=
  Prog.lift (.waitDma2 k.rsem (k.src d) (k.dst d) (k.src_words d) (k.dst_words d))

theorem inb_t (st : Bool) (u : Fin 8) : ∀ a, (![512 * u.val + 256 * st.toNat, 0] : Fin 2 → Nat) a + S256x1024.size a ≤ S4096x1024.size a := by
  revert st u; decide +kernel
def tSlice {sp : Space} (m : Memref sig .tc sp S4096x1024 .f32) (st : Bool) (u : Fin 8) : Memref sig .tc sp S256x1024 .f32 :=
  m.slice (Rect.unit (s := S4096x1024) ![512 * u.val + 256 * st.toNat, 0] S256x1024.size (inb_t st u)) (fun _ => rfl)
def tNum (st : Bool) (u : Fin 8) : Fin 17 := ⟨1 + 8 * st.toNat + u.val, by cases st <;> simp <;> omega⟩
def tStartOp (st : Bool) (u : Fin 8) : PG F PUnit :=
  Prog.lift (.enqueueDma (tSlice tHM st u) (.here (tSlice tVM st u)) (.dma (inSem (tNum st u))) (View.wordExact_bits rfl) (View.wordExact_bits rfl) ⟨Or.inl rfl, trivial⟩)
def tWaitOp (st : Bool) (u : Fin 8) : PG F PUnit :=
  Prog.lift (.waitDma2 (inSem (tNum st u)) (tSlice tHM st u) (tSlice tVM st u) (View.wordExact_bits rfl) (View.wordExact_bits rfl))
def wStartOp : PG F PUnit :=
  Prog.lift (.enqueueDma wHM (.here wVM) (.dma (inSem 0)) (View.wordExact_bits rfl) (View.wordExact_bits rfl) ⟨Or.inl rfl, trivial⟩)
def wWaitOp : PG F PUnit :=
  Prog.lift (.waitDma2 (inSem 0) wHM wVM (View.wordExact_bits rfl) (View.wordExact_bits rfl))
def barPeer : Fin 3 → Dev nD → Dev nD
  | 0, d => ⟨k0_dev1 d, k0_dev1_lt d⟩ | 1, d => ⟨k0_dev2 d, k0_dev2_lt d⟩ | 2, d => ⟨k0_dev3 d, k0_dev3_lt d⟩
def sigOp (i : Fin 3) (d : Dev nD) : PG F PUnit := semSignalWord (barPeer i d) barSem 1#32
def barWaitOp : PG F PUnit := semWaitWord barSem 3#32

/-- The device whose chunk number for the column half is `u`. -/
def sigma (bf : Bool) (u : Fin 8) : Fin 8 :=
  let b2 := u.val / 4 % 2; let b1 := u.val / 2 % 2; let b0 := u.val % 2
  match bf with
  | false => ⟨((b2 + b1) % 2 + 2 * b1 + 4 * b0) % 8, Nat.mod_lt _ (by decide)⟩
  | true => ⟨((b0 + b1) % 2 + 2 * b1 + 4 * b2) % 8, Nat.mod_lt _ (by decide)⟩
def payInit (v : Vec F S256x512 .f32) : FVec F S256x512 .bf16 :=
  shapeCast S256x512 (truncf .bf16 v bitsLt_bf16_f32) shapeCasts_S256x512_S256x512
theorem inb_init (st bf : Bool) (u : Fin 8) : ∀ a, (![512 * (sigma bf u).val + 256 * st.toNat, 512 * bf.toNat] : Fin 2 → Nat) a + S256x512.size a ≤ S4096x1024.size a := by
  revert st bf u; decide +kernel
theorem inb_chunk (u : Fin 8) : ∀ a, (![256 * u.val, 0] : Fin 2 → Nat) a + S256x512.size a ≤ S2048x512.size a := by
  revert u; decide +kernel
theorem packed_chunk : ∀ u : Fin 8, (Rect.unit (s := S2048x512) ![256 * u.val, 0] S256x512.size (inb_chunk u)).PackedRows (EltTy.packing .bf16) := by
  decide +kernel

/-- The chunk number of a device for the column half. -/
def vOf (bf : Bool) (d : Dev nD) : Fin 8 :=
  let p2 := d.val / 4 % 2; let p1 := d.val / 2 % 2; let p0 := d.val % 2
  match bf with
  | false => ⟨(4 * ((p0 + p1) % 2) + 2 * p1 + p2) % 8, Nat.mod_lt _ (by decide)⟩
  | true => ⟨(4 * p2 + 2 * p1 + (p0 + p1) % 2) % 8, Nat.mod_lt _ (by decide)⟩
/-- Whether the chunk `u` is in the half that is initialised now: the half that is sent (`snd`), or
the one that is kept. -/
def initCond (bf snd : Bool) (u : Fin 8) (d : Dev nD) : Bool := (u.val / 4 != (vOf bf d).val / 4) == snd

/-- A chunk of the accumulator as a rectangle. -/
abbrev chunkR (u : Fin 8) : Rect S2048x512 := Rect.unit (s := S2048x512) ![256 * u.val, 0] S256x512.size (inb_chunk u)
def initOp (st bf : Bool) (u : Fin 8) : PG F PUnit := do
  let v : Vec F S256x512 .f32 ← Prog.lift (.load tVM (Rect.unit (s := S4096x1024) ![512 * (sigma bf u).val + 256 * st.toNat, 512 * bf.toNat] S256x512.size (inb_init st bf u)).toLoadRect (View.loadsAt_vmem h_S256x512))
  let _w : Vec F S256x512 .bf16 ← Prog.lift (.load (accM st bf) (chunkR u).toLoadRect (View.loadsAt_vmem h_S256x512))
  Prog.lift (.store (accM st bf) (chunkR u) (payInit v) Finset.univ (View.stores_vmem h_S256x512 ((accM_whole st bf).storeExact_slice rfl _ (packed_chunk u)) (fun _ => rfl)) (.inl rfl))
  pure ⟨⟩

def payW (v : Vec F S1024x1024 .f32) : FVec F S1024x1024 .bf16 :=
  shapeCast S1024x1024 (truncf .bf16 v bitsLt_bf16_f32) shapeCasts_S1024x1024_S1024x1024
abbrev wholeR : Rect S1024x1024 := Rect.unit (s := S1024x1024) ![0, 0] S1024x1024.size inb_S1024x1024_S1024x1024_0_0
def castOp : PG F PUnit := do
  let v : Vec F S1024x1024 .f32 ← Prog.lift (.load wVM wholeR.toLoadRect (View.loadsAt_vmem h_S1024x1024))
  let _w : Vec F S1024x1024 .bf16 ← Prog.lift (.load wBM wholeR.toLoadRect (View.loadsAt_vmem h_S1024x1024))
  Prog.lift (.store wBM wholeR (payW v) Finset.univ (View.stores_vmem h_S1024x1024 ((Memref.isWhole_whole _).storeExact_slice rfl _ packedbf16_S1024x1024_S1024x1024_0_0) (fun _ => rfl)) (.inl rfl))

theorem h_rs (s : RSlot) : 0 < s.sh.numel := by cases s <;> decide
theorem casts_rs (s : RSlot) : s.sh.ShapeCasts s.sh := by cases s <;> decide
theorem addOff_packed : ∀ bf s d, (Rect.unit (s := S2048x512) (addOff bf s d) s.sh.size (addOff_inb bf s d)).PackedRows (EltTy.packing .bf16) := by decide +kernel
abbrev addR (bf : Bool) (s : RSlot) (d : Dev nD) : Rect S2048x512 :=
  Rect.unit (s := S2048x512) (addOff bf s d) s.sh.size (addOff_inb bf s d)
def payAdd (s : RSlot) (a b : Vec F s.sh .bf16) : FVec F s.sh .bf16 := shapeCast s.sh (addf a b) (casts_rs s)
/-- The shape of a landing buffer, and the rows in it of each transfer. -/
def RSlot.bufRows : RSlot → Nat | .a => 1024 | .b => 1024 | .c => 512 | .d => 512 | .e => 256
abbrev RSlot.buf (s : RSlot) : Shape := ⟨2, ![s.bufRows, 512]⟩
def RSlot.row : RSlot → Nat | .a => 0 | .b => 512 | .c => 0 | .d => 256 | .e => 0
theorem row_inb (s : RSlot) : ∀ a, (![s.row, 0] : Fin 2 → Nat) a + s.sh.size a ≤ s.buf.size a := by revert s; decide
def rM (st bf : Bool) : (s : RSlot) → Memref sig .tc .vmem s.buf .bf16
  | .a => r0M st bf | .b => r0M st bf | .c => r1M st bf | .d => r1M st bf | .e => r2M st bf
abbrev rR (s : RSlot) : Rect s.buf := Rect.unit (s := s.buf) ![s.row, 0] s.sh.size (row_inb s)
def addOp (st bf : Bool) (s : RSlot) (d : Dev nD) : PG F PUnit := do
  let a : Vec F s.sh .bf16 ← Prog.lift (.load (accM st bf) (addR bf s d).toLoadRect (View.loadsAt_vmem (h_rs s)))
  let b : Vec F s.sh .bf16 ← Prog.lift (.load (rM st bf s) (rR s).toLoadRect (View.loadsAt_vmem (h_rs s)))
  let _w : Vec F s.sh .bf16 ← Prog.lift (.load (accM st bf) (addR bf s d).toLoadRect (View.loadsAt_vmem (h_rs s)))
  Prog.lift (.store (accM st bf) (addR bf s d) (payAdd s a b) Finset.univ (View.stores_vmem (h_rs s) ((accM_whole st bf).storeExact_slice rfl _ (addOff_packed bf s d)) (fun _ => rfl)) (.inl rfl))

/-! ### The product and the stores of the result -/
/-- What the body carries from one instruction to the next: the device's own rows of the sum, and the
chunk of the result that is to be stored. -/
structure Reg (F : FTy → Type) where
  own : FVec F S256x1024 .bf16
  half : FVec F S256x512 .f32

/-- The offset of a device's own chunk in the accumulator. -/
def ownOff : Bool → Dev nD → Fin 2 → Nat | false => k0_off17 | true => k0_off18
theorem ownOff_inb : ∀ bf d a, ownOff bf d a + S256x512.size a ≤ S2048x512.size a := by decide +kernel
theorem ownOff_packed : ∀ bf d, (Rect.unit (s := S2048x512) (ownOff bf d) S256x512.size (ownOff_inb bf d)).PackedRows (EltTy.packing .bf16) := by decide +kernel
abbrev ownR (bf : Bool) (d : Dev nD) : Rect S2048x512 := Rect.unit (s := S2048x512) (ownOff bf d) S256x512.size (ownOff_inb bf d)
def payOwn (a b : Vec F S256x512 .bf16) : FVec F S256x1024 .bf16 :=
  concatenate S256x1024 1 [⟨S256x512, a⟩, ⟨S256x512, b⟩] concatenates_S256x512_S256x512_S256x1024_d1
def ldOwnOp (st : Bool) (d : Dev nD) (r : Reg F) : PG F (Reg F) := do
  let a : Vec F S256x512 .bf16 ← Prog.lift (.load (accM st false) (ownR false d).toLoadRect (View.loadsAt_vmem h_S256x512))
  let b : Vec F S256x512 .bf16 ← Prog.lift (.load (accM st true) (ownR true d).toLoadRect (View.loadsAt_vmem h_S256x512))
  pure ⟨payOwn a b, r.half⟩
theorem inb_w : ∀ (bf : Bool) a, (![0, 512 * bf.toNat] : Fin 2 → Nat) a + S1024x512.size a ≤ S1024x1024.size a := by decide
abbrev wR (bf : Bool) : Rect S1024x1024 := Rect.unit (s := S1024x1024) ![0, 512 * bf.toNat] S1024x512.size (inb_w bf)
def payHalf (own : FVec F S256x1024 .bf16) (w : Vec F S1024x512 .bf16) : FVec F S256x512 .f32 :=
  matmul dot_S256x1024_S1024x512_S256x512_1_0_0_1_n_n none own w (constant S256x512 .f32 0x00000000#32)
def ldWOp (bf : Bool) (r : Reg F) : PG F (Reg F) := do
  let w : Vec F S1024x512 .bf16 ← Prog.lift (.load wBM (wR bf).toLoadRect (View.loadsAt_vmem h_S1024x512))
  pure ⟨r.own, payHalf r.own w⟩
/-- The offset in the accumulator of the chunk loaded for the result, `w` counting from the own. -/
def ldOff (bf : Bool) (w : Fin 8) (d : Dev nD) : Fin 2 → Nat :=
  match bf with
  | false => k0_off24 d (BitVec.ofNat 32 w.val)
  | true => k0_off27 d (BitVec.ofNat 32 w.val)
theorem ldOff_inb : ∀ bf w d a, ldOff bf w d a + S256x512.size a ≤ S2048x512.size a := by decide +kernel
abbrev ldR (bf : Bool) (w : Fin 8) (d : Dev nD) : Rect S2048x512 := Rect.unit (s := S2048x512) (ldOff bf w d) S256x512.size (ldOff_inb bf w d)
def ldAccOp (st bf : Bool) (w : Fin 8) (d : Dev nD) (r : Reg F) : PG F (Reg F) := do
  let v : Vec F S256x512 .bf16 ← Prog.lift (.load (accM st bf) (ldR bf w d).toLoadRect (View.loadsAt_vmem h_S256x512))
  pure ⟨r.own, extf .f32 v bitsLt_bf16_f32⟩
/-- The offset in the result of the chunk `w`. -/
def outOff (st bf : Bool) (w : Fin 8) (d : Dev nD) : Fin 2 → Nat :=
  match w.val, bf with
  | 0, false => k0_off19 d (BitVec.ofNat 32 (256 * st.toNat))
  | 0, true => k0_off21 d (BitVec.ofNat 32 (256 * st.toNat))
  | _, false => k0_off25 d (BitVec.ofNat 32 w.val) (BitVec.ofNat 32 (256 * st.toNat))
  | _, true => k0_off28 d (BitVec.ofNat 32 w.val) (BitVec.ofNat 32 (256 * st.toNat))
theorem outOff_inb : ∀ st bf w d a, outOff st bf w d a + S256x512.size a ≤ S4096x1024.size a := by decide +kernel
def slotNum (bf : Bool) (w : Fin 8) : Nat := 2 * (w.val % 2) + bf.toNat
theorem inb_slot : ∀ (bf : Bool) (w : Fin 8) a, (![slotNum bf w, 0, 0] : Fin 3 → Nat) a + S1x256x512.size a ≤ S4x256x512.size a := by decide
abbrev slotR (bf : Bool) (w : Fin 8) : Rect S4x256x512 := Rect.unit (s := S4x256x512) ![slotNum bf w, 0, 0] S1x256x512.size (inb_slot bf w)
def stgV (bf : Bool) (w : Fin 8) : Memref sig .tc .vmem S256x512 .f32 :=
  (stgM.slice (slotR bf w) (fun _ => rfl)).squeeze S256x512 squeezes_S1x256x512_S256x512
def outV (st bf : Bool) (w : Fin 8) (d : Dev nD) : Memref sig .tc .hbm S256x512 .f32 :=
  oHM.slice (Rect.unit (s := S4096x1024) (outOff st bf w d) S256x512.size (outOff_inb st bf w d)) (fun _ => rfl)
theorem outNum_lt : ∀ (st bf : Bool) (w : Fin 8), 16 * st.toNat + 2 * w.val + bf.toNat < 32 := by decide
def oSem (st bf : Bool) (w : Fin 8) : DmaSem sig := outSem ⟨_, outNum_lt st bf w⟩
def payStg (v : FVec F S256x512 .f32) : FVec F S1x256x512 .f32 := shapeCast S1x256x512 v shapeCasts_S256x512_S1x256x512
def stgOp (bf : Bool) (w : Fin 8) (r : Reg F) : PG F PUnit := do
  let _w : Vec F S1x256x512 .f32 ← Prog.lift (.load stgM (slotR bf w).toLoadRect (View.loadsAt_vmem h_S1x256x512))
  Prog.lift (.store stgM (slotR bf w) (payStg r.half) Finset.univ (View.stores_vmem_bits_univ h_S1x256x512 rfl) (.inl rfl))
def outStartOp (st bf : Bool) (w : Fin 8) (d : Dev nD) : PG F PUnit :=
  Prog.lift (.enqueueDma (stgV bf w) (.here (outV st bf w d)) (.dma (oSem st bf w)) ((View.wordExact_bits rfl).reshape _ _) (View.wordExact_bits rfl) ⟨Or.inl rfl, trivial⟩)
def outWaitOp (st bf : Bool) (w : Fin 8) (d : Dev nD) : PG F PUnit :=
  Prog.lift (.waitDma2 (oSem st bf w) (stgV bf w) (outV st bf w d) ((View.wordExact_bits rfl).reshape _ _) (View.wordExact_bits rfl))
def payAcc (v : FVec F S256x512 .f32) : FVec F S256x512 .bf16 :=
  shapeCast S256x512 (truncf .bf16 v bitsLt_bf16_f32) shapeCasts_S256x512_S256x512
def stAccOp (st bf : Bool) (d : Dev nD) (r : Reg F) : PG F PUnit := do
  let _w : Vec F S256x512 .bf16 ← Prog.lift (.load (accM st bf) (ownR bf d).toLoadRect (View.loadsAt_vmem h_S256x512))
  Prog.lift (.store (accM st bf) (ownR bf d) (payAcc r.half) Finset.univ (View.stores_vmem h_S256x512 ((accM_whole st bf).storeExact_slice rfl _ (ownOff_packed bf d)) (fun _ => rfl)) (.inl rfl))

/-! ### The list -/
inductive Ins
  | sig (i : Fin 3) | barWait | tWait (st : Bool) (u : Fin 8) | wWait | cast
  | init (st bf snd : Bool) (u : Fin 8)
  | send (k : XK) | waitS (k : XK) | waitR (k : XK) | add (st bf : Bool) (s : RSlot)
  | ldOwn (st : Bool) | ldW (bf : Bool) | ldAcc (st bf : Bool) (w : Fin 8)
  | stg (bf : Bool) (w : Fin 8) | outStart (st bf : Bool) (w : Fin 8) | outWait (st bf : Bool) (w : Fin 8)
  | stAcc (st bf : Bool)
def keep (r : Reg F) (p : PG F PUnit) : PG F (Reg F) := p.bind fun _ => .ret r
def Ins.run (d : Dev nD) (r : Reg F) : Ins → PG F (Reg F)
  | .sig i => keep r (sigOp i d) | .barWait => keep r barWaitOp
  | .tWait st u => keep r (tWaitOp st u) | .wWait => keep r wWaitOp | .cast => keep r castOp
  | .init st bf snd u => keep r (match initCond bf snd u d with | true => initOp st bf u | false => .ret ⟨⟩)
  | .send k => keep r (sendOp k d) | .waitS k => keep r (waitSOp k d) | .waitR k => keep r (waitROp k d)
  | .add st bf s => keep r (addOp st bf s d)
  | .ldOwn st => ldOwnOp st d r | .ldW bf => ldWOp bf r | .ldAcc st bf w => ldAccOp st bf w d r
  | .stg bf w => keep r (stgOp bf w r) | .outStart st bf w => keep r (outStartOp st bf w d)
  | .outWait st bf w => keep r (outWaitOp st bf w d) | .stAcc st bf => keep r (stAccOp st bf d r)
def runAll (d : Dev nD) : List Ins → Reg F → PG F PUnit
  | [], _ => .ret ⟨⟩
  | i :: is, r => (i.run d r).bind (runAll d is)

def bools : List Bool := [false, true]
def chunks : List (Fin 8) := [0, 1, 2, 3, 4, 5, 6, 7]
def iA (st : Bool) : List Ins :=
  chunks.map (.tWait st) ++ (bools.flatMap fun bf => chunks.map (.init st bf true)) ++
  (match st with | false => [.barWait] | true => []) ++ bools.map fun bf => .send (.rs st bf .a)
def iB (st : Bool) : List Ins := bools.flatMap fun bf => chunks.map (.init st bf false)
def iWait (st bf : Bool) (s : RSlot) : List Ins := [.waitS (.rs st bf s), .waitR (.rs st bf s), .add st bf s]
def iC (st : Bool) : List Ins :=
  (bools.flatMap fun bf => iWait st bf .a) ++
  bools.flatMap fun bf => [.send (.rs st bf .c), .send (.rs st bf .b)]
def iD (st : Bool) : List Ins :=
  (bools.flatMap fun bf => iWait st bf .b ++ iWait st bf .c) ++
  bools.flatMap fun bf => [.send (.rs st bf .e), .send (.rs st bf .d)]
def iE (st : Bool) : List Ins := bools.flatMap fun bf => iWait st bf .d ++ iWait st bf .e
/-- The wait before a staging slot is used again: for the chunk stored two rounds earlier. -/
def iPrev (st bf : Bool) (w : Fin 8) : List Ins :=
  if 2 ≤ w.val then [.outWait st bf ⟨w.val - 2, by omega⟩] else
    match st with
    | false => []
    | true => [.outWait false bf ⟨(w.val + 6) % 8, Nat.mod_lt _ (by decide)⟩]
def iStore (st bf : Bool) (w : Fin 8) : List Ins := iPrev st bf w ++ [.stg bf w, .outStart st bf w]
def iM (st : Bool) : List Ins :=
  .ldOwn st :: bools.flatMap fun bf => .ldW bf :: iStore st bf 0 ++
    [.stAcc st bf, .send (.ag st bf .g0), .send (.ag st bf .g1), .send (.ag st bf .g2)]
def iG (st bf : Bool) (s : GSlot) (out : List GSlot) (w : Fin 8) : List Ins :=
  .waitR (.ag st bf s) :: (out.map fun s => .send (.ag st bf s)) ++ .ldAcc st bf w :: iStore st bf w
def iG1 (st : Bool) : List Ins := bools.flatMap fun bf => iG st bf .g0 [.g3, .g4] 1
def iG2 (st : Bool) : List Ins :=
  (bools.flatMap fun bf => iG st bf .g1 [.g5] 2) ++ bools.flatMap fun bf => iG st bf .g3 [.g6] 3
def iG3 (st : Bool) : List Ins :=
  [((.g2 : GSlot), (4 : Fin 8)), (.g4, 5), (.g5, 6), (.g6, 7)].flatMap fun p => bools.flatMap fun bf => iG st bf p.1 [] p.2
def iDrain (st : Bool) : List Ins :=
  bools.flatMap fun bf => [(.g0 : GSlot), .g1, .g2, .g3, .g4, .g5, .g6].map fun s => .waitS (.ag st bf s)
def allIns : List Ins :=
  [.sig 0, .sig 1, .sig 2] ++ iA false ++ iB false ++ [.wWait, .cast] ++ iC false ++ iD false ++ iA true ++ iE false ++
  iM false ++ iB true ++ iC true ++ iG1 false ++ iD true ++ iG2 false ++ iE true ++ iG3 false ++
  iM true ++ iG1 true ++ iG2 true ++ iG3 true ++ iDrain false ++ iDrain true ++
  [.outWait true false 6, .outWait true true 6, .outWait true false 7, .outWait true true 7]

/-- The copies into local memory with which the body begins. -/
def startAll (rest : PG F PUnit) : PG F PUnit :=
  List.foldr (fun (p : Bool × Fin 8) (q : PG F PUnit) => (tStartOp p.1 p.2).bind fun _ => q)
    ((wStartOp (F := F)).bind fun _ => rest) (bools.flatMap fun st => chunks.map fun u => (st, u))
def reg0 : Reg F := ⟨fun _ => FloatOps.ofBits .bf16 0, fun _ => FloatOps.ofBits .f32 0⟩
def progAll : PG F PUnit := startAll (.op .deviceId fun d => runAll d allIns reg0)
end Cert.KernelIdeal.Hcube
end
-- ==== Proof.Geom.lean ====
module
public import proofs.«01_k».proof.Proof.Ops

/-! Who talks to whom, about which chunk: closed forms of the printed device numbers and offsets. -/

@[expose] public section
noncomputable section
namespace Cert.KernelIdeal.Hcube
open Idealize.ShloMosaic Idealize.ShloMosaic.TcCoe
open Cert.KernelIdeal.Gen

def xor8 (a b : Fin 8) : Fin 8 := ⟨a.val ^^^ b.val, Nat.xor_lt_two_pow (n := 3) a.2 b.2⟩
/-- The mask of a level for a column half: a device's partner at the level has the number xor the mask. -/
def mask : Bool → Fin 3 → Fin 8
  | false, 0 => 1 | false, 1 => 3 | false, 2 => 4 | true, 0 => 4 | true, 1 => 3 | true, 2 => 1
def prt (bf : Bool) (n : Fin 3) (d : Dev nD) : Dev nD := xor8 d (mask bf n)
theorem prt_prt : ∀ bf n d, prt bf n (prt bf n d) = d := by decide +kernel

def RSlot.lev : RSlot → Fin 3 | .a => 0 | .b => 0 | .c => 1 | .d => 1 | .e => 2
def GSlot.lev : GSlot → Fin 3 | .g0 => 2 | .g1 => 1 | .g2 => 0 | .g3 => 1 | .g4 => 0 | .g5 => 0 | .g6 => 0
def GSlot.w : GSlot → Fin 8 | .g0 => 0 | .g1 => 0 | .g2 => 0 | .g3 => 1 | .g4 => 1 | .g5 => 2 | .g6 => 3
/-- The share of the source a gather transfer reads through. -/
def GSlot.qtr : GSlot → Fin 4 | .g0 => 0 | .g1 => 1 | .g2 => 2 | .g3 => 0 | .g4 => 1 | .g5 => 0 | .g6 => 0
/-- The gather transfers that land where a reduction transfer was sent from. -/
def RSlot.back : RSlot → List GSlot | .a => [.g5, .g6] | .b => [.g2, .g4] | .c => [.g3] | .d => [.g1] | .e => [.g0]
def XK.lev : XK → Fin 3 | .rs _ _ s => s.lev | .ag _ _ s => s.lev
theorem peer_eq : ∀ (k : XK) (d : Dev nD), k.peer d = prt k.bf k.lev d := by decide +kernel
theorem lev_back : ∀ s : RSlot, ∀ g ∈ s.back, g.lev = s.lev := by decide

/-- Which of the three signals covers a partner. -/
def barOf : Bool → Fin 3 → Fin 3 | false, n => n | true, n => 2 - n
theorem barPeer_eq : ∀ bf n d, barPeer (barOf bf n) d = prt bf n d := by decide +kernel
theorem barPeer_barPeer : ∀ i d, barPeer i (barPeer i d) = d := by decide +kernel
/-- The reduction transfers to the device a signal goes to. -/
def barList : Fin 3 → List (Bool × Bool × RSlot)
  | 0 => [(false, false, .a), (false, false, .b), (true, false, .a), (true, false, .b), (false, true, .e), (true, true, .e)]
  | 1 => [(false, false, .c), (false, false, .d), (true, false, .c), (true, false, .d), (false, true, .c), (false, true, .d), (true, true, .c), (true, true, .d)]
  | 2 => [(false, false, .e), (true, false, .e), (false, true, .a), (false, true, .b), (true, true, .a), (true, true, .b)]
theorem barList_eq : ∀ i d, ∀ x ∈ barList i, prt x.2.1 x.2.2.lev d = barPeer i d := by decide +kernel

/-- The chunks a device adds a received block to, and so those its partner sent. -/
def addLo (bf : Bool) (s : RSlot) (d : Dev nD) : Fin 8 :=
  match s with
  | .a => ⟨2 * ((xor8 (vOf bf d) 2).val / 2), by have := (xor8 (vOf bf d) 2).2; omega⟩
  | .b => ⟨2 * ((vOf bf d).val / 2), by have := (vOf bf d).2; omega⟩
  | .c => xor8 (vOf bf d) 1 | .d => vOf bf d | .e => vOf bf d
def addHi (bf : Bool) (s : RSlot) (d : Dev nD) : Fin 8 := ⟨((addLo bf s d).val + 1) % 8, Nat.mod_lt _ (by decide)⟩
def RSlot.two : RSlot → Bool | .a => true | .b => true | _ => false
def addCh (bf : Bool) (s : RSlot) (d : Dev nD) : List (Fin 8) := match s.two with | true => [addLo bf s d, addHi bf s d] | false => [addLo bf s d]
def agCh (bf : Bool) (s : GSlot) (d : Dev nD) : Fin 8 := xor8 (vOf bf d) s.w

theorem rsOff_eq : ∀ bf s d, rsOff bf s d = addOff bf s (prt bf s.lev d) := by decide +kernel
theorem addOff_eq : ∀ bf s d, addOff bf s d = ![256 * (addLo bf s d).val, 0] := by decide +kernel
theorem addLo_two : ∀ bf s d, s.two = true → (addLo bf s d).val + 1 < 8 := by decide +kernel
theorem rows_two : ∀ s : RSlot, s.rows = if s.two then 512 else 256 := by decide
theorem agOff_eq : ∀ bf s d, agOff bf s d = ![256 * (agCh bf s d).val, 0] := by decide +kernel
theorem ownOff_eq : ∀ bf d, ownOff bf d = ![256 * (vOf bf d).val, 0] := by decide +kernel
theorem ldOff_eq : ∀ bf w d, ldOff bf w d = ![256 * (xor8 (vOf bf d) w).val, 0] := by decide +kernel
theorem outOff_eq : ∀ st bf w d, outOff st bf w d = ![512 * (sigma bf (xor8 (vOf bf d) w)).val + 256 * st.toNat, 512 * bf.toNat] := by decide +kernel
theorem sigma_vOf : ∀ bf d, sigma bf (vOf bf d) = d := by decide +kernel
theorem vOf_sigma : ∀ bf u, vOf bf (sigma bf u) = u := by decide +kernel
theorem back_add : ∀ bf (s : RSlot) d, (s.back.map fun g => agCh bf g d).Perm (addCh bf s d) := by decide +kernel

/-! ### Chunks of the accumulator -/
theorem unit_congr {s : Shape} {off off' size : Fin s.rank → Nat} (h : off = off') (i : ∀ a, off a + size a ≤ s.size a) (i' : ∀ a, off' a + size a ≤ s.size a) :
    Rect.unit (s := s) off size i = Rect.unit off' size i' := by subst h; rfl
theorem mem_chunkR {u : Fin 8} {i : S2048x512.Idx} : i ∈ (chunkR u).set ↔ (i 0).val / 256 = u.val := by
  rw [Rect.mem_set_unit]
  have h0 : (i 0).val < 2048 := (i 0).isLt
  have h1 : (i 1).val < 512 := (i 1).isLt
  constructor
  · intro h
    have := h 0
    simp at this; omega
  · intro h a
    match a with
    | 0 => simp; omega
    | 1 => simp; exact h1
theorem chunkR_disjoint {u u' : Fin 8} (h : u ≠ u') : Disjoint (chunkR u).set (chunkR u').set :=
  Finset.disjoint_left.mpr fun i h1 h2 => h (Fin.ext ((mem_chunkR.mp h1).symm.trans (mem_chunkR.mp h2)))
theorem ownR_eq (bf : Bool) (d : Dev nD) : ownR bf d = chunkR (vOf bf d) := unit_congr (ownOff_eq bf d) _ _
theorem ldR_eq (bf : Bool) (w : Fin 8) (d : Dev nD) : ldR bf w d = chunkR (xor8 (vOf bf d) w) := unit_congr (ldOff_eq bf w d) _ _
abbrev agR (bf : Bool) (s : GSlot) (d : Dev nD) : Rect S2048x512 := Rect.unit (s := S2048x512) (agOff bf s d) S256x512.size (agOff_inb bf s d)
abbrev rsR (bf : Bool) (s : RSlot) (d : Dev nD) : Rect S2048x512 := Rect.unit (s := S2048x512) (rsOff bf s d) s.sh.size (rsOff_inb bf s d)
theorem agR_eq (bf : Bool) (s : GSlot) (d : Dev nD) : agR bf s d = chunkR (agCh bf s d) := unit_congr (agOff_eq bf s d) _ _
theorem rsR_eq (bf : Bool) (s : RSlot) (d : Dev nD) : rsR bf s d = addR bf s (prt bf s.lev d) := unit_congr (rsOff_eq bf s d) _ _
theorem addHi_val (bf : Bool) (s : RSlot) (d : Dev nD) (h : s.two = true) : (addHi bf s d).val = (addLo bf s d).val + 1 := by
  have := addLo_two bf s d h; show ((addLo bf s d).val + 1) % 8 = _; omega
theorem addLo_ne_addHi : ∀ bf s d, s.two = true → addLo bf s d ≠ addHi bf s d := fun bf s d h e => by
  have := addHi_val bf s d h; rw [← e] at this; omega
theorem mem_addR {bf : Bool} {s : RSlot} {d : Dev nD} {i : S2048x512.Idx} :
    i ∈ (addR bf s d).set ↔ 256 * (addLo bf s d).val ≤ (i 0).val ∧ (i 0).val < 256 * (addLo bf s d).val + s.rows := by
  rw [Rect.mem_set_unit]
  have h1 : (i 1).val < 512 := (i 1).isLt
  constructor
  · intro h
    have := h 0
    rw [addOff_eq] at this
    exact ⟨this.1, this.2⟩
  · intro h a
    rw [addOff_eq]
    match a with
    | 0 => exact h
    | 1 => exact ⟨Nat.zero_le _, by show (i 1).val < 0 + 512; omega⟩
theorem addR_one (bf : Bool) (s : RSlot) (d : Dev nD) (h : s.two = false) : (addR bf s d).set = (chunkR (addLo bf s d)).set := by
  ext i
  rw [mem_addR, mem_chunkR, rows_two, h]
  have := (addLo bf s d).isLt
  simp; omega
theorem addR_two (bf : Bool) (s : RSlot) (d : Dev nD) (h : s.two = true) :
    (addR bf s d).set = (chunkR (addLo bf s d)).set ∪ (chunkR (addHi bf s d)).set := by
  ext i
  rw [Finset.mem_union, mem_addR, mem_chunkR, mem_chunkR, rows_two, h, addHi_val bf s d h]
  have := (addLo bf s d).isLt
  simp; omega
end Cert.KernelIdeal.Hcube
end
-- ==== Proof.Part.lean ====
module
public import proofs.«01_k».proof.Proof.Ops
public import Idealize.ShloMosaic.Lib.Pipeline.Launch
public import Idealize.ShloMosaic.Lib.Pipeline.Kit
public import Idealize.ShloMosaic.Lib.Tactic

/-! Ownership of part of a memory reference at given contents, and the memory operations over it. -/

@[expose] public section
noncomputable section
namespace Cert.KernelIdeal.Hcube
open Idealize.ShloMosaic Idealize.ShloMosaic.TcCoe
open Idealize.SL Idealize.SL.RA Idealize.SL.BI Idealize.SL.RA.PCS
open scoped Idealize.SL.BI
open Idealize.SL.BI.BIBase Idealize.SL.BI.Laws Idealize.SL.ProofMode Idealize.SL.Sem
open Idealize.ShloMosaic.Rounds
open Cert.KernelIdeal.Gen
variable {F : FTy → Type} [FloatOps F]

abbrev UU : Type := UR sig nD τ × URounds (GSem nD τ sig) (Fin 3)
local notation "𝕄" => MT nD τ sig Unit (Elt F) ℕ UU ℕ
abbrev 𝒱₀ : Variants := Variants.none

section Part
variable {sp : Space} {s : Shape} {e : EltTy}

/-- Device `c` holds share `q` of the elements of `m` at the indices `A`, and they read as `X`. -/
def part (c : Dev nD) (m : Memref sig .tc sp s e) (A : Finset s.Idx) (q : PosShare TreeShare) (X : s.Idx → Elt F e) : sProp 𝕄 :=
  iprop(∃ f : Buf (Elt F) (m.view.loc (c : Thread nD τ)), ⌜∀ i ∈ A, m.view.read (Elt F) f i = X i⌝ ∗ (m.view.loc (c : Thread nD τ) ↦[m.view.setOn A]{q} f))
/-- The same at contents nobody chose. -/
def junk (c : Dev nD) (m : Memref sig .tc sp s e) (A : Finset s.Idx) : sProp 𝕄 :=
  iprop(∃ f : Buf (Elt F) (m.view.loc (c : Thread nD τ)), (m.view.loc (c : Thread nD τ) ↦[m.view.setOn A]{fullShare} f))

instance part_storable (c : Dev nD) (m : Memref sig .tc sp s e) (A : Finset s.Idx) (q : PosShare TreeShare) (X : s.Idx → Elt F e) :
    BI.Storable (upEmb : UEmb _ 𝕄) (part c m A q X) := by unfold part; infer_instance
instance junk_storable (c : Dev nD) (m : Memref sig .tc sp s e) (A : Finset s.Idx) :
    BI.Storable (upEmb : UEmb _ 𝕄) (junk (F := F) c m A) := by unfold junk; infer_instance

theorem part_junk (c : Dev nD) (m : Memref sig .tc sp s e) (A : Finset s.Idx) (X : s.Idx → Elt F e) :
    (part c m A fullShare X : sProp 𝕄) ⊢ junk c m A := by
  unfold part junk; iintro ⟨%f, -, H⟩; iexists f; iexact H

theorem part_congr (c : Dev nD) (m : Memref sig .tc sp s e) {A : Finset s.Idx} {q : PosShare TreeShare} {X Y : s.Idx → Elt F e}
    (h : ∀ i ∈ A, X i = Y i) : (part c m A q X : sProp 𝕄) ⊢ part c m A q Y := by
  unfold part; iintro ⟨%f, %hf, H⟩; iexists f; isplitr
  · ipureintro; exact fun i hi => (hf i hi).trans (h i hi)
  · iexact H

theorem setOn_union (m : Memref sig .tc sp s e) (A B : Finset s.Idx) : m.view.setOn (A ∪ B) = m.view.setOn A ∪ m.view.setOn B :=
  Finset.map_union ..
theorem setOn_disjoint (m : Memref sig .tc sp s e) {A B : Finset s.Idx} (h : Disjoint A B) : Disjoint (m.view.setOn A) (m.view.setOn B) :=
  (Finset.disjoint_map _).mpr h

theorem part_split (c : Dev nD) (m : Memref sig .tc sp s e) {A B : Finset s.Idx} (h : Disjoint A B) (q : PosShare TreeShare) (X : s.Idx → Elt F e) :
    (part c m (A ∪ B) q X : sProp 𝕄) ⊢ iprop(part c m A q X ∗ part c m B q X) := by
  unfold part; rw [setOn_union]; iintro ⟨%f, %hf, H⟩
  ihave H := (pointsTo_union (setOn_disjoint m h)).1 $$ H
  icases H with ⟨H1, H2⟩
  isplitl [H1]
  · iexists f; isplitr
    · ipureintro; exact fun i hi => hf i (Finset.mem_union_left _ hi)
    · iexact H1
  · iexists f; isplitr
    · ipureintro; exact fun i hi => hf i (Finset.mem_union_right _ hi)
    · iexact H2

theorem part_join (c : Dev nD) (m : Memref sig .tc sp s e) {A B : Finset s.Idx} (h : Disjoint A B) (q : PosShare TreeShare) (X : s.Idx → Elt F e) :
    iprop(part c m A q X ∗ part c m B q X) ⊢ (part c m (A ∪ B) q X : sProp 𝕄) := by
  classical
  unfold part; rw [setOn_union]; iintro ⟨⟨%f, %hf, H1⟩, %g, %hg, H2⟩
  iexists (m.view.setOn B).piecewise g f
  isplitr
  · ipureintro; intro i hi
    rw [View.read_apply]
    by_cases hB : i ∈ B
    · rw [Finset.piecewise_eq_of_mem _ _ _ (m.view.mem_setOn.mpr hB), ← View.read_apply]; exact hg i hB
    · rw [Finset.piecewise_eq_of_notMem _ _ _ (fun h' => hB (m.view.mem_setOn.mp h')), ← View.read_apply]
      exact hf i ((Finset.mem_union.mp hi).resolve_right hB)
  · iapply (pointsTo_join (setOn_disjoint m h)); isplitl [H1] <;> iassumption

theorem junk_split (c : Dev nD) (m : Memref sig .tc sp s e) {A B : Finset s.Idx} (h : Disjoint A B) :
    (junk c m (A ∪ B) : sProp 𝕄) ⊢ iprop(junk c m A ∗ junk c m B) := by
  unfold junk; rw [setOn_union]; iintro ⟨%f, H⟩
  ihave H := (pointsTo_union (setOn_disjoint m h)).1 $$ H
  icases H with ⟨H1, H2⟩
  isplitl [H1] <;> (iexists f; iassumption)
theorem junk_join (c : Dev nD) (m : Memref sig .tc sp s e) {A B : Finset s.Idx} (h : Disjoint A B) :
    iprop(junk c m A ∗ junk c m B) ⊢ (junk c m (A ∪ B) : sProp 𝕄) := by
  classical
  unfold junk; rw [setOn_union]; iintro ⟨⟨%f, H1⟩, %g, H2⟩
  iexists (m.view.setOn B).piecewise g f
  iapply (pointsTo_join (setOn_disjoint m h)); isplitl [H1] <;> iassumption

/-- A share in two. -/
theorem part_share {q q₁ q₂ : PosShare TreeShare} (h : q ∈ q₁ ·? q₂) (c : Dev nD) (m : Memref sig .tc sp s e) (A : Finset s.Idx) (X : s.Idx → Elt F e) :
    (part c m A q X : sProp 𝕄) ⊢ iprop(part c m A q₁ X ∗ part c m A q₂ X) := by
  unfold part; iintro ⟨%f, %hf, H⟩
  ihave H := (pointsTo_share h).1 $$ H
  icases H with ⟨H1, H2⟩
  isplitl [H1]
  · iexists f; isplitr
    · ipureintro; exact hf
    · iexact H1
  · iexists f; isplitr
    · ipureintro; exact hf
    · iexact H2
theorem part_unshare {q q₁ q₂ : PosShare TreeShare} (h : q ∈ q₁ ·? q₂) (c : Dev nD) (m : Memref sig .tc sp s e) (A : Finset s.Idx) (X : s.Idx → Elt F e) :
    iprop(part c m A q₁ X ∗ part c m A q₂ X) ⊢ (part c m A q X : sProp 𝕄) := by
  unfold part; iintro ⟨⟨%f, %hf, H1⟩, %g, %hg, H2⟩
  have hJ : iprop((m.view.loc (c : Thread nD τ) ↦[m.view.setOn A]{q₁} f) ∗ (m.view.loc (c : Thread nD τ) ↦[m.view.setOn A]{q₂} g))
      ⊢ (m.view.loc (c : Thread nD τ) ↦[m.view.setOn A]{q} f : sProp 𝕄) := by
    rw [show (m.view.loc (c : Thread nD τ) ↦[m.view.setOn A]{q₂} g : sProp 𝕄) = (m.view.loc (c : Thread nD τ) ↦[m.view.setOn A]{q₂} f) from
      pointsTo_congr (fun i hi => by
        obtain ⟨j, hj, rfl⟩ := Finset.mem_map.mp hi
        have := (hg j hj).trans (hf j hj).symm
        rw [View.read_apply, View.read_apply] at this
        exact (cast_inj _).mp this)]
    exact (pointsTo_share h).2
  iexists f
  isplitr
  · ipureintro; exact hf
  · iapply hJ; isplitl [H1] <;> iassumption

variable {α : Type}

/-- A load from the part. -/
theorem part_load (c : Dev nD) {Q : α → sProp 𝕄} {cs : CoreSpace} {m : Memref sig .tc cs s e} {r : Rect s} {hl : m.view.LoadsAt r.toLoadRect}
    {k : (r.shape.Idx → Elt F e) → PG F α} {A : Finset s.Idx} {q : PosShare TreeShare} {X : s.Idx → Elt F e} (hA : r.set ⊆ A) :
    (part c m A q X : sProp 𝕄)
      ⊢ iprop((part c m A q X -∗ wp frame (wpE (defs₀ (F := F)) 𝒱₀ (c : Thread nD τ) none) Set.univ (k fun j => X (r.emb j)) Q)
        -∗ wp frame (wpE (defs₀ (F := F)) 𝒱₀ (c : Thread nD τ) none) Set.univ (.op (.load m r.toLoadRect hl) k) Q) := by
  unfold part; iintro ⟨%f, %hf, H⟩ Hk
  iapply (wp_load 𝒱₀ (c : Thread nD τ) none Set.univ (m := m) (r := r.toLoadRect) (S := m.view.setOn A) (Finset.map_subset_map.mpr hA)) $$ H
  iintro H
  rw [show m.view.readAt (Elt F) r.toLoadRect f = fun j => X (r.emb j) from funext fun j => hf _ (hA (r.idx_mem j))]
  iapply Hk; iexists f; isplitr
  · ipureintro; exact hf
  · iexact H

/-- A load whose value is not used. -/
theorem junk_load (c : Dev nD) {Q : α → sProp 𝕄} {cs : CoreSpace} {m : Memref sig .tc cs s e} {r : Rect s} {hl : m.view.LoadsAt r.toLoadRect}
    {k : (r.shape.Idx → Elt F e) → PG F α} {A : Finset s.Idx} (hA : r.set ⊆ A) :
    (junk c m A : sProp 𝕄)
      ⊢ iprop((∀ v, junk c m A -∗ wp frame (wpE (defs₀ (F := F)) 𝒱₀ (c : Thread nD τ) none) Set.univ (k v) Q)
        -∗ wp frame (wpE (defs₀ (F := F)) 𝒱₀ (c : Thread nD τ) none) Set.univ (.op (.load m r.toLoadRect hl) k) Q) := by
  unfold junk; iintro ⟨%f, H⟩ Hk
  iapply (wp_load 𝒱₀ (c : Thread nD τ) none Set.univ (m := m) (r := r.toLoadRect) (S := m.view.setOn A) (Finset.map_subset_map.mpr hA)) $$ H
  iintro H
  iapply Hk; iexists f; iexact H

/-- A store over the whole part. -/
theorem junk_store (c : Dev nD) {Q : α → sProp 𝕄} {cs : CoreSpace} {m : Memref sig .tc cs s e} {r : Rect s} {w : r.shape.Idx → Elt F e}
    {hx : (m.access r).Stores Finset.univ} {hm : Finset.univ = Finset.univ ∨ ∀ a, r.stride a = 1}
    {k : PUnit → PG F α} {X : s.Idx → Elt F e} (hX : ∀ j, w j = X (r.emb j)) :
    (junk c m r.set : sProp 𝕄)
      ⊢ iprop((part c m r.set fullShare X -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  unfold junk part; iintro ⟨%f, H⟩ Hk
  iapply (wp_store 𝒱₀ (c : Thread nD τ) none Set.univ (m := m) (r := r) (w := w) (Mk := Finset.univ) (S := m.view.setOn r.set)
    (show (m.view.slice r).set ⊆ _ by rw [View.set_slice]; exact subset_rfl)) $$ H
  iintro H
  iapply Hk; iexists _; isplitr [H]
  · ipureintro; intro i hi
    obtain ⟨j, rfl⟩ := r.exists_idx_of_mem hi
    exact (congrFun (View.read_write_univ (v := m.view.slice r) f w) j).trans (hX j)
  · iexact H

/-- The elements of a slice, as elements of what it is sliced from. -/
theorem slice_part (c : Dev nD) {sp : Space} {s : Shape} {e : EltTy} (m : Memref sig .tc sp s e) (r : Rect s) (h : ∀ a, r.stride a = 1) (q : PosShare TreeShare)
    (X : s.Idx → Elt F e) : (part c (m.slice r h) Finset.univ q (fun j => X (r.emb j)) : sProp 𝕄) ⊢ part c m r.set q X := by
  unfold part; iintro ⟨%f, %hf, H⟩
  iexists f; isplitr
  · ipureintro; intro i hi
    obtain ⟨j, rfl⟩ := r.exists_idx_of_mem hi
    exact hf j (Finset.mem_univ j)
  · rw [show m.view.setOn r.set = (m.slice r h).view.setOn Finset.univ from (View.set_slice ..).symm]; iexact H
theorem part_slice (c : Dev nD) {sp : Space} {s : Shape} {e : EltTy} (m : Memref sig .tc sp s e) (r : Rect s) (h : ∀ a, r.stride a = 1) (q : PosShare TreeShare)
    (X : s.Idx → Elt F e) : (part c m r.set q X : sProp 𝕄) ⊢ part c (m.slice r h) Finset.univ q (fun j => X (r.emb j)) := by
  unfold part; iintro ⟨%f, %hf, H⟩
  iexists f; isplitr
  · ipureintro; exact fun j _ => hf _ (r.idx_mem j)
  · rw [show m.view.setOn r.set = (m.slice r h).view.setOn Finset.univ from (View.set_slice ..).symm]; iexact H
theorem slice_junk (c : Dev nD) {sp : Space} {s : Shape} {e : EltTy} (m : Memref sig .tc sp s e) (r : Rect s) (h : ∀ a, r.stride a = 1) :
    (junk c (m.slice r h) Finset.univ : sProp 𝕄) ⊢ junk (F := F) c m r.set := by
  unfold junk; iintro ⟨%f, H⟩
  iexists f
  rw [show m.view.setOn r.set = (m.slice r h).view.setOn Finset.univ from (View.set_slice ..).symm]; iexact H
theorem junk_slice (c : Dev nD) {sp : Space} {s : Shape} {e : EltTy} (m : Memref sig .tc sp s e) (r : Rect s) (h : ∀ a, r.stride a = 1) :
    (junk c m r.set : sProp 𝕄) ⊢ junk (F := F) c (m.slice r h) Finset.univ := by
  unfold junk; iintro ⟨%f, H⟩
  iexists f
  rw [show m.view.setOn r.set = (m.slice r h).view.setOn Finset.univ from (View.set_slice ..).symm]; iexact H
/-- A load of all of a slice. -/
theorem slice_load (c : Dev nD) {Q : α → sProp 𝕄} {cs : CoreSpace} {m : Memref sig .tc cs s e} {r : Rect s} {h : ∀ a, r.stride a = 1} {hl : m.view.LoadsAt r.toLoadRect}
    {k : (r.shape.Idx → Elt F e) → PG F α} {q : PosShare TreeShare} {Y : r.shape.Idx → Elt F e} :
    (part c (m.slice r h) Finset.univ q Y : sProp 𝕄)
      ⊢ iprop((part c (m.slice r h) Finset.univ q Y -∗ wp frame (wpE (defs₀ (F := F)) 𝒱₀ (c : Thread nD τ) none) Set.univ (k Y) Q)
        -∗ wp frame (wpE (defs₀ (F := F)) 𝒱₀ (c : Thread nD τ) none) Set.univ (.op (.load m r.toLoadRect hl) k) Q) := by
  unfold part; iintro ⟨%f, %hf, H⟩ Hk
  iapply (wp_load_rect 𝒱₀ (c : Thread nD τ) none Set.univ (m := m) (r := r) (S := (m.slice r h).view.setOn Finset.univ) subset_rfl) $$ H
  iintro H
  rw [show (m.access r).read (Elt F) f = Y from funext fun j => hf j (Finset.mem_univ j)]
  iapply Hk; iexists f; isplitr
  · ipureintro; exact hf
  · iexact H
end Part

/-- The resources of a list. -/
def sepL {α : Type} (Φ : α → sProp 𝕄) : List α → sProp 𝕄
  | [] => iprop(emp)
  | x :: l => iprop(Φ x ∗ sepL Φ l)
instance sepL_storable {α : Type} (Φ : α → sProp 𝕄) [h : ∀ x, BI.Storable (upEmb : UEmb _ 𝕄) (Φ x)] (l : List α) :
    BI.Storable (upEmb : UEmb _ 𝕄) (sepL (F := F) Φ l) := by
  induction l with
  | nil => unfold sepL; infer_instance
  | cons x l ih => unfold sepL; infer_instance
theorem sepL_append {α : Type} (Φ : α → sProp 𝕄) (l l' : List α) : sepL Φ (l ++ l') ⊢ (iprop(sepL Φ l ∗ sepL Φ l') : sProp 𝕄) := by
  induction l with
  | nil => rw [List.nil_append]; unfold sepL; iintro H; isplitr; · iempintro
           cases l' <;> iexact H
  | cons x l ih =>
    rw [List.cons_append]
    show iprop(Φ x ∗ sepL Φ (l ++ l')) ⊢ iprop((Φ x ∗ sepL Φ l) ∗ sepL Φ l')
    iintro ⟨H, Hl⟩
    ihave Hl := ih $$ Hl
    icases Hl with ⟨H1, H2⟩
    isplitr [H2]
    · isplitl [H] <;> iassumption
    · iexact H2
theorem append_sepL {α : Type} (Φ : α → sProp 𝕄) (l l' : List α) : (iprop(sepL Φ l ∗ sepL Φ l') : sProp 𝕄) ⊢ sepL Φ (l ++ l') := by
  induction l with
  | nil => rw [List.nil_append]; iintro ⟨-, H⟩; iexact H
  | cons x l ih =>
    rw [List.cons_append]
    show iprop((Φ x ∗ sepL Φ l) ∗ sepL Φ l') ⊢ iprop(Φ x ∗ sepL Φ (l ++ l'))
    iintro ⟨⟨H, H1⟩, H2⟩
    isplitl [H]; · iexact H
    iapply ih; isplitl [H1] <;> iassumption
theorem sepL_mono {α : Type} {Φ Ψ : α → sProp 𝕄} (h : ∀ x, Φ x ⊢ Ψ x) (l : List α) : sepL Φ l ⊢ (sepL Ψ l : sProp 𝕄) := by
  induction l with
  | nil => unfold sepL; iintro H; iexact H
  | cons x l ih =>
    show iprop(Φ x ∗ sepL Φ l) ⊢ iprop(Ψ x ∗ sepL Ψ l)
    iintro ⟨H1, H2⟩
    isplitl [H1]
    · iapply (h x); iexact H1
    · iapply ih; iexact H2
/-- Taking one occurrence of each element of `l'` out of `l`. -/
def takeOut {α : Type} [DecidableEq α] (x : α) : List α → Option (List α)
  | [] => none
  | y :: l => if x = y then some l else (takeOut x l).map (y :: ·)
def takeAll {α : Type} [DecidableEq α] : List α → List α → Option (List α)
  | [], l => some l
  | x :: xs, l => (takeOut x l).bind (takeAll xs)
theorem takeOut_sound {α : Type} [DecidableEq α] (Φ : α → sProp 𝕄) {x : α} : ∀ {l l' : List α}, takeOut x l = some l' →
    sepL Φ l ⊢ (iprop(Φ x ∗ sepL Φ l') : sProp 𝕄)
  | [], _, h => by cases h
  | y :: l, l', h => by
    unfold takeOut at h
    split at h
    · next hxy => subst hxy; obtain rfl := Option.some.inj h; exact Entails.refl _
    · obtain ⟨l₂, h₂, rfl⟩ := Option.map_eq_some_iff.mp h
      show iprop(Φ y ∗ sepL Φ l) ⊢ iprop(Φ x ∗ Φ y ∗ sepL Φ l₂)
      iintro ⟨Hy, Hl⟩
      ihave Hl := (takeOut_sound Φ h₂) $$ Hl
      icases Hl with ⟨Hx, Hl⟩
      isplitl [Hx]; · iexact Hx
      isplitl [Hy] <;> iassumption
theorem takeAll_sound {α : Type} [DecidableEq α] (Φ : α → sProp 𝕄) : ∀ {xs l l' : List α}, takeAll xs l = some l' →
    sepL Φ l ⊢ (iprop(sepL Φ xs ∗ sepL Φ l') : sProp 𝕄)
  | [], l, l', h => by
    obtain rfl := Option.some.inj h
    iintro H; isplitr
    · unfold sepL; iempintro
    · iexact H
  | x :: xs, l, l', h => by
    obtain ⟨l₂, h₁, h₂⟩ := Option.bind_eq_some_iff.mp h
    show sepL Φ l ⊢ iprop((Φ x ∗ sepL Φ xs) ∗ sepL Φ l')
    iintro H
    ihave H := (takeOut_sound Φ h₁) $$ H
    icases H with ⟨Hx, H⟩
    ihave H := (takeAll_sound Φ h₂) $$ H
    icases H with ⟨H1, H2⟩
    isplitr [H2]
    · isplitl [Hx] <;> iassumption
    · iexact H2
end Cert.KernelIdeal.Hcube
end
-- ==== Proof.Cells.lean ====
module
public import proofs.«01_k».proof.Proof.Geom
public import proofs.«01_k».proof.Proof.Part
public import Idealize.ShloMosaic.Lib.ShareLeaves

/-! What the buffers hold in the course of the run; the semaphore cells and what each hands over. -/

@[expose] public section
noncomputable section
namespace Cert.KernelIdeal.Hcube
open Idealize.ShloMosaic Idealize.ShloMosaic.TcCoe
open Idealize.SL Idealize.SL.RA Idealize.SL.BI Idealize.SL.RA.PCS
open scoped Idealize.SL.BI
open Idealize.SL.BI.BIBase Idealize.SL.BI.Laws Idealize.SL.ProofMode Idealize.SL.Sem
open Idealize.ShloMosaic.Rounds
open Cert.KernelIdeal.Gen
variable {F : FTy → Type} [FloatOps F]
local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

variable (m : (ℓ : Loc nD τ sig) → Buf (Elt F) ℓ)

/-! ### Contents -/
def ix2 {a b : Nat} (i : Fin a) (j : Fin b) : (⟨2, ![a, b]⟩ : Shape).Idx := fun x => match x with | 0 => i | 1 => j
/-- The device's block of `t`, and its copy of `W`. -/
def tX (d : Dev nD) : S4096x1024.Idx → Elt F .f32 := tHM.view.read (Elt F) (m (tHM.view.loc (d : Thread nD τ)))
def wX (d : Dev nD) : S1024x1024.Idx → Elt F .f32 := wHM.view.read (Elt F) (m (wHM.view.loc (d : Thread nD τ)))
/-- The element of `t` an element of the accumulator starts from. -/
def tIdx (st bf : Bool) (i : S2048x512.Idx) : S4096x1024.Idx :=
  ix2 ⟨512 * (sigma bf ⟨(i 0).val / 256 % 8, Nat.mod_lt _ (by decide)⟩).val + 256 * st.toNat + (i 0).val % 256, by
      have := (sigma bf ⟨(i 0).val / 256 % 8, Nat.mod_lt _ (by decide)⟩).isLt; have := Bool.toNat_le st; omega⟩
    ⟨512 * bf.toNat + (i 1).val, by have h : (i 1).val < 512 := (i 1).isLt; have := Bool.toNat_le bf; omega⟩
/-- The accumulator after `n` exchanges. -/
def lvl (st bf : Bool) : ℕ → Dev nD → S2048x512.Idx → Elt F .bf16
  | 0, d, i => FloatOps.truncf .bf16 bitsLt_bf16_f32 (tX m d (tIdx st bf i))
  | n + 1, d, i => FloatOps.addf (lvl st bf n d i) (lvl st bf n (prt bf (Fin.ofNat 3 n) d) i)
/-- The device's rows of the sum. -/
def ownV (st : Bool) (d : Dev nD) : FVec F S256x1024 .bf16 :=
  payOwn (fun j => lvl m st false 3 d ((chunkR (vOf false d)).emb j)) (fun j => lvl m st true 3 d ((chunkR (vOf true d)).emb j))
def wB (d : Dev nD) : S1024x1024.Idx → Elt F .bf16 := payW (wX m d)
def halfV (st bf : Bool) (d : Dev nD) : FVec F S256x512 .f32 := payHalf (ownV m st d) (fun j => wB m d ((wR bf).emb j))
/-- The accumulator after the gather: the result, chunk by chunk. -/
def gX (st bf : Bool) (i : S2048x512.Idx) : Elt F .bf16 :=
  payAcc (halfV m st bf (sigma bf ⟨(i 0).val / 256 % 8, Nat.mod_lt _ (by decide)⟩))
    (ix2 ⟨(i 0).val % 256, Nat.mod_lt _ (by decide)⟩ ⟨(i 1).val % 512, Nat.mod_lt _ (by decide)⟩)
/-- A block of the result as a device stores it. -/
def outX (st bf : Bool) (w : Fin 8) (d : Dev nD) : FVec F S256x512 .f32 :=
  if w = 0 then halfV m st bf d
  else extf .f32 (fun j => gX m st bf ((chunkR (xor8 (vOf bf d) w)).emb j) : FVec F S256x512 .bf16) bitsLt_bf16_f32
/-- What lands in a landing buffer of `c`. -/
def rbX (st bf : Bool) (s : RSlot) (c : Dev nD) : (XK.rs st bf s).sh.Idx → Elt F .bf16 :=
  fun (j : s.sh.Idx) => lvl m st bf s.lev.val (prt bf s.lev c) ((addR bf s c).emb j)

theorem chunk_emb0 (u : Fin 8) (j : S256x512.Idx) : ((chunkR u).emb j 0).val = 256 * u.val + (j 0).val := by
  rw [Rect.emb_apply]; show 256 * u.val + 1 * (j 0).val = _; omega
theorem chunk_emb1 (u : Fin 8) (j : S256x512.Idx) : ((chunkR u).emb j 1).val = (j 1).val := by
  rw [Rect.emb_apply]; show 0 + 1 * (j 1).val = _; omega
theorem gX_chunk (st bf : Bool) (u : Fin 8) (j : S256x512.Idx) :
    gX m st bf ((chunkR u).emb j) = payAcc (halfV m st bf (sigma bf u)) j := by
  have h0 : (j 0).val < 256 := (j 0).isLt
  have h1 : (j 1).val < 512 := (j 1).isLt
  have hu : (⟨((chunkR u).emb j 0).val / 256 % 8, Nat.mod_lt _ (by decide)⟩ : Fin 8) = u :=
    Fin.ext (by have := u.isLt; show ((chunkR u).emb j 0).val / 256 % 8 = _; rw [chunk_emb0]; omega)
  have hj : (ix2 ⟨((chunkR u).emb j 0).val % 256, Nat.mod_lt _ (by decide)⟩ ⟨((chunkR u).emb j 1).val % 512, Nat.mod_lt _ (by decide)⟩ : S256x512.Idx) = j := by
    funext a
    match a with
    | 0 => exact Fin.ext (by show ((chunkR u).emb j 0).val % 256 = _; rw [chunk_emb0]; omega)
    | 1 => exact Fin.ext (by show ((chunkR u).emb j 1).val % 512 = _; rw [chunk_emb1]; omega)
  unfold gX; rw [hu, hj]
abbrev initR (st bf : Bool) (u : Fin 8) : Rect S4096x1024 :=
  Rect.unit (s := S4096x1024) ![512 * (sigma bf u).val + 256 * st.toNat, 512 * bf.toNat] S256x512.size (inb_init st bf u)
abbrev tR (st : Bool) (u : Fin 8) : Rect S4096x1024 := Rect.unit (s := S4096x1024) ![512 * u.val + 256 * st.toNat, 0] S256x1024.size (inb_t st u)
theorem tIdx_chunk (st bf : Bool) (u : Fin 8) (j : S256x512.Idx) : tIdx st bf ((chunkR u).emb j) = (initR st bf u).emb j := by
  have h0 : (j 0).val < 256 := (j 0).isLt
  have hu : (⟨((chunkR u).emb j 0).val / 256 % 8, Nat.mod_lt _ (by decide)⟩ : Fin 8) = u :=
    Fin.ext (by have := u.isLt; show ((chunkR u).emb j 0).val / 256 % 8 = _; rw [chunk_emb0]; omega)
  funext a
  refine Fin.ext ?_
  rw [Rect.emb_apply]
  match a with
  | 0 =>
    show 512 * (sigma bf ⟨((chunkR u).emb j 0).val / 256 % 8, _⟩).val + 256 * st.toNat + ((chunkR u).emb j 0).val % 256
      = 512 * (sigma bf u).val + 256 * st.toNat + 1 * (j 0).val
    rw [hu, chunk_emb0]; omega
  | 1 => show 512 * bf.toNat + ((chunkR u).emb j 1).val = 512 * bf.toNat + 1 * (j 1).val; rw [chunk_emb1]; omega
theorem initR_sub (st bf : Bool) (u : Fin 8) : (initR st bf u).set ⊆ (tR st (sigma bf u)).set := by
  intro i hi
  rw [Rect.mem_set_unit] at hi ⊢
  intro a
  match a with
  | 0 => exact hi 0
  | 1 => exact ⟨Nat.zero_le _, by show (i 1).val < 0 + 1024; have h : (i 1).val < 1024 := (i 1).isLt; omega⟩

/-! ### Cells -/
inductive DK
  | snd (k : XK) | rcv (k : XK) | tin (st : Bool) (u : Fin 8) | win | out (st bf : Bool) (w : Fin 8)
  deriving DecidableEq
def DK.sem : DK → DmaSem sig
  | .snd k => k.ssem | .rcv k => k.rsem | .tin st u => inSem (tNum st u) | .win => inSem 0 | .out st bf w => oSem st bf w
def allXK : List XK :=
  (bools.flatMap fun st => bools.flatMap fun bf => [RSlot.a, .b, .c, .d, .e].map (.rs st bf)) ++
  (bools.flatMap fun st => bools.flatMap fun bf => [GSlot.g0, .g1, .g2, .g3, .g4, .g5, .g6].map (.ag st bf))
def allT : List (Bool × Fin 8) := bools.flatMap fun st => chunks.map fun u => (st, u)
def allO : List (Bool × Bool × Fin 8) := bools.flatMap fun st => bools.flatMap fun bf => chunks.map fun w => (st, bf, w)
def allDK : List DK :=
  allXK.map .snd ++ allXK.map .rcv ++ allT.map (fun p => .tin p.1 p.2) ++ [.win] ++ allO.map fun p => .out p.1 p.2.1 p.2.2
theorem mem_allXK (k : XK) : k ∈ allXK := by
  cases k with
  | rs st bf s => revert st bf s; decide
  | ag st bf s => revert st bf s; decide
theorem mem_allDK (k : DK) : k ∈ allDK := by
  unfold allDK
  simp only [List.mem_append]
  cases k with
  | snd k => exact .inl (.inl (.inl (.inl (List.mem_map_of_mem (mem_allXK k)))))
  | rcv k => exact .inl (.inl (.inl (.inr (List.mem_map_of_mem (mem_allXK k)))))
  | tin st u => exact .inl (.inl (.inr (by revert st u; decide)))
  | win => exact .inl (.inr (by decide))
  | out st bf w => exact .inr (by revert st bf w; decide)
theorem nodup_allDK : allDK.Nodup := by decide +kernel
instance : Fintype DK := ⟨⟨allDK, nodup_allDK⟩, mem_allDK⟩
/-- The semaphore's position, for telling the cells apart. -/
theorem sems_nodup : (allDK.map DK.sem).Nodup := by decide +kernel
theorem DK.sem_inj : Function.Injective DK.sem := fun a b h =>
  List.inj_on_of_nodup_map sems_nodup (mem_allDK a) (mem_allDK b) h
open Classical in
def dkOf (s : DmaSem sig) : Option DK := if h : ∃ k : DK, k.sem = s then some h.choose else none
theorem dkOf_sem (k : DK) : dkOf k.sem = some k := by
  unfold dkOf
  have h : ∃ k' : DK, k'.sem = k.sem := ⟨k, rfl⟩
  rw [dif_pos h, DK.sem_inj h.choose_spec]
abbrev dcell (c : Dev nD) (k : DK) : GSem nD τ sig := ((c : Thread nD τ), .dma k.sem)
abbrev bcell (c : Dev nD) : GSem nD τ sig := ((c : Thread nD τ), .reg barSem)
/-- What a transfer credits. -/
def DK.amt : DK → ℕ
  | .snd k => (k.dst 0).view.dmaCredit | .rcv k => (k.dst 0).view.dmaCredit | .tin st u => (tSlice tVM st u).view.dmaCredit
  | .win => (wVM : Memref sig .tc .vmem S1024x1024 .f32).view.dmaCredit | .out st bf w => (outV st bf w 0).view.dmaCredit
theorem amt_dst (k : XK) (d : Dev nD) : (k.dst d).view.dmaCredit = (DK.rcv k).amt := by
  cases k with
  | rs st bf s => cases s <;> rfl
  | ag st bf s => rfl
theorem amt_src (k : XK) (d : Dev nD) : (k.src d).view.dmaCredit = (DK.rcv k).amt := by
  cases k with
  | rs st bf s => cases st <;> cases bf <;> cases s <;> rfl
  | ag st bf s => rfl
theorem amt_pos (k : DK) : 0 < k.amt := by
  cases k with
  | snd k => exact View.dmaCredit_pos _ (by cases k with | rs st bf s => exact h_rs s | ag _ _ _ => exact h_S256x512)
  | rcv k => exact View.dmaCredit_pos _ (by cases k with | rs st bf s => exact h_rs s | ag _ _ _ => exact h_S256x512)
  | tin st u => exact View.dmaCredit_pos _ (by decide)
  | win => exact View.dmaCredit_pos _ (by decide)
  | out st bf w => exact View.dmaCredit_pos _ h_S256x512

/-! ### Payloads -/
abbrev accP (c : Dev nD) (st bf : Bool) (u : Fin 8) (q : PosShare TreeShare) (X : S2048x512.Idx → Elt F .bf16) : sProp 𝕄 :=
  part c (accM st bf) (chunkR u).set q X
abbrev accJ (c : Dev nD) (st bf : Bool) (u : Fin 8) : sProp 𝕄 := junk c (accM st bf) (chunkR u).set
/-- A quarter of ownership. -/
def qtr (i : Fin 4) : PosShare TreeShare :=
  match i with
  | 0 => fullShare.left.left | 1 => fullShare.left.right | 2 => fullShare.right.left | 3 => fullShare.right.right
/-- The destination, at the peer, of a transfer of `c`. -/
def dstJ (c : Dev nD) : XK → sProp 𝕄
  | .rs st bf s => junk (prt bf s.lev c) ((XK.rs st bf s).dst c) Finset.univ
  | .ag st bf s => accJ (prt bf s.lev c) st bf (agCh bf s c)
def barPay (c : Dev nD) (i : Fin 3) : sProp 𝕄 := sepL (fun x : Bool × Bool × RSlot => dstJ c (.rs x.1 x.2.1 x.2.2)) (barList i)
def dPay (c : Dev nD) : DK → sProp 𝕄
  | .snd (.rs _ _ _) => iprop(emp)
  | .snd (.ag st bf s) => accP c st bf (agCh bf s c) (qtr s.qtr) (gX m st bf)
  | .rcv (.rs st bf s) => iprop(part c ((XK.rs st bf s).dst c) Finset.univ fullShare (rbX m st bf s c) ∗ sepL (fun g => dstJ c (.ag st bf g)) s.back)
  | .rcv (.ag st bf s) => accP c st bf (agCh bf s (prt bf s.lev c)) fullShare (gX m st bf)
  | .tin st u => part c tVM (tR st u).set fullShare (tX m c)
  | .win => part c wVM Finset.univ fullShare (wX m c)
  | .out st bf w => iprop(part c (outV st bf w c) Finset.univ fullShare (outX m st bf w c) ∗ junk c stgM (slotR bf w).set)
instance dstJ_storable (c : Dev nD) (k : XK) : BI.Storable (upEmb : UEmb _ 𝕄) (dstJ (F := F) c k) := by
  cases k <;> (unfold dstJ; infer_instance)
instance barPay_storable (c : Dev nD) (i : Fin 3) : BI.Storable (upEmb : UEmb _ 𝕄) (barPay (F := F) c i) := by
  unfold barPay; infer_instance
instance dPay_storable (c : Dev nD) (k : DK) : BI.Storable (upEmb : UEmb _ 𝕄) (dPay m c k) := by
  match k with
  | .snd (.rs _ _ _) => show BI.Storable upEmb iprop(emp); infer_instance
  | .snd (.ag st bf s) => show BI.Storable upEmb (accP ..); infer_instance
  | .rcv (.rs st bf s) =>
    have h := sepL_storable (F := F) (fun g => dstJ c (.ag st bf g)) s.back
    show BI.Storable upEmb iprop(part .. ∗ sepL ..); infer_instance
  | .rcv (.ag st bf s) => show BI.Storable upEmb (accP ..); infer_instance
  | .tin st u => show BI.Storable upEmb (part ..); infer_instance
  | .win => show BI.Storable upEmb (part ..); infer_instance
  | .out st bf w => show BI.Storable upEmb iprop(part .. ∗ junk ..); infer_instance

/-! ### The schedule -/
def duties0 : SemLoc sig → Finset (Fin 3)
  | .reg s => if s = barSem then Finset.univ else ∅
  | .dma s => match dkOf s with | some _ => {0} | none => ∅
def amount0 : SemLoc sig → ℕ
  | .reg s => 1
  | .dma s => match dkOf s with | some k => k.amt | none => 1
def payload0 (c : Dev nD) (i : Fin 3) : SemLoc sig → sProp 𝕄
  | .reg s => barPay c i
  | .dma s => match dkOf s with | some k => dPay m c k | none => iprop(emp)
def Rd : Rounds.Schedule (GSem nD τ sig) (Fin 3) 𝕄 where
  duties g r := if r = 0 ∧ g.1.2 = .tc then duties0 g.2 else ∅
  amount g _ _ := amount0 g.2
  payload g _ i := payload0 m g.1.1 i g.2
  amount_pos g _ _ _ := by
    show 0 < amount0 g.2
    unfold amount0
    cases g.2 with
    | reg s => exact Nat.one_pos
    | dma s =>
      show 0 < (match dkOf s with | some k => k.amt | none => 1)
      cases dkOf s with
      | none => exact Nat.one_pos
      | some k => exact amt_pos k
instance Rd_payload_storable (g : GSem nD τ sig) (r : ℕ) (i : Fin 3) : BI.Storable (upEmb : UEmb _ 𝕄) ((Rd (F := F) m).payload g r i) := by
  show BI.Storable upEmb (payload0 m g.1.1 i g.2)
  unfold payload0
  cases g.2 with
  | reg s => show BI.Storable upEmb (barPay g.1.1 i); infer_instance
  | dma s =>
    show BI.Storable upEmb (match dkOf s with | some k => dPay m g.1.1 k | none => iprop(emp))
    cases dkOf s with
    | none => show BI.Storable upEmb iprop(emp); infer_instance
    | some k => show BI.Storable upEmb (dPay m g.1.1 k); infer_instance

theorem duties_d (c : Dev nD) (k : DK) : (Rd (F := F) m).duties (dcell c k) 0 = {0} := by
  show (if 0 = 0 ∧ (Proc.tc : Proc τ) = .tc then duties0 (.dma k.sem) else ∅) = _
  rw [if_pos ⟨rfl, rfl⟩]
  show (match dkOf k.sem with | some _ => ({0} : Finset (Fin 3)) | none => ∅) = _
  rw [dkOf_sem]
theorem duties_b (c : Dev nD) : (Rd (F := F) m).duties (bcell c) 0 = Finset.univ := by
  show (if 0 = 0 ∧ (Proc.tc : Proc τ) = .tc then duties0 (.reg barSem) else ∅) = _
  rw [if_pos ⟨rfl, rfl⟩]; unfold duties0; exact if_pos rfl
theorem duties_later (g : GSem nD τ sig) : ∀ r, 1 ≤ r → (Rd (F := F) m).duties g r = ∅ :=
  fun r hr => if_neg fun h => by omega
theorem amount_d (c : Dev nD) (k : DK) (i : Fin 3) : (Rd (F := F) m).amount (dcell c k) 0 i = k.amt := by
  show (match dkOf k.sem with | some k => k.amt | none => 1) = _
  rw [dkOf_sem]
theorem payload_d (c : Dev nD) (k : DK) (i : Fin 3) : (Rd (F := F) m).payload (dcell c k) 0 i = dPay m c k := by
  show (match dkOf k.sem with | some k => dPay m c k | none => iprop(emp)) = _
  rw [dkOf_sem]
theorem expect_d (c : Dev nD) (k : DK) : (Rd (F := F) m).expect (dcell c k) 0 = k.amt := by
  unfold Schedule.expect Schedule.amountOf; rw [duties_d, Finset.sum_singleton, amount_d]
theorem expect_b (c : Dev nD) : (Rd (F := F) m).expect (bcell c) 0 = 3 := by
  unfold Schedule.expect Schedule.amountOf; rw [duties_b]; rfl
theorem rest_d (c : Dev nD) (k : DK) :
    bigSep ((Rd (F := F) m).duties (dcell c k) 0 \ ∅) (fun i => (Rd (F := F) m).payload (dcell c k) 0 i) = dPay m c k := by
  rw [Finset.sdiff_empty, duties_d, bigSep_singleton, payload_d]
theorem rest_b (c : Dev nD) :
    bigSep ((Rd (F := F) m).duties (bcell c) 0 \ ∅) (fun i => (Rd (F := F) m).payload (bcell c) 0 i)
      = (iprop(barPay c 0 ∗ barPay c 1 ∗ barPay c 2) : sProp 𝕄) := by
  rw [Finset.sdiff_empty, duties_b]
  exact bigSep_univ_eq_bigSepL [(0 : Fin 3), 1, 2] (by decide) (by decide) (fun i => barPay (F := F) c i)
end Cert.KernelIdeal.Hcube
end
-- ==== Proof.Moves.lean ====
module
public import proofs.«01_k».proof.Proof.Cells

/-! What a device owes, the levels of its waits, and one rule for each kind of transfer and wait. -/

@[expose] public section
noncomputable section
namespace Cert.KernelIdeal.Hcube
open Idealize.ShloMosaic Idealize.ShloMosaic.TcCoe
open Idealize.SL Idealize.SL.RA Idealize.SL.BI Idealize.SL.RA.PCS
open scoped Idealize.SL.BI
open Idealize.SL.BI.BIBase Idealize.SL.BI.Laws Idealize.SL.ProofMode Idealize.SL.Sem
open Idealize.ShloMosaic.Rounds
open Cert.KernelIdeal.Gen
variable {F : FTy → Type} [FloatOps F]
local notation "𝕄" => MT nD τ sig Unit (Elt F) ℕ UU ℕ
variable (m : (ℓ : Loc nD τ sig) → Buf (Elt F) ℓ)

/-! ### Levels -/
/-- How far on in the program a transfer is issued. -/
def ordOf : XK → ℕ
  | .rs st _ s => match st, s with
    | false, .a => 1 | false, .b => 2 | false, .c => 2 | false, .d => 3 | false, .e => 3
    | true, .a => 4 | true, .b => 6 | true, .c => 6 | true, .d => 8 | true, .e => 8
  | .ag st _ s => match st, s with
    | false, .g0 => 5 | false, .g1 => 5 | false, .g2 => 5 | false, .g3 => 7 | false, .g4 => 7 | false, .g5 => 9 | false, .g6 => 9
    | true, .g0 => 10 | true, .g1 => 10 | true, .g2 => 10 | true, .g3 => 11 | true, .g4 => 11 | true, .g5 => 12 | true, .g6 => 12
def dlev : DK → ℕ | .rcv k => 2 + ordOf k | _ => 0
def L (g : GSem nD τ sig) : Finset Unit := if g.1.2 = .tc then {()} else ∅
def slev : SemLoc sig → ℕ
  | .reg _ => 1
  | .dma s => match dkOf s with | some k => dlev k | none => 0
def lv (g : GSem nD τ sig) (_ : Unit) : ℕ := slev g.2
theorem L_of_ne (g : GSem nD τ sig) (h : g.1.2 ≠ .tc) : L g = ∅ := if_neg h
theorem L_tc (c : Dev nD) (sm : SemLoc sig) : L ((c : Thread nD τ), sm) = {()} := if_pos rfl
theorem slev_d (k : DK) : slev (.dma k.sem) = dlev k := by
  show (match dkOf k.sem with | some k => dlev k | none => 0) = _
  rw [dkOf_sem]

/-- What a device has yet to pay: a signal, or the credit of a transfer. -/
inductive Pay | bar (i : Fin 3) | xf (k : XK)
  deriving DecidableEq
def Pay.cell (c : Dev nD) : Pay → GSem nD τ sig
  | .bar i => bcell (barPeer i c) | .xf k => dcell (prt k.bf k.lev c) (.rcv k)
def Pay.amt : Pay → ℕ | .bar _ => 1 | .xf k => (DK.rcv k).amt
def Pay.lev : Pay → ℕ | .bar _ => 1 | .xf k => 2 + ordOf k
def owedL (c : Dev nD) : List Pay → CellTallies nD τ sig Unit
  | [] => 0
  | p :: l => owedL c l + tallyAt (p.cell c) () p.amt
theorem owedL_pos {c : Dev nD} {l : List Pay} {g : GSem nD τ sig} {u : Unit} (h : 0 < owedL c l g u) : ∃ p ∈ l, g = p.cell c := by
  induction l with
  | nil => exact absurd h (Nat.lt_irrefl 0)
  | cons p l ih =>
    unfold owedL at h
    rw [Pi.add_apply, Finsupp.add_apply, tallyAt_apply] at h
    by_cases hg : g = p.cell c
    · exact ⟨p, List.mem_cons_self, hg⟩
    · rw [if_neg (fun h' => hg h'.1)] at h
      obtain ⟨p', hp, e⟩ := ih h
      exact ⟨p', List.mem_cons_of_mem _ hp, e⟩
theorem Pay.tc (c : Dev nD) (p : Pay) : (p.cell c).1.2 = .tc := by cases p <;> rfl
theorem Pay.lv_cell (c : Dev nD) (p : Pay) : lv (p.cell c) () = p.lev := by
  cases p with
  | bar i => rfl
  | xf k => exact slev_d (.rcv k)
theorem mayWait (c : Dev nD) (s : SemLoc sig) (todo : List Pay) (h : ∀ p ∈ todo, slev s < p.lev) :
    (levAts L lv : sProp 𝕄) ⊢ MayWait (c : Thread nD τ) s () (owedL c todo) :=
  MayOwe.of_cut (L := L) (lev := lv) (slev s) (fun p hp => by rw [Finset.mem_singleton.mp hp, L_tc]; exact Finset.mem_singleton_self _)
    (fun g u hg => by
      obtain ⟨p, -, rfl⟩ := owedL_pos hg
      unfold L; rw [if_pos (p.tc c)]; exact Finset.mem_singleton_self _)
    (fun p hp => by rw [Finset.mem_singleton.mp hp]; exact le_refl _)
    (fun g u hg => by
      obtain ⟨p, hp, rfl⟩ := owedL_pos hg
      rw [show lv (p.cell c) u = p.lev from p.lv_cell c]; exact h p hp)

/-! ### The records every device shares -/
abbrev kcell (ck : Dev nD × Option DK) : GSem nD τ sig := match ck.2 with | none => bcell ck.1 | some k => dcell ck.1 k
abbrev Names : Type := Dev nD × Option DK → ℕ
def records (K : Names) : sProp 𝕄 :=
  iprop((bigSep Finset.univ fun ck : Dev nD × Option DK => cellInv ER (Rd m) (K ck) (kcell ck))
    ∗ (bigSep Finset.univ fun ck : Dev nD × Option DK => reached ER (kcell ck) 0) ∗ levAts L lv)
instance records_persistent (K : Names) : BI.Persistent (records m K) := by unfold records; infer_instance
theorem rec_inv (K : Names) (ck : Dev nD × Option DK) : records m K ⊢ cellInv ER (Rd m) (K ck) (kcell ck) := by

  have h : (bigSep Finset.univ fun ck : Dev nD × Option DK => cellInv ER (Rd m) (K ck) (kcell ck)) ⊢ cellInv ER (Rd m) (K ck) (kcell ck) :=
    bigSep_elim (Finset.mem_univ ck)
  unfold records; iintro ⟨H, -⟩; iapply h; iexact H
theorem rec_reached (K : Names) (ck : Dev nD × Option DK) : records m K ⊢ reached ER (kcell ck) 0 := by

  have h : (bigSep Finset.univ fun ck : Dev nD × Option DK => (reached ER (kcell ck) 0 : sProp 𝕄)) ⊢ reached ER (kcell ck) 0 :=
    bigSep_elim (Finset.mem_univ ck)
  unfold records; iintro ⟨-, H, -⟩; iapply h; iexact H
theorem rec_lev (K : Names) : records m K ⊢ levAts L lv := by unfold records; iintro ⟨-, -, H⟩; iexact H

def owesS (c : Dev nD) (todo : List Pay) : sProp 𝕄 := iprop(∃ W, owes (c : Thread nD τ) (owedL c todo) W)
/-- At the beginning of a cell, before a wait on it, after the wait. -/
def posn (c : Dev nD) (k : DK) : sProp 𝕄 := atPos ER (dcell c k) 0 ∅ 0
def wait1 (c : Dev nD) (k : DK) : sProp 𝕄 := iprop(posn c k ∗ cred (tallyAt (dcell c k) () k.amt))
def tok (c : Dev nD) (k : DK) : sProp 𝕄 := dutyTok ER (dcell c k) 0 0

variable {α : Type} (K : Names)

theorem wait_dma (c : Dev nD) (k : DK) (todo : List Pay) (hl : ∀ p ∈ todo, dlev k < p.lev) {Q : α → sProp 𝕄}
    {sp sp' : Space} {s s' : Shape} {e e' : EltTy} {src : Memref sig .tc sp s e} {dst : Memref sig .tc sp' s' e'}
    {h1 : src.view.WordExact} {h2 : dst.view.WordExact} {kk : PUnit → PG F α} (hA : dst.view.dmaCredit = k.amt) :
    iprop(records m K ∗ wait1 c k ∗ owesS c todo)
      ⊢ iprop(((semVal (dcell c k) 0 ∗ dPay m c k ∗ owesS c todo) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 k.sem src dst h1 h2) kk) Q) := by
  unfold wait1 owesS posn
  iintro ⟨#HR, ⟨Hat, Hc⟩, ⟨%W, HO⟩⟩ Hk
  iapply (Rounds.wp_wait_rest_token 𝒱₀ ER (Rd m) (c : Thread nD τ) none (κ := K (c, some k))
      (wpE_waitDma2_eq 𝒱₀ (c : Thread nD τ) none Set.univ) (Set.mem_univ _) () (O := owedL c todo) (W := W) (R := 0) (m := 0) (T := ∅)
      (by rw [Nat.zero_add, expect_d, hA])) $$ [Hc HO Hat]
  · isplitr; · iapply (rec_inv m K (c, some k)); iexact HR
    isplitl [Hc]; · rw [hA]; iexact Hc
    isplitl [HO]; · iexact HO
    isplitr
    · iapply (mayWait c (.dma k.sem) todo (by rw [slev_d]; exact hl)); iapply (rec_lev m K); iexact HR
    iexact Hat
  iintro ⟨HO, Hat, -, Hpay⟩
  ihave Hp := (Entails.of_eq (rest_d m c k)) $$ Hpay
  imod (Rounds.cell_close ER (Rd m) (Set.mem_univ (K (c, some k))) (fun h => h) (R := 0 + 1) (duties_later m (dcell c k))) $$ [Hat] with Hz
  · isplitr; · iapply (rec_inv m K (c, some k)); iexact HR
    iexact Hat
  iapply Hk
  isplitl [Hz]; · iexact Hz
  isplitl [Hp]; · iexact Hp
  iexists _; iexact HO

theorem wait_bar (c : Dev nD) (todo : List Pay) (hl : ∀ p ∈ todo, 1 < p.lev) {Q : α → sProp 𝕄} {kk : PUnit → PG F α} :
    iprop(records m K ∗ (atPos ER (bcell c) 0 ∅ 0 ∗ cred (tallyAt (bcell c) () 3)) ∗ owesS c todo)
      ⊢ iprop(((semVal (bcell c) 0 ∗ (barPay c 0 ∗ barPay c 1 ∗ barPay c 2) ∗ owesS c todo) -∗ wp frame (wpE (defs₀ (F := F)) 𝒱₀ (c : Thread nD τ) none) Set.univ (kk ⟨⟩) Q)
        -∗ wp frame (wpE (defs₀ (F := F)) 𝒱₀ (c : Thread nD τ) none) Set.univ (.op (.semWait barSem (3#32 : BitVec 32).toInt) kk) Q) := by
  unfold owesS
  iintro ⟨#HR, ⟨Hat, Hc⟩, ⟨%W, HO⟩⟩ Hk
  iapply (Rounds.wp_wait_rest_token 𝒱₀ ER (Rd m) (c : Thread nD τ) none (κ := K (c, none))
      (wpE_semWait_eq 𝒱₀ (c : Thread nD τ) none Set.univ) (Set.mem_univ _) () (O := owedL c todo) (W := W) (R := 0) (m := 0) (T := ∅)
      (by rw [expect_b]; decide)) $$ [Hc HO Hat]
  · isplitr; · iapply (rec_inv m K (c, none)); iexact HR
    isplitl [Hc]; · iexact Hc
    isplitl [HO]; · iexact HO
    isplitr
    · iapply (mayWait c (.reg barSem) todo hl); iapply (rec_lev m K); iexact HR
    iexact Hat
  iintro ⟨HO, Hat, -, Hpay⟩
  ihave Hp := (Entails.of_eq (rest_b m c)) $$ Hpay
  imod (Rounds.cell_close ER (Rd m) (Set.mem_univ (K (c, none))) (fun h => h) (R := 0 + 1) (duties_later m (bcell c))) $$ [Hat] with Hz
  · isplitr; · iapply (rec_inv m K (c, none)); iexact HR
    iexact Hat
  iapply Hk
  isplitl [Hz]; · iexact Hz
  isplitl [Hp]; · iexact Hp
  iexists _; iexact HO

theorem signal (c : Dev nD) (i : Fin 3) (todo : List Pay) {Q : α → sProp 𝕄} {kk : PUnit → PG F α} :
    iprop(records m K ∗ dutyTok ER (bcell (barPeer i c)) 0 i ∗ barPay (barPeer i c) i ∗ owesS c (.bar i :: todo))
      ⊢ iprop((owesS c todo -∗ wp frame (wpE (defs₀ (F := F)) 𝒱₀ (c : Thread nD τ) none) Set.univ (kk ⟨⟩) Q)
        -∗ wp frame (wpE (defs₀ (F := F)) 𝒱₀ (c : Thread nD τ) none) Set.univ (.op (.semSignal (barPeer i c, Proc.tc) barSem (1#32 : BitVec 32).toInt) kk) Q) := by
  unfold owesS
  iintro ⟨#HR, Ht, Hp, ⟨%W, HO⟩⟩ Hk
  iapply (Rounds.wp_signal 𝒱₀ ER (Rd m) (c : Thread nD τ) none (dst := (barPeer i c : Thread nD τ)) (κ := K (barPeer i c, none))
      (d := i) (by rw [duties_b]; exact Finset.mem_univ _) (show (1 : ℕ) = _ by decide) () (owedL c todo) rfl) $$ [HO Ht Hp]
  · isplitr; · iapply (rec_inv m K (barPeer i c, none)); iexact HR
    isplitl [HO]; · iexact HO
    isplitl [Ht]; · iexact Ht
    isplitl [Hp]; · rw [show (Rd m).payload ((barPeer i c : Thread nD τ), .reg barSem) 0 i = barPay (barPeer i c) i from rfl]; iexact Hp
    iapply (rec_reached m K (barPeer i c, none)); iexact HR
  iintro HO
  iapply Hk; iexists _; iexact HO

/-- A copy within the device. -/
theorem copy_dma (c : Dev nD) (k : DK) {Q : α → sProp 𝕄} {sp sp' : Space} {s : Shape} {e : EltTy} {src : Memref sig .tc sp s e} {dst : Memref sig .tc sp' s e}
    {h1 : src.view.WordExact} {h2 : dst.view.WordExact} {h3 : DmaTarget.Typed (nD := nD) (τ := τ) (p := Proc.tc) sp (.dma k.sem) (.here dst)} {kk : PUnit → PG F α} (hA : dst.view.dmaCredit = k.amt)
    {q : PosShare TreeShare} {X : s.Idx → Elt F e} (hpay : iprop(part c dst Finset.univ fullShare X ∗ part c src Finset.univ q X) ⊢ dPay m c k) :
    iprop(records m K ∗ tok c k ∗ part c src Finset.univ q X ∗ junk c dst Finset.univ)
      ⊢ iprop((cred (tallyAt (dcell c k) () k.amt) -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma src (.here dst) (.dma k.sem) h1 h2 h3) kk) Q) := by
  unfold tok part junk
  iintro ⟨#HR, Ht, ⟨%fs, %hfs, Hs⟩, ⟨%fd, Hd⟩⟩ Hk
  iapply (Rounds.wp_copy_pointsTo 𝒱₀ ER (Rd m) (c : Thread nD τ) none (κ := K (c, some k)) (r := 0) (d := 0) (fd := fd) (fs := fs) (q := q)
      (by rw [duties_d]; exact Finset.mem_singleton_self _) () k.amt (show dst.view.amount (.dma k.sem) = k.amt from hA) (amount_d m c k 0)
      (by
        rw [payload_d]
        refine BIBase.Entails.trans ?_ hpay
        unfold part
        iintro ⟨H1, H2⟩
        isplitl [H1]
        · iexists _; isplitr [H1]
          · ipureintro; intro i _; exact (congrFun (View.read_write_univ (v := dst.view) fd (src.view.read (Elt F) fs)) i).trans (hfs i (Finset.mem_univ i))
          · iexact H1
        · iexists fs; isplitr
          · ipureintro; exact hfs
          · iexact H2)) $$ [Hs Hd Ht]
  · isplitr; · iapply (rec_inv m K (c, some k)); iexact HR
    isplitl [Hs]; · iexact Hs
    isplitl [Hd]; · iexact Hd
    isplitl [Ht]; · iexact Ht
    iapply (rec_reached m K (c, some k)); iexact HR
  iexact Hk

/-- A transfer to a peer, the source share coming back at the departure. -/
theorem send_back (c p : Dev nD) (kS kR : DK) (pay : Pay) (todo : List Pay) (hc : pay.cell c = dcell p kR) (ha : pay.amt = kR.amt) (haS : kS.amt = kR.amt)
    {Q : α → sProp 𝕄} {kk : PUnit → PG F α}
    {s : Shape} {e : EltTy} {src : Memref sig .tc .vmem s e} {dst : Memref sig .tc .vmem s e} {hsc : dst.view.ref.isScScratch = false}
    {h1 : src.view.WordExact} {h2 : dst.view.WordExact} {h3 : DmaTarget.Typed (nD := nD) (τ := τ) (p := Proc.tc) .vmem (.dma kR.sem) (.remote (p : Thread nD τ) dst (.dma kS.sem) hsc)}
    (hA : dst.view.dmaCredit = kR.amt) {q : PosShare TreeShare} {X : s.Idx → Elt F e} (hpay₁ : part c src Finset.univ q X ⊢ dPay m c kS)
    (hpay₂ : part p dst Finset.univ fullShare X ⊢ dPay m p kR) :
    iprop(records m K ∗ (tok c kS ∗ tok p kR) ∗ part c src Finset.univ q X ∗ junk p dst Finset.univ ∗ owesS c (pay :: todo))
      ⊢ iprop(((cred (tallyAt (dcell c kS) () kS.amt) ∗ owesS c todo) -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma src (.remote (p : Thread nD τ) dst (.dma kS.sem) hsc) (.dma kR.sem) h1 h2 h3) kk) Q) := by
  unfold tok junk owesS
  iintro ⟨#HR, ⟨Ht1, Ht2⟩, Hs, ⟨%fd, Hd⟩, ⟨%W, HO⟩⟩ Hk
  unfold part
  icases Hs with ⟨%fs, %hfs, Hs⟩
  rw [haS]
  iapply (Rounds.wp_send_pointsTo 𝒱₀ ER (Rd m) (c : Thread nD τ) none (κ₁ := K (c, some kS)) (κ₂ := K (p, some kR))
      (r₁ := 0) (r₂ := 0) (d₁ := 0) (d₂ := 0) (fd := fd) (fs := fs) (q := q)
      (by rw [duties_d]; exact Finset.mem_singleton_self _) (by rw [duties_d]; exact Finset.mem_singleton_self _)
      () () kR.amt (show dst.view.amount (.dma kR.sem) = kR.amt from hA) ((amount_d m c kS 0).trans haS) (amount_d m p kR 0) (owedL c todo)
      (by show owedL c todo + tallyAt (pay.cell c) () pay.amt = _; rw [hc, ha]) (W := W)
      (by
        rw [payload_d]
        refine BIBase.Entails.trans ?_ hpay₁
        unfold part
        iintro H1
        iexists fs; isplitr
        · ipureintro; exact hfs
        · iexact H1)
      (by
        rw [payload_d]
        refine BIBase.Entails.trans ?_ hpay₂
        unfold part
        iintro H1
        iexists _; isplitr [H1]
        · ipureintro; intro i _; exact (congrFun (View.read_write_univ (v := dst.view) fd (src.view.read (Elt F) fs)) i).trans (hfs i (Finset.mem_univ i))
        · iexact H1)) $$ [Hs Hd Ht1 Ht2 HO]
  · isplitr; · iapply (rec_inv m K (c, some kS)); iexact HR
    isplitr; · iapply (rec_inv m K (p, some kR)); iexact HR
    isplitl [Hs]; · iexact Hs
    isplitl [Hd]; · iexact Hd
    isplitl [HO]; · iexact HO
    isplitl [Ht1]; · iexact Ht1
    isplitr; · iapply (rec_reached m K (c, some kS)); iexact HR
    isplitl [Ht2]; · iexact Ht2
    iapply (rec_reached m K (p, some kR)); iexact HR
  iintro ⟨Hc, HO⟩
  iapply Hk
  isplitl [Hc]; · iexact Hc
  iexists _; iexact HO

/-- A transfer to a peer, the source going to the receiver. -/
theorem send_over (c p : Dev nD) (kS kR : DK) (pay : Pay) (todo : List Pay) (hc : pay.cell c = dcell p kR) (ha : pay.amt = kR.amt) (haS : kS.amt = kR.amt)
    {Q : α → sProp 𝕄} {kk : PUnit → PG F α}
    {s : Shape} {e : EltTy} {src : Memref sig .tc .vmem s e} {dst : Memref sig .tc .vmem s e} {hsc : dst.view.ref.isScScratch = false}
    {h1 : src.view.WordExact} {h2 : dst.view.WordExact} {h3 : DmaTarget.Typed (nD := nD) (τ := τ) (p := Proc.tc) .vmem (.dma kR.sem) (.remote (p : Thread nD τ) dst (.dma kS.sem) hsc)}
    (hA : dst.view.dmaCredit = kR.amt) {X : s.Idx → Elt F e} (hpay₁ : (iprop(emp) : sProp 𝕄) ⊢ dPay m c kS)
    (hpay₂ : iprop(part p dst Finset.univ fullShare X ∗ part c src Finset.univ fullShare X) ⊢ dPay m p kR) :
    iprop(records m K ∗ (tok c kS ∗ tok p kR) ∗ part c src Finset.univ fullShare X ∗ junk p dst Finset.univ ∗ owesS c (pay :: todo))
      ⊢ iprop(((cred (tallyAt (dcell c kS) () kS.amt) ∗ owesS c todo) -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma src (.remote (p : Thread nD τ) dst (.dma kS.sem) hsc) (.dma kR.sem) h1 h2 h3) kk) Q) := by
  unfold tok junk owesS
  iintro ⟨#HR, ⟨Ht1, Ht2⟩, Hs, ⟨%fd, Hd⟩, ⟨%W, HO⟩⟩ Hk
  unfold part
  icases Hs with ⟨%fs, %hfs, Hs⟩
  rw [haS]
  iapply (Rounds.wp_send_landing_pointsTo 𝒱₀ ER (Rd m) (c : Thread nD τ) none (κ₁ := K (c, some kS)) (κ₂ := K (p, some kR))
      (r₁ := 0) (r₂ := 0) (d₁ := 0) (d₂ := 0) (fd := fd) (fs := fs) (q := fullShare)
      (by rw [duties_d]; exact Finset.mem_singleton_self _) (by rw [duties_d]; exact Finset.mem_singleton_self _)
      () () kR.amt (show dst.view.amount (.dma kR.sem) = kR.amt from hA) ((amount_d m c kS 0).trans haS) (amount_d m p kR 0) (owedL c todo)
      (by show owedL c todo + tallyAt (pay.cell c) () pay.amt = _; rw [hc, ha]) (W := W)
      (by
        rw [payload_d]
        exact hpay₁)
      (by
        rw [payload_d]
        refine BIBase.Entails.trans ?_ hpay₂
        unfold part
        iintro ⟨H1, H2⟩
        isplitl [H1]
        · iexists _; isplitr [H1]
          · ipureintro; intro i _; exact (congrFun (View.read_write_univ (v := dst.view) fd (src.view.read (Elt F) fs)) i).trans (hfs i (Finset.mem_univ i))
          · iexact H1
        · iexists fs; isplitr
          · ipureintro; exact hfs
          · iexact H2)) $$ [Hs Hd Ht1 Ht2 HO]
  · isplitr; · iapply (rec_inv m K (c, some kS)); iexact HR
    isplitr; · iapply (rec_inv m K (p, some kR)); iexact HR
    isplitl [Hs]; · iexact Hs
    isplitl [Hd]; · iexact Hd
    isplitl [HO]; · iexact HO
    isplitl [Ht1]; · iexact Ht1
    isplitr; · iapply (rec_reached m K (c, some kS)); iexact HR
    isplitl [Ht2]; · iexact Ht2
    iapply (rec_reached m K (p, some kR)); iexact HR
  iintro ⟨Hc, HO⟩
  iapply Hk
  isplitl [Hc]; · iexact Hc
  iexists _; iexact HO
end Cert.KernelIdeal.Hcube
end
-- ==== Proof.Rules.lean ====
module
public import proofs.«01_k».proof.Proof.Moves
public import Idealize.ShloMosaic.Lib.Pipeline.Value
public import Idealize.ShloMosaic.Lib.Pointwise.ElementwiseCore

/-! One rule for each instruction that computes. -/

@[expose] public section
noncomputable section
namespace Cert.KernelIdeal.Hcube
open Idealize.ShloMosaic Idealize.ShloMosaic.TcCoe
open Idealize.SL Idealize.SL.RA Idealize.SL.BI Idealize.SL.RA.PCS
open scoped Idealize.SL.BI
open Idealize.SL.BI.BIBase Idealize.SL.BI.Laws Idealize.SL.ProofMode Idealize.SL.Sem
open Idealize.ShloMosaic.Rounds
open Cert.KernelIdeal.Gen
variable {F : FTy → Type} [FloatOps F]
local notation "𝕄" => MT nD τ sig Unit (Elt F) ℕ UU ℕ
variable (m : (ℓ : Loc nD τ sig) → Buf (Elt F) ℓ)

/-! ### Lists of resources -/
theorem sepL_perm {α : Type} (Φ : α → sProp 𝕄) {l l' : List α} (h : l.Perm l') : sepL Φ l ⊢ (sepL Φ l' : sProp 𝕄) := by
  induction h with
  | nil => iintro H; iexact H
  | cons x _ ih =>
    show iprop(Φ x ∗ sepL Φ _) ⊢ iprop(Φ x ∗ sepL Φ _)
    iintro ⟨H1, H2⟩
    isplitl [H1]; · iexact H1
    iapply ih; iexact H2
  | swap x y l =>
    show iprop(Φ y ∗ Φ x ∗ sepL Φ l) ⊢ iprop(Φ x ∗ Φ y ∗ sepL Φ l)
    iintro ⟨H1, H2, H3⟩
    isplitl [H2]; · iexact H2
    isplitl [H1] <;> iassumption
  | trans _ _ ih1 ih2 => exact BIBase.Entails.trans ih1 ih2
theorem sepL_map {α β : Type} (Φ : β → sProp 𝕄) (f : α → β) : ∀ l : List α, sepL Φ (l.map f) = (sepL (fun x => Φ (f x)) l : sProp 𝕄)
  | [] => rfl
  | x :: l => by show iprop(Φ (f x) ∗ sepL Φ (l.map f)) = iprop(Φ (f x) ∗ sepL (fun x => Φ (f x)) l); rw [sepL_map Φ f l]
theorem sepL_mem {α : Type} {Φ Ψ : α → sProp 𝕄} : ∀ (l : List α), (∀ x ∈ l, Φ x ⊢ Ψ x) → sepL Φ l ⊢ (sepL Ψ l : sProp 𝕄)
  | [], _ => by unfold sepL; iintro H; iexact H
  | x :: l, h => by
    have h1 := h x List.mem_cons_self
    have h2 := sepL_mem l fun y hy => h y (List.mem_cons_of_mem _ hy)
    show iprop(Φ x ∗ sepL Φ l) ⊢ iprop(Ψ x ∗ sepL Ψ l)
    iintro ⟨H1, H2⟩
    isplitl [H1]
    · iapply h1; iexact H1
    · iapply h2; iexact H2

/-! ### Blocks of the accumulator by chunk -/
theorem add_join (c : Dev nD) (st bf : Bool) (s : RSlot) (d : Dev nD) (X : S2048x512.Idx → Elt F .bf16) :
    sepL (fun u => accP c st bf u fullShare X) (addCh bf s d) ⊢ (part c (accM st bf) (addR bf s d).set fullShare X : sProp 𝕄) := by
  unfold addCh accP
  cases h : s.two with
  | false => rw [addR_one bf s d h]; simp only [sepL]; iintro ⟨H, -⟩; iexact H
  | true =>
    rw [addR_two bf s d h]; simp only [sepL]
    iintro ⟨H1, H2, -⟩
    iapply (part_join c (accM st bf) (chunkR_disjoint (addLo_ne_addHi bf s d h)) fullShare X); isplitl [H1] <;> iassumption
theorem add_split (c : Dev nD) (st bf : Bool) (s : RSlot) (d : Dev nD) (X : S2048x512.Idx → Elt F .bf16) :
    (part c (accM st bf) (addR bf s d).set fullShare X : sProp 𝕄) ⊢ sepL (fun u => accP c st bf u fullShare X) (addCh bf s d) := by
  unfold addCh accP
  cases h : s.two with
  | false =>
    rw [addR_one bf s d h]; simp only [sepL]; iintro H
    isplitl
    · iexact H
    · iempintro
  | true =>
    rw [addR_two bf s d h]; simp only [sepL]
    iintro H
    ihave H := (part_split c (accM st bf) (chunkR_disjoint (addLo_ne_addHi bf s d h)) fullShare X) $$ H
    icases H with ⟨H1, H2⟩
    isplitl [H1]; · iexact H1
    isplitl [H2]; · iexact H2
    iempintro

/-! ### Quarters -/
theorem to_quarters (c : Dev nD) (st bf : Bool) (u : Fin 8) (X : S2048x512.Idx → Elt F .bf16) :
    (accP c st bf u fullShare X : sProp 𝕄) ⊢ iprop(accP c st bf u (qtr 0) X ∗ accP c st bf u (qtr 1) X ∗ accP c st bf u (qtr 2) X ∗ accP c st bf u (qtr 3) X) := by
  unfold accP qtr
  iintro H
  ihave H := (part_share (PosShare.mem_left_op_right fullShare) c (accM st bf) (chunkR u).set X) $$ H
  icases H with ⟨H1, H2⟩
  ihave H1 := (part_share (PosShare.mem_left_op_right fullShare.left) c (accM st bf) (chunkR u).set X) $$ H1
  ihave H2 := (part_share (PosShare.mem_left_op_right fullShare.right) c (accM st bf) (chunkR u).set X) $$ H2
  icases H1 with ⟨H1, H3⟩
  icases H2 with ⟨H2, H4⟩
  isplitl [H1]; · iexact H1
  isplitl [H3]; · iexact H3
  isplitl [H2] <;> iassumption
theorem of_quarters (c : Dev nD) (st bf : Bool) (u : Fin 8) (X : S2048x512.Idx → Elt F .bf16) :
    iprop(accP c st bf u (qtr 0) X ∗ accP c st bf u (qtr 1) X ∗ accP c st bf u (qtr 2) X ∗ accP c st bf u (qtr 3) X) ⊢ (accP c st bf u fullShare X : sProp 𝕄) := by
  unfold accP qtr
  iintro ⟨H1, H2, H3, H4⟩
  iapply (part_unshare (PosShare.mem_left_op_right fullShare) c (accM st bf) (chunkR u).set X)
  isplitl [H1 H2]
  · iapply (part_unshare (PosShare.mem_left_op_right fullShare.left) c (accM st bf) (chunkR u).set X); isplitl [H1] <;> iassumption
  · iapply (part_unshare (PosShare.mem_left_op_right fullShare.right) c (accM st bf) (chunkR u).set X); isplitl [H3] <;> iassumption

/-! ### A slot of the staging buffer -/
def parW (w : Fin 8) : Fin 8 := ⟨w.val % 2, by omega⟩
theorem slotR_par (bf : Bool) (w : Fin 8) : slotR bf (parW w) = slotR bf w :=
  unit_congr (by rw [show slotNum bf (parW w) = slotNum bf w by unfold slotNum parW; simp]) _ _
theorem part_squeeze (c : Dev nD) {sp : Space} {s s' : Shape} {e : EltTy} (M : Memref sig .tc sp s e) (h : s.Squeezes s') (h' : s'.ShapeCasts s) (q : PosShare TreeShare) (v : s'.Idx → Elt F e) :
    (part c M Finset.univ q (shapeCast s v h') : sProp 𝕄) ⊢ part c (M.squeeze s' h) Finset.univ q v := by
  unfold part
  iintro ⟨%f, %hf, H⟩
  iexists f
  isplitr [H]
  · ipureintro
    intro i _
    have h1 := hf (Shape.reshapeEquiv h.numel_eq i) (Finset.mem_univ _)
    refine Eq.trans ?_ (h1.trans ?_)
    · rfl
    · exact congrFun (shapeCast_shapeCast v h' h.numel_eq) i
  · rw [show (M.squeeze s' h).view.setOn Finset.univ = M.view.setOn Finset.univ from View.set_reshape (v := M.view) h.numel_eq]; iexact H
theorem squeeze_junk (c : Dev nD) {sp : Space} {s s' : Shape} {e : EltTy} (M : Memref sig .tc sp s e) (h : s.Squeezes s') :
    (junk c (M.squeeze s' h) Finset.univ : sProp 𝕄) ⊢ junk (F := F) c M Finset.univ := by
  unfold junk
  iintro ⟨%f, H⟩
  iexists f
  rw [show M.view.setOn Finset.univ = (M.squeeze s' h).view.setOn Finset.univ from (View.set_reshape (v := M.view) h.numel_eq).symm]; iexact H

/-! ### Positions -/
theorem unit_emb {s : Shape} {off off' size : Fin s.rank → Nat} (h : off = off') (i : ∀ a, off a + size a ≤ s.size a) (i' : ∀ a, off' a + size a ≤ s.size a)
    (j : (Rect.unit (s := s) off size i).shape.Idx) : (Rect.unit (s := s) off size i).emb j = (Rect.unit (s := s) off' size i').emb j := by subst h; rfl
theorem ownR_emb (bf : Bool) (c : Dev nD) (j : S256x512.Idx) : (ownR bf c).emb j = (chunkR (vOf bf c)).emb j :=
  unit_emb (s := S2048x512) (size := S256x512.size) (ownOff_eq bf c) _ _ j
theorem ldR_emb (bf : Bool) (w : Fin 8) (c : Dev nD) (j : S256x512.Idx) : (ldR bf w c).emb j = (chunkR (xor8 (vOf bf c) w)).emb j :=
  unit_emb (s := S2048x512) (size := S256x512.size) (ldOff_eq bf w c) _ _ j
theorem whole_emb (j : S1024x1024.Idx) : wholeR.emb j = j := by
  funext a
  refine Fin.ext ?_
  rw [Rect.emb_apply]
  match a with
  | 0 => show 0 + 1 * (j 0).val = (j 0).val; omega
  | 1 => show 0 + 1 * (j 1).val = (j 1).val; omega
theorem whole_set : wholeR.set = Finset.univ := by
  ext i; rw [← whole_emb i]; exact ⟨fun _ => Finset.mem_univ _, fun _ => wholeR.idx_mem i⟩

variable {α : Type}
abbrev WP (c : Dev nD) (p : PG F α) (Q : α → sProp 𝕄) : sProp 𝕄 := wp frame (wpE (defs₀ (F := F)) 𝒱₀ (c : Thread nD τ) none) Set.univ p Q

theorem r_init (c : Dev nD) (st bf : Bool) (u : Fin 8) (Q : α → sProp 𝕄) (k : PUnit → PG F α) :
    iprop(part c tVM (tR st (sigma bf u)).set fullShare (tX m c) ∗ accJ c st bf u)
      ⊢ iprop((part c tVM (tR st (sigma bf u)).set fullShare (tX m c) -∗ accP c st bf u fullShare (lvl m st bf 0 c) -∗ WP c (k ⟨⟩) Q) -∗ WP c ((initOp st bf u).bind k) Q) := by
  unfold initOp
  simp only [Prog.lift, Prog.bind_op, Prog.bind_ret, Prog.pure_eq_ret, bind]
  iintro ⟨Ht, Ha⟩ Hk
  iapply (part_load c (r := initR st bf u) (initR_sub st bf u)) $$ Ht
  iintro Ht
  iapply (junk_load c (r := chunkR u) subset_rfl) $$ Ha
  iintro %v Ha
  iapply (junk_store c (r := chunkR u) (X := lvl m st bf 0 c) (fun j => by
    unfold payInit; rw [shapeCast_self]
    show FloatOps.truncf .bf16 bitsLt_bf16_f32 (tX m c ((initR st bf u).emb j)) = FloatOps.truncf .bf16 bitsLt_bf16_f32 (tX m c (tIdx st bf ((chunkR u).emb j)))
    rw [tIdx_chunk])) $$ Ha
  iintro Ha
  iapply Hk $$ Ht Ha

theorem r_cast (c : Dev nD) (Q : α → sProp 𝕄) (k : PUnit → PG F α) :
    iprop(part c wVM Finset.univ fullShare (wX m c) ∗ junk c wBM Finset.univ)
      ⊢ iprop((part c wVM Finset.univ fullShare (wX m c) -∗ part c wBM Finset.univ fullShare (wB m c) -∗ WP c (k ⟨⟩) Q) -∗ WP c (castOp.bind k) Q) := by
  have e1 : junk (F := F) c wBM Finset.univ ⊢ junk c wBM wholeR.set := by rw [whole_set]
  have e2 : part c wBM wholeR.set fullShare (wB m c) ⊢ part c wBM Finset.univ fullShare (wB m c) := by rw [whole_set]
  unfold castOp
  simp only [Prog.lift, Prog.bind_op, Prog.bind_ret, Prog.pure_eq_ret, bind]
  iintro ⟨Ht, Ha⟩ Hk
  iapply (part_load c (r := wholeR) (Finset.subset_univ _)) $$ Ht
  iintro Ht
  iapply (junk_load c (r := wholeR) (Finset.subset_univ _)) $$ Ha
  iintro %v Ha
  ihave Ha := e1 $$ Ha
  iapply (junk_store c (r := wholeR) (X := wB m c) (fun j => by
    show payW (fun j => wX m c (wholeR.emb j)) j = payW (wX m c) (wholeR.emb j)
    rw [whole_emb]; exact congrFun (congrArg payW (funext fun j => by rw [whole_emb])) j)) $$ Ha
  iintro Ha
  ihave Ha := e2 $$ Ha
  iapply Hk $$ Ht Ha

theorem dst_slice (st bf : Bool) (s : RSlot) (c : Dev nD) : (XK.rs st bf s).dst c = (rM st bf s).slice (rR s) (fun _ => rfl) := by cases s <;> rfl
/-- What lies in a landing buffer, as a part of the whole buffer's rows. -/
def rbP (st bf : Bool) (s : RSlot) (c : Dev nD) : sProp 𝕄 :=
  part (s := (rR s).shape) c ((rM st bf s).slice (rR s) (fun _ => rfl)) Finset.univ fullShare (rbX m st bf s c)
theorem rbP_eq (st bf : Bool) (s : RSlot) (c : Dev nD) :
    (part c ((XK.rs st bf s).dst c) Finset.univ fullShare (rbX m st bf s c) : sProp 𝕄) = rbP m st bf s c := by cases s <;> rfl
theorem prt_lev (bf : Bool) (s : RSlot) (d : Dev nD) : prt bf (Fin.ofNat 3 s.lev.val) d = prt bf s.lev d := by cases s <;> rfl

theorem r_add (c : Dev nD) (st bf : Bool) (s : RSlot) (Q : α → sProp 𝕄) (k : PUnit → PG F α) :
    iprop(part c ((XK.rs st bf s).dst c) Finset.univ fullShare (rbX m st bf s c) ∗ part c (accM st bf) (addR bf s c).set fullShare (lvl m st bf s.lev.val c))
      ⊢ iprop((part c ((XK.rs st bf s).dst c) Finset.univ fullShare (rbX m st bf s c) -∗ part c (accM st bf) (addR bf s c).set fullShare (lvl m st bf (s.lev.val + 1) c) -∗ WP c (k ⟨⟩) Q)
        -∗ WP c ((addOp st bf s c).bind k) Q) := by
  rw [rbP_eq]
  unfold addOp rbP
  simp only [Prog.lift, Prog.bind_op, Prog.bind_ret, Prog.pure_eq_ret, bind]
  iintro ⟨Hr, Ha⟩ Hk
  iapply (part_load c (r := addR bf s c) subset_rfl) $$ Ha
  iintro Ha
  iapply (slice_load c (m := rM st bf s) (r := rR s) (h := fun _ => rfl) (q := fullShare) (Y := rbX m st bf s c)) $$ Hr
  iintro Hr
  iapply (part_load c (r := addR bf s c) subset_rfl) $$ Ha
  iintro Ha
  ihave Ha := (part_junk c (accM st bf) (addR bf s c).set (lvl m st bf s.lev.val c)) $$ Ha
  iapply (junk_store c (r := addR bf s c) (X := lvl m st bf (s.lev.val + 1) c) (fun j => by
    unfold payAdd; rw [shapeCast_self]
    show FloatOps.addf (lvl m st bf s.lev.val c ((addR bf s c).emb j)) (lvl m st bf s.lev.val (prt bf s.lev c) ((addR bf s c).emb j))
      = FloatOps.addf (lvl m st bf s.lev.val c ((addR bf s c).emb j)) (lvl m st bf s.lev.val (prt bf (Fin.ofNat 3 s.lev.val) c) ((addR bf s c).emb j))
    rw [prt_lev])) $$ Ha
  iintro Ha
  iapply Hk $$ Hr Ha

theorem r_ldOwn (c : Dev nD) (st : Bool) (r : Reg F) (Q : α → sProp 𝕄) (k : Reg F → PG F α) :
    iprop(accP c st false (vOf false c) fullShare (lvl m st false 3 c) ∗ accP c st true (vOf true c) fullShare (lvl m st true 3 c))
      ⊢ iprop((accP c st false (vOf false c) fullShare (lvl m st false 3 c) -∗ accP c st true (vOf true c) fullShare (lvl m st true 3 c) -∗ WP c (k ⟨ownV m st c, r.half⟩) Q)
        -∗ WP c ((ldOwnOp st c r).bind k) Q) := by
  unfold ldOwnOp accP
  simp only [Prog.lift, Prog.bind_op, Prog.bind_ret, Prog.pure_eq_ret, bind]
  iintro ⟨Ha, Hb⟩ Hk
  iapply (part_load c (r := ownR false c) (by rw [ownR_eq])) $$ Ha
  iintro Ha
  iapply (part_load c (r := ownR true c) (by rw [ownR_eq])) $$ Hb
  iintro Hb
  have h : payOwn (fun j => lvl m st false 3 c ((ownR false c).emb j)) (fun j => lvl m st true 3 c ((ownR true c).emb j)) = ownV m st c := by
    unfold ownV
    congr 1 <;> (funext j; exact congrArg _ (ownR_emb _ c j))
  rw [← h]
  iapply Hk $$ Ha Hb

theorem r_ldW (c : Dev nD) (st bf : Bool) (r : Reg F) (hr : r.own = ownV m st c) (Q : α → sProp 𝕄) (k : Reg F → PG F α) :
    part c wBM Finset.univ fullShare (wB m c)
      ⊢ iprop((part c wBM Finset.univ fullShare (wB m c) -∗ WP c (k ⟨r.own, outX m st bf 0 c⟩) Q) -∗ WP c ((ldWOp bf r).bind k) Q) := by
  unfold ldWOp
  simp only [Prog.lift, Prog.bind_op, Prog.bind_ret, Prog.pure_eq_ret, bind]
  iintro Hw Hk
  iapply (part_load c (r := wR bf) (Finset.subset_univ _)) $$ Hw
  iintro Hw
  have h : payHalf r.own (fun j => wB m c ((wR bf).emb j)) = outX m st bf 0 c := by
    unfold outX; rw [if_pos rfl, hr]; rfl
  rw [← h]
  iapply Hk $$ Hw

theorem r_ldAcc (c : Dev nD) (st bf : Bool) (w : Fin 8) (hw : w ≠ 0) (q : PosShare TreeShare) (r : Reg F) (Q : α → sProp 𝕄) (k : Reg F → PG F α) :
    accP c st bf (xor8 (vOf bf c) w) q (gX m st bf)
      ⊢ iprop((accP c st bf (xor8 (vOf bf c) w) q (gX m st bf) -∗ WP c (k ⟨r.own, outX m st bf w c⟩) Q) -∗ WP c ((ldAccOp st bf w c r).bind k) Q) := by
  unfold ldAccOp accP
  simp only [Prog.lift, Prog.bind_op, Prog.bind_ret, Prog.pure_eq_ret, bind]
  iintro Hw Hk
  iapply (part_load c (r := ldR bf w c) (by rw [ldR_eq])) $$ Hw
  iintro Hw
  have h : extf .f32 (fun j => gX m st bf ((ldR bf w c).emb j) : FVec F S256x512 .bf16) bitsLt_bf16_f32 = outX m st bf w c := by
    unfold outX; rw [if_neg hw]
    congr 1
    funext j; exact congrArg _ (ldR_emb bf w c j)
  rw [← h]
  iapply Hk $$ Hw

theorem r_stg (c : Dev nD) (bf : Bool) (w : Fin 8) (r : Reg F) (Q : α → sProp 𝕄) (k : PUnit → PG F α) :
    junk c stgM (slotR bf (parW w)).set
      ⊢ iprop((part c (stgV bf w) Finset.univ fullShare r.half -∗ WP c (k ⟨⟩) Q) -∗ WP c ((stgOp bf w r).bind k) Q) := by
  unfold stgOp
  simp only [Prog.lift, Prog.bind_op, Prog.bind_ret, Prog.pure_eq_ret, bind]
  rw [slotR_par]
  iintro Ha Hk
  iapply (junk_load c (r := slotR bf w) subset_rfl) $$ Ha
  iintro %v Ha
  let X : S4x256x512.Idx → Elt F .f32 := Function.extend (slotR bf w).emb (payStg r.half) (fun _ => FloatOps.ofBits .f32 0)
  have hX (j) : payStg r.half j = X ((slotR bf w).emb j) := ((slotR bf w).emb.injective.extend_apply _ _ j).symm
  iapply (junk_store c (r := slotR bf w) (X := X) hX) $$ Ha
  iintro Ha
  iapply Hk
  ihave Ha := (part_slice c stgM (slotR bf w) (fun _ => rfl) fullShare X) $$ Ha
  unfold stgV
  iapply (part_squeeze c (stgM.slice (slotR bf w) (fun _ => rfl)) squeezes_S1x256x512_S256x512 shapeCasts_S256x512_S1x256x512 fullShare r.half)
  iapply (part_congr c (stgM.slice (slotR bf w) (fun _ => rfl)) (fun j _ => (hX j).symm)); iexact Ha

theorem r_stAcc (c : Dev nD) (st bf : Bool) (r : Reg F) (hr : r.half = outX m st bf 0 c) (Q : α → sProp 𝕄) (k : PUnit → PG F α) :
    accP c st bf (vOf bf c) fullShare (lvl m st bf 3 c)
      ⊢ iprop((accP c st bf (vOf bf c) fullShare (gX m st bf) -∗ WP c (k ⟨⟩) Q) -∗ WP c ((stAccOp st bf c r).bind k) Q) := by
  unfold stAccOp accP
  simp only [Prog.lift, Prog.bind_op, Prog.bind_ret, Prog.pure_eq_ret, bind]
  rw [← ownR_eq]
  iintro Ha Hk
  ihave Ha := (part_junk c (accM st bf) (ownR bf c).set (lvl m st bf 3 c)) $$ Ha
  iapply (junk_load c (r := ownR bf c) subset_rfl) $$ Ha
  iintro %v Ha
  iapply (junk_store c (r := ownR bf c) (X := gX m st bf) (fun j => by
    rw [show (ownR bf c).emb j = (chunkR (vOf bf c)).emb j from ownR_emb bf c j]
    refine Eq.trans ?_ (gX_chunk m st bf (vOf bf c) j).symm
    rw [hr, sigma_vOf]; unfold outX; rw [if_pos rfl])) $$ Ha
  iintro Ha
  iapply Hk $$ Ha
end Cert.KernelIdeal.Hcube
end
-- ==== Proof.Res.lean ====
module
public import proofs.«01_k».proof.Proof.Rules

/-! The resources a device holds between instructions, what each instruction needs and gives, and
that each instruction is sound. -/

@[expose] public section
noncomputable section
namespace Cert.KernelIdeal.Hcube
open Idealize.ShloMosaic Idealize.ShloMosaic.TcCoe
open Idealize.SL Idealize.SL.RA Idealize.SL.BI Idealize.SL.RA.PCS
open scoped Idealize.SL.BI
open Idealize.SL.BI.BIBase Idealize.SL.BI.Laws Idealize.SL.ProofMode Idealize.SL.Sem
open Idealize.ShloMosaic.Rounds
open Cert.KernelIdeal.Gen
variable {F : FTy → Type} [FloatOps F]
local notation "𝕄" => MT nD τ sig Unit (Elt F) ℕ UU ℕ
variable (m : (ℓ : Loc nD τ sig) → Buf (Elt F) ℓ)

/-! ### Resources -/
inductive R
  | bT (i : Fin 3) | bP | bD
  | tS (st : Bool) (u : Fin 8) | tV (st : Bool) (u : Fin 8) | tD (st : Bool) (u : Fin 8)
  | wS | wV | wD | wbJ | wbV
  | aJ (st bf : Bool) (u : Fin 8) | aL (st bf : Bool) (u : Fin 8) (n : Fin 4) | aG (st bf : Bool) (u : Fin 8) (i : Fin 4)
  | rJ (st bf : Bool) (s : RSlot) | rV (st bf : Bool) (s : RSlot)
  | dst (k : XK) | xf (k : XK) | snt (k : XK) | dS (k : XK) | ar (k : XK) | dR (k : XK)
  | stJ (bf : Bool) (p : Fin 8) | stV (st bf : Bool) (w : Fin 8)
  | oT (st bf : Bool) (w : Fin 8) | oP (st bf : Bool) (w : Fin 8) | oD (st bf : Bool) (w : Fin 8)
  deriving DecidableEq

/-- What a resource is, on a device. -/
def holds (c : Dev nD) : R → sProp 𝕄
  | .bT i => dutyTok ER (bcell (barPeer i c)) 0 i
  | .bP => iprop(atPos ER (bcell c) 0 ∅ 0 ∗ cred (tallyAt (bcell c) () 3))
  | .bD => semVal (bcell c) 0
  | .tS st u => iprop(part c (tSlice tHM st u) Finset.univ fullShare.left (fun j => tX m c ((tR st u).emb j)) ∗ junk c (tSlice tVM st u) Finset.univ ∗ tok c (.tin st u) ∗ posn c (.tin st u))
  | .tV st u => wait1 c (.tin st u)
  | .tD st u => iprop(semVal (dcell c (.tin st u)) 0 ∗ part c tVM (tR st u).set fullShare (tX m c))
  | .wS => iprop(part c wHM Finset.univ fullShare.left (wX m c) ∗ junk c wVM Finset.univ ∗ tok c .win ∗ posn c .win)
  | .wV => wait1 c .win
  | .wD => iprop(semVal (dcell c .win) 0 ∗ part c wVM Finset.univ fullShare (wX m c))
  | .wbJ => junk c wBM Finset.univ
  | .wbV => part c wBM Finset.univ fullShare (wB m c)
  | .aJ st bf u => accJ c st bf u
  | .aL st bf u n => accP c st bf u fullShare (lvl m st bf n.val c)
  | .aG st bf u i => accP c st bf u (qtr i) (gX m st bf)
  | .rJ st bf s => junk c ((XK.rs st bf s).dst c) Finset.univ
  | .rV st bf s => part c ((XK.rs st bf s).dst c) Finset.univ fullShare (rbX m st bf s c)
  | .dst k => dstJ c k
  | .xf k => iprop((tok c (.snd k) ∗ tok (prt k.bf k.lev c) (.rcv k)) ∗ posn c (.snd k))
  | .snt k => wait1 c (.snd k)
  | .dS k => semVal (dcell c (.snd k)) 0
  | .ar k => wait1 c (.rcv k)
  | .dR k => semVal (dcell c (.rcv k)) 0
  | .stJ bf p => junk c stgM (slotR bf p).set
  | .stV st bf w => part c (stgV bf w) Finset.univ fullShare (outX m st bf w c)
  | .oT st bf w => iprop(junk c (outV st bf w c) Finset.univ ∗ tok c (.out st bf w) ∗ posn c (.out st bf w))
  | .oP st bf w => wait1 c (.out st bf w)
  | .oD st bf w => iprop(semVal (dcell c (.out st bf w)) 0 ∗ part c (outV st bf w c) Finset.univ fullShare (outX m st bf w c))

/-- What an instruction needs and gives, what it pays, how high the rest owed must lie, and the registers after it. -/
structure Sp where
  need : List R
  give : List R
  pay : Option Pay
  low : Option ℕ
  own : Option Bool
  half : Option (Bool × Bool × Fin 8)

def qs : List (Fin 4) := [0, 1, 2, 3]
def Ins.sp (d : Dev nD) (own : Option Bool) (half : Option (Bool × Bool × Fin 8)) : Ins → Option Sp
  | .sig i => some ⟨.bT i :: (barList i).map fun x => .rJ x.1 x.2.1 x.2.2, [], some (.bar i), none, own, half⟩
  | .barWait => some ⟨[.bP], .bD :: (barList 0 ++ (barList 1 ++ barList 2)).map fun x => .dst (.rs x.1 x.2.1 x.2.2), none, some 1, own, half⟩
  | .tWait st u => some ⟨[.tV st u], [.tD st u], none, some 0, own, half⟩
  | .wWait => some ⟨[.wV], [.wD], none, some 0, own, half⟩
  | .cast => some ⟨[.wD, .wbJ], [.wD, .wbV], none, none, own, half⟩
  | .init st bf snd u => match initCond bf snd u d with
    | true => some ⟨[.tD st (sigma bf u), .aJ st bf u], [.tD st (sigma bf u), .aL st bf u 0], none, none, own, half⟩
    | false => some ⟨[], [], none, none, own, half⟩
  | .send (.rs st bf s) => some ⟨.xf (.rs st bf s) :: .dst (.rs st bf s) :: (addCh bf s (prt bf s.lev d)).map fun u => .aL st bf u s.lev.castSucc,
      [.snt (.rs st bf s)], some (.xf (.rs st bf s)), none, own, half⟩
  | .send (.ag st bf s) => some ⟨[.xf (.ag st bf s), .dst (.ag st bf s), .aG st bf (agCh bf s d) s.qtr], [.snt (.ag st bf s)], some (.xf (.ag st bf s)), none, own, half⟩
  | .waitS (.rs st bf s) => some ⟨[.snt (.rs st bf s)], [.dS (.rs st bf s)], none, some 0, own, half⟩
  | .waitS (.ag st bf s) => some ⟨[.snt (.ag st bf s)], [.dS (.ag st bf s), .aG st bf (agCh bf s d) s.qtr], none, some 0, own, half⟩
  | .waitR (.rs st bf s) => some ⟨[.ar (.rs st bf s)], .dR (.rs st bf s) :: .rV st bf s :: s.back.map fun g => .dst (.ag st bf g), none, some (2 + ordOf (.rs st bf s)), own, half⟩
  | .waitR (.ag st bf s) => some ⟨[.ar (.ag st bf s)], .dR (.ag st bf s) :: qs.map fun i => .aG st bf (agCh bf s (prt bf s.lev d)) i, none, some (2 + ordOf (.ag st bf s)), own, half⟩
  | .add st bf s => some ⟨.rV st bf s :: (addCh bf s d).map fun u => .aL st bf u s.lev.castSucc, .rV st bf s :: (addCh bf s d).map fun u => .aL st bf u s.lev.succ, none, none, own, half⟩
  | .ldOwn st => some ⟨[.aL st false (vOf false d) 3, .aL st true (vOf true d) 3], [.aL st false (vOf false d) 3, .aL st true (vOf true d) 3], none, none, some st, half⟩
  | .ldW bf => match own with
    | some st => some ⟨[.wbV], [.wbV], none, none, own, some (st, bf, 0)⟩
    | none => none
  | .ldAcc st bf w => if w = 0 then none else some ⟨[.aG st bf (xor8 (vOf bf d) w) 3], [.aG st bf (xor8 (vOf bf d) w) 3], none, none, own, some (st, bf, w)⟩
  | .stg bf w => match half with
    | some (st, bf', w') => if bf' = bf ∧ w' = w then some ⟨[.stJ bf (parW w)], [.stV st bf w], none, none, own, half⟩ else none
    | none => none
  | .outStart st bf w => some ⟨[.oT st bf w, .stV st bf w], [.oP st bf w], none, none, own, half⟩
  | .outWait st bf w => some ⟨[.oP st bf w], [.oD st bf w, .stJ bf (parW w)], none, some 0, own, half⟩
  | .stAcc st bf => if half = some (st, bf, 0) then some ⟨[.aL st bf (vOf bf d) 3], qs.map fun i => .aG st bf (vOf bf d) i, none, none, own, half⟩ else none

def payStep : Option Pay → List Pay → Option (List Pay)
  | none, t => some t
  | some p, q :: t => if p = q then some t else none
  | some _, [] => none
theorem payStep_some {p : Pay} {t t' : List Pay} (h : payStep (some p) t = some t') : t = p :: t' := by
  cases t with
  | nil => simp [payStep] at h
  | cons q t =>
    simp only [payStep] at h
    by_cases hq : p = q
    · rw [if_pos hq] at h; rw [hq, Option.some.inj h]
    · rw [if_neg hq] at h; cases h
def lowOK : Option ℕ → List Pay → Bool
  | none, _ => true
  | some n, t => t.all fun p => decide (n < p.lev)

/-- The registers hold what the state says. -/
def RegOK (c : Dev nD) (own : Option Bool) (half : Option (Bool × Bool × Fin 8)) (r : Reg F) : Prop :=
  (∀ st, own = some st → r.own = ownV m st c) ∧ (∀ st bf w, half = some (st, bf, w) → r.half = outX m st bf w c)

variable {α : Type} (K : Names)

/-- An instruction does what its specification says, whatever follows. -/
def Sound (c : Dev nD) (i : Ins) (own : Option Bool) (half : Option (Bool × Bool × Fin 8)) (sp : Sp) : Prop :=
  ∀ (todo todo' : List Pay) (_ : payStep sp.pay todo = some todo') (_ : lowOK sp.low todo = true) (r : Reg F) (_ : RegOK m c own half r)
    (α : Type) (Q : α → sProp 𝕄) (k : Reg F → PG F α),
    iprop(records m K ∗ sepL (holds m c) sp.need ∗ owesS c todo)
      ⊢ iprop((∀ r', ⌜RegOK m c sp.own sp.half r'⌝ -∗ sepL (holds m c) sp.give -∗ owesS c todo' -∗ WP c (k r') Q) -∗ WP c ((i.run c r).bind k) Q)

theorem low_lt {n : ℕ} {todo : List Pay} (h : lowOK (some n) todo = true) : ∀ p ∈ todo, n < p.lev := fun p hp => by
  have := List.all_eq_true.mp h p hp
  simpa using this

section Each
variable (c : Dev nD) (own : Option Bool) (half : Option (Bool × Bool × Fin 8))

theorem s_sig (i : Fin 3) : Sound m K c (.sig i) own half ⟨.bT i :: (barList i).map fun x => .rJ x.1 x.2.1 x.2.2, [], some (.bar i), none, own, half⟩ := by
  intro todo todo' hp hl r hr α Q k
  obtain rfl := payStep_some hp
  have hJ : sepL (holds m c) ((barList i).map fun x => R.rJ x.1 x.2.1 x.2.2) ⊢ barPay (barPeer i c) i := by
    rw [sepL_map]; unfold barPay
    refine sepL_mem _ fun x hx => ?_
    have h1 := barList_eq i (barPeer i c) x hx
    rw [barPeer_barPeer] at h1
    show junk c ((XK.rs x.1 x.2.1 x.2.2).dst c) Finset.univ ⊢ dstJ (barPeer i c) (XK.rs x.1 x.2.1 x.2.2)
    simp only [dstJ]
    rw [h1, dst_slice, dst_slice]
  simp only [Ins.run, keep, sigOp, semSignalWord, Prog.bind_op, Prog.bind_ret, sepL]
  iintro ⟨#HR, ⟨Ht, Hl⟩, HO⟩ Hk
  ihave Hl := hJ $$ Hl
  iapply (signal m K c i todo') $$ [Ht Hl HO]
  · isplitr; · iexact HR
    isplitl [Ht]; · unfold holds; iexact Ht
    isplitl [Hl]; · iexact Hl
    iexact HO
  iintro HO
  iapply Hk $$ [] [] HO
  · ipureintro; exact hr
  · iempintro

theorem sepL_append3 {α : Type} (Φ : α → sProp 𝕄) (a b d : List α) : (iprop(sepL Φ a ∗ sepL Φ b ∗ sepL Φ d) : sProp 𝕄) ⊢ sepL Φ (a ++ (b ++ d)) := by
  iintro ⟨H1, H2, H3⟩
  iapply append_sepL
  isplitl [H1]; · iexact H1
  iapply append_sepL
  isplitl [H2] <;> iassumption

theorem s_barWait : Sound m K c .barWait own half ⟨[.bP], .bD :: (barList 0 ++ (barList 1 ++ barList 2)).map fun x => .dst (.rs x.1 x.2.1 x.2.2), none, some 1, own, half⟩ := by
  intro todo todo' hp hl r hr α Q k
  obtain rfl := Option.some.inj hp
  have hJ : (iprop(barPay c 0 ∗ barPay c 1 ∗ barPay c 2) : sProp 𝕄) ⊢ sepL (holds m c) ((barList 0 ++ (barList 1 ++ barList 2)).map fun x => R.dst (.rs x.1 x.2.1 x.2.2)) := by
    rw [sepL_map]; exact sepL_append3 _ _ _ _
  simp only [Ins.run, keep, barWaitOp, semWaitWord, Prog.bind_op, Prog.bind_ret, sepL]
  iintro ⟨#HR, ⟨Hb, -⟩, HO⟩ Hk
  iapply (wait_bar m K c todo (low_lt hl)) $$ [Hb HO]
  · isplitr; · iexact HR
    isplitl [Hb]; · unfold holds; iexact Hb
    iexact HO
  iintro ⟨Hz, Hp, HO⟩
  iapply Hk $$ [] [Hz Hp] HO
  · ipureintro; exact hr
  · isplitl [Hz]; · unfold holds; iexact Hz
    iapply hJ; iexact Hp

/-- A wait on a transfer semaphore, as an instruction. -/
theorem s_wait (i : Ins) (k : DK) (need : List R) (give : List R)
    (hneed : sepL (holds m c) need ⊢ wait1 c k) (hgive : iprop(semVal (dcell c k) 0 ∗ dPay m c k) ⊢ sepL (holds m c) give)
    (hi : ∀ r : Reg F, ∃ (sp sp' : Space) (s s' : Shape) (e e' : EltTy) (src : Memref sig .tc sp s e) (dst : Memref sig .tc sp' s' e') (h1 : src.view.WordExact) (h2 : dst.view.WordExact),
      dst.view.dmaCredit = k.amt ∧ i.run c r = .op (.waitDma2 k.sem src dst h1 h2) fun _ => .ret r) :
    Sound m K c i own half ⟨need, give, none, some (dlev k), own, half⟩ := by
  intro todo todo' hp hl r hr α Q kk
  obtain rfl := Option.some.inj hp
  obtain ⟨sp, sp', s, s', e, e', src, dst, h1, h2, hA, hrun⟩ := hi r
  rw [hrun]
  simp only [Prog.bind_op, Prog.bind_ret]
  iintro ⟨#HR, Hn, HO⟩ Hk
  ihave Hn := hneed $$ Hn
  iapply (wait_dma m K c k todo (low_lt hl) hA) $$ [Hn HO]
  · isplitr; · iexact HR
    isplitl [Hn] <;> iassumption
  iintro ⟨Hz, Hp, HO⟩
  iapply Hk $$ [] [Hz Hp] HO
  · ipureintro; exact hr
  · iapply hgive; isplitl [Hz] <;> iassumption

theorem sepL_one {α : Type} (Φ : α → sProp 𝕄) (x : α) : sepL Φ [x] ⊢ (Φ x : sProp 𝕄) := by
  simp only [sepL]; iintro ⟨H, -⟩; iexact H
theorem one_sepL {α : Type} (Φ : α → sProp 𝕄) (x : α) : (Φ x : sProp 𝕄) ⊢ sepL Φ [x] := by
  simp only [sepL]; iintro H; isplitl
  · iexact H
  · iempintro

theorem s_tWait (st : Bool) (u : Fin 8) : Sound m K c (.tWait st u) own half ⟨[.tV st u], [.tD st u], none, some 0, own, half⟩ :=
  s_wait m K c own half _ (.tin st u) _ _ (sepL_one (holds m c) (.tV st u)) (one_sepL (holds m c) (.tD st u))
    fun r => ⟨_, _, _, _, _, _, tSlice tHM st u, tSlice tVM st u, _, _, rfl, rfl⟩
theorem s_wWait : Sound m K c .wWait own half ⟨[.wV], [.wD], none, some 0, own, half⟩ :=
  s_wait m K c own half _ .win _ _ (sepL_one (holds m c) .wV) (one_sepL (holds m c) .wD)
    fun r => ⟨_, _, _, _, _, _, wHM, wVM, _, _, rfl, rfl⟩
theorem s_waitS_rs (st bf : Bool) (s : RSlot) : Sound m K c (.waitS (.rs st bf s)) own half ⟨[.snt (.rs st bf s)], [.dS (.rs st bf s)], none, some 0, own, half⟩ :=
  s_wait m K c own half _ (.snd (.rs st bf s)) _ _ (sepL_one (holds m c) (.snt _)) (by
      refine BIBase.Entails.trans ?_ (one_sepL (holds m c) (.dS (.rs st bf s)))
      unfold holds
      iintro ⟨H, -⟩; iexact H)
    fun r => ⟨_, _, _, _, _, _, (XK.rs st bf s).dst c, (XK.rs st bf s).src c, _, _, amt_src _ c, rfl⟩
theorem s_waitS_ag (st bf : Bool) (s : GSlot) : Sound m K c (.waitS (.ag st bf s)) own half ⟨[.snt (.ag st bf s)], [.dS (.ag st bf s), .aG st bf (agCh bf s c) s.qtr], none, some 0, own, half⟩ :=
  s_wait m K c own half _ (.snd (.ag st bf s)) _ _ (sepL_one (holds m c) (.snt _)) (by
      simp only [sepL]
      iintro ⟨H, H'⟩
      isplitl [H]; · unfold holds; iexact H
      isplitl [H']; · unfold holds dPay; iexact H'
      iempintro)
    fun r => ⟨_, _, _, _, _, _, (XK.ag st bf s).dst c, (XK.ag st bf s).src c, _, _, amt_src _ c, rfl⟩
theorem s_waitR_rs (st bf : Bool) (s : RSlot) : Sound m K c (.waitR (.rs st bf s)) own half
    ⟨[.ar (.rs st bf s)], .dR (.rs st bf s) :: .rV st bf s :: s.back.map fun g => .dst (.ag st bf g), none, some (2 + ordOf (.rs st bf s)), own, half⟩ :=
  s_wait m K c own half _ (.rcv (.rs st bf s)) _ _ (sepL_one (holds m c) (.ar _)) (by
      have hJ : sepL (fun g => dstJ c (.ag st bf g)) s.back ⊢ sepL (holds m c) (s.back.map fun g => .dst (.ag st bf g)) := by
        rw [sepL_map]; exact .rfl
      simp only [sepL]
      show iprop(semVal _ 0 ∗ part .. ∗ sepL ..) ⊢ _
      iintro ⟨H, H', Hl⟩
      isplitl [H]; · unfold holds; iexact H
      isplitl [H']; · unfold holds; iexact H'
      iapply hJ; iexact Hl)
    fun r => ⟨_, _, _, _, _, _, (XK.rs st bf s).src c, (XK.rs st bf s).dst c, _, _, amt_dst _ c, rfl⟩
theorem quarters_sepL (st bf : Bool) (u : Fin 8) :
    accP c st bf u fullShare (gX m st bf) ⊢ sepL (holds m c) (qs.map fun i => .aG st bf u i) := by
  refine BIBase.Entails.trans (to_quarters c st bf u (gX m st bf)) ?_
  show iprop(_ ∗ _ ∗ _ ∗ _) ⊢ iprop(_ ∗ _ ∗ _ ∗ _ ∗ emp)
  iintro ⟨H1, H2, H3, H4⟩
  isplitl [H1]; · unfold holds; iexact H1
  isplitl [H2]; · unfold holds; iexact H2
  isplitl [H3]; · unfold holds; iexact H3
  isplitl [H4]; · unfold holds; iexact H4
  iempintro
theorem s_waitR_ag (st bf : Bool) (s : GSlot) : Sound m K c (.waitR (.ag st bf s)) own half
    ⟨[.ar (.ag st bf s)], .dR (.ag st bf s) :: qs.map fun i => .aG st bf (agCh bf s (prt bf s.lev c)) i, none, some (2 + ordOf (.ag st bf s)), own, half⟩ :=
  s_wait m K c own half _ (.rcv (.ag st bf s)) _ _ (sepL_one (holds m c) (.ar _)) (by
      have hJ := quarters_sepL m c st bf (agCh bf s (prt bf s.lev c))
      rw [sepL]
      iintro ⟨H, Hl⟩
      isplitl [H]; · unfold holds; iexact H
      iapply hJ; unfold dPay; iexact Hl)
    fun r => ⟨_, _, _, _, _, _, (XK.ag st bf s).src c, (XK.ag st bf s).dst c, _, _, amt_dst _ c, rfl⟩
theorem s_outWait (st bf : Bool) (w : Fin 8) : Sound m K c (.outWait st bf w) own half ⟨[.oP st bf w], [.oD st bf w, .stJ bf (parW w)], none, some 0, own, half⟩ :=
  s_wait m K c own half _ (.out st bf w) _ _ (sepL_one (holds m c) (.oP st bf w)) (by
      have hS : junk c stgM (slotR bf w).set ⊢ holds m c (.stJ bf (parW w)) := by
        show _ ⊢ junk c stgM (slotR bf (parW w)).set
        rw [slotR_par]
      simp only [sepL]
      show iprop(semVal _ 0 ∗ part .. ∗ junk ..) ⊢ _
      iintro ⟨H, H', Hl⟩
      isplitl [H H']
      · unfold holds; isplitl [H] <;> iassumption
      isplitl [Hl]
      · iapply hS; iexact Hl
      iempintro)
    fun r => ⟨_, _, _, _, _, _, stgV bf w, outV st bf w c, _, _, rfl, rfl⟩

theorem keep_bind (r : Reg F) (p : PG F PUnit) {α : Type} (k : Reg F → PG F α) : (keep r p).bind k = p.bind fun _ => k r := by
  exact Prog.bind_assoc p (fun _ => .ret r) k
theorem run_init (r : Reg F) (st bf snd : Bool) (u : Fin 8) : (Ins.init st bf snd u).run c r = keep r (match initCond bf snd u c with | true => initOp st bf u | false => .ret ⟨⟩) := rfl
/-- An instruction that leaves the registers and owes nothing. -/
theorem s_keep (i : Ins) (need give : List R) (p : Reg F → PG F PUnit) (hrun : ∀ r, i.run c r = keep r (p r))
    (h : ∀ (r : Reg F) (_ : RegOK m c own half r) (α : Type) (Q : α → sProp 𝕄) (k : PUnit → PG F α),
      sepL (holds m c) need ⊢ iprop((sepL (holds m c) give -∗ WP c (k ⟨⟩) Q) -∗ WP c ((p r).bind k) Q)) :
    Sound m K c i own half ⟨need, give, none, none, own, half⟩ := by
  intro todo todo' hp hl r hr α Q k
  obtain rfl := Option.some.inj hp
  have h' := h r hr α Q (fun _ => k r)
  rw [hrun, keep_bind]
  iintro ⟨#HR, Hn, HO⟩ Hk
  iapply h' $$ Hn
  iintro Hg
  iapply Hk $$ [] Hg HO
  ipureintro; exact hr

theorem s_cast : Sound m K c .cast own half ⟨[.wD, .wbJ], [.wD, .wbV], none, none, own, half⟩ :=
  s_keep m K c own half _ _ _ (fun _ => castOp) (fun _ => rfl) fun r hr α Q k => by
    simp only [sepL, holds]
    iintro ⟨⟨Hz, Hw⟩, Hb, -⟩ Hk
    iapply (r_cast m c) $$ [Hw Hb]
    · isplitl [Hw] <;> iassumption
    iintro Hw Hb
    iapply Hk
    isplitl [Hz Hw]
    · isplitl [Hz] <;> iassumption
    isplitl [Hb]; · iexact Hb
    iempintro

theorem s_init (st bf snd : Bool) (u : Fin 8) (h : initCond bf snd u c = true) : Sound m K c (.init st bf snd u) own half
    ⟨[.tD st (sigma bf u), .aJ st bf u], [.tD st (sigma bf u), .aL st bf u 0], none, none, own, half⟩ :=
  s_keep m K c own half _ _ _ (fun _ => initOp st bf u) (fun r => by rw [run_init, h]) fun r hr α Q k => by
    simp only [sepL, holds]
    iintro ⟨⟨Hz, Hw⟩, Hb, -⟩ Hk
    iapply (r_init m c st bf u) $$ [Hw Hb]
    · isplitl [Hw] <;> iassumption
    iintro Hw Hb
    iapply Hk
    isplitl [Hz Hw]
    · isplitl [Hz] <;> iassumption
    isplitl [Hb]; · iexact Hb
    iempintro
theorem s_skip (st bf snd : Bool) (u : Fin 8) (h : initCond bf snd u c = false) : Sound m K c (.init st bf snd u) own half ⟨[], [], none, none, own, half⟩ :=
  s_keep m K c own half _ _ _ (fun _ => .ret ⟨⟩) (fun r => by rw [run_init, h]) fun r hr α Q k => by
    simp only [sepL, Prog.bind_ret]
    iintro - Hk
    iapply Hk; iempintro

theorem s_add (st bf : Bool) (s : RSlot) : Sound m K c (.add st bf s) own half
    ⟨.rV st bf s :: (addCh bf s c).map fun u => .aL st bf u s.lev.castSucc, .rV st bf s :: (addCh bf s c).map fun u => .aL st bf u s.lev.succ, none, none, own, half⟩ :=
  s_keep m K c own half _ _ _ (fun _ => addOp st bf s c) (fun r => rfl) fun r hr α Q k => by
    have h1 : sepL (holds m c) ((addCh bf s c).map fun u => R.aL st bf u s.lev.castSucc) ⊢ part c (accM st bf) (addR bf s c).set fullShare (lvl m st bf s.lev.val c) := by
      rw [sepL_map]; exact add_join c st bf s c _
    have h2 : part c (accM st bf) (addR bf s c).set fullShare (lvl m st bf (s.lev.val + 1) c) ⊢ sepL (holds m c) ((addCh bf s c).map fun u => R.aL st bf u s.lev.succ) := by
      rw [sepL_map]; exact add_split c st bf s c _
    have h3 : holds m c (.rV st bf s) = part c ((XK.rs st bf s).dst c) Finset.univ fullShare (rbX m st bf s c) := rfl
    simp only [sepL, h3]
    iintro ⟨Hr, Ha⟩ Hk
    ihave Ha := h1 $$ Ha
    iapply (r_add m c st bf s) $$ [Hr Ha]
    · isplitl [Hr] <;> iassumption
    iintro Hr Ha
    iapply Hk
    isplitl [Hr]; · iexact Hr
    iapply h2; iexact Ha

theorem s_ldOwn (st : Bool) : Sound m K c (.ldOwn st) own half
    ⟨[.aL st false (vOf false c) 3, .aL st true (vOf true c) 3], [.aL st false (vOf false c) 3, .aL st true (vOf true c) 3], none, none, some st, half⟩ := by
  intro todo todo' hp hl r hr α Q k
  obtain rfl := Option.some.inj hp
  have h3 : ∀ bf, holds m c (.aL st bf (vOf bf c) 3) = accP c st bf (vOf bf c) fullShare (lvl m st bf 3 c) := fun _ => rfl
  simp only [Ins.run, sepL, h3]
  iintro ⟨#HR, ⟨Ha, Hb, -⟩, HO⟩ Hk
  iapply (r_ldOwn m c st r) $$ [Ha Hb]
  · isplitl [Ha] <;> iassumption
  iintro Ha Hb
  iapply Hk $$ [] [Ha Hb] HO
  · ipureintro; exact ⟨fun st' h => by obtain rfl := Option.some.inj h; rfl, hr.2⟩
  · isplitl [Ha]; · iexact Ha
    isplitl [Hb]; · iexact Hb
    iempintro
theorem s_ldW (bf st : Bool) : Sound m K c (.ldW bf) (some st) half ⟨[.wbV], [.wbV], none, none, some st, some (st, bf, 0)⟩ := by
  intro todo todo' hp hl r hr α Q k
  obtain rfl := Option.some.inj hp
  simp only [Ins.run, sepL, holds]
  iintro ⟨#HR, ⟨Ha, -⟩, HO⟩ Hk
  iapply (r_ldW m c st bf r (hr.1 st rfl)) $$ Ha
  iintro Ha
  iapply Hk $$ [] [Ha] HO
  · ipureintro; exact ⟨hr.1, fun st' bf' w' h => by cases h; rfl⟩
  · isplitl [Ha]; · iexact Ha
    iempintro
theorem s_ldAcc (st bf : Bool) (w : Fin 8) (hw : w ≠ 0) : Sound m K c (.ldAcc st bf w) own half
    ⟨[.aG st bf (xor8 (vOf bf c) w) 3], [.aG st bf (xor8 (vOf bf c) w) 3], none, none, own, some (st, bf, w)⟩ := by
  intro todo todo' hp hl r hr α Q k
  obtain rfl := Option.some.inj hp
  simp only [Ins.run, sepL, holds]
  iintro ⟨#HR, ⟨Ha, -⟩, HO⟩ Hk
  iapply (r_ldAcc m c st bf w hw (qtr 3) r) $$ Ha
  iintro Ha
  iapply Hk $$ [] [Ha] HO
  · ipureintro; exact ⟨hr.1, fun st' bf' w' h => by cases h; rfl⟩
  · isplitl [Ha]; · iexact Ha
    iempintro
theorem s_stg (st bf : Bool) (w : Fin 8) : Sound m K c (.stg bf w) own (some (st, bf, w)) ⟨[.stJ bf (parW w)], [.stV st bf w], none, none, own, some (st, bf, w)⟩ :=
  s_keep m K c own (some (st, bf, w)) _ _ _ (fun r => stgOp bf w r) (fun r => rfl) fun r hr α Q k => by
    simp only [sepL, holds]
    iintro ⟨Ha, -⟩ Hk
    iapply (r_stg c bf w r) $$ Ha
    rw [hr.2 st bf w rfl]
    iintro Ha
    iapply Hk
    isplitl [Ha]; · iexact Ha
    iempintro
theorem s_stAcc (st bf : Bool) : Sound m K c (.stAcc st bf) own (some (st, bf, 0))
    ⟨[.aL st bf (vOf bf c) 3], qs.map fun i => .aG st bf (vOf bf c) i, none, none, own, some (st, bf, 0)⟩ :=
  s_keep m K c own (some (st, bf, 0)) _ _ _ (fun r => stAccOp st bf c r) (fun r => rfl) fun r hr α Q k => by
    have hJ := quarters_sepL m c st bf (vOf bf c)
    have hI := sepL_one (holds m c) (.aL st bf (vOf bf c) 3)
    have h1 := r_stAcc m c st bf r (hr.2 st bf 0 rfl) Q k
    have h3 : holds m c (.aL st bf (vOf bf c) 3) = accP c st bf (vOf bf c) fullShare (lvl m st bf 3 c) := rfl
    rw [h3] at hI
    iintro Ha Hk
    ihave Ha := hI $$ Ha
    iapply h1 $$ Ha
    iintro Ha
    iapply Hk
    iapply hJ; iexact Ha
theorem out_pay (st bf : Bool) (w : Fin 8) : iprop(part c (outV st bf w c) Finset.univ fullShare (outX m st bf w c) ∗ part c (stgV bf w) Finset.univ fullShare (outX m st bf w c)) ⊢ dPay m c (.out st bf w) := by
  show _ ⊢ iprop(part c (outV st bf w c) Finset.univ fullShare (outX m st bf w c) ∗ junk c stgM (slotR bf w).set)
  iintro ⟨H1, H2⟩
  isplitl [H1]; · iexact H1
  ihave H2 := (part_junk c (stgV bf w) Finset.univ (outX m st bf w c)) $$ H2
  unfold stgV
  ihave H2 := (squeeze_junk c (stgM.slice (slotR bf w) (fun _ => rfl)) squeezes_S1x256x512_S256x512) $$ H2
  iapply (slice_junk c stgM (slotR bf w) (fun _ => rfl)); iexact H2
theorem s_outStart (st bf : Bool) (w : Fin 8) : Sound m K c (.outStart st bf w) own half ⟨[.oT st bf w, .stV st bf w], [.oP st bf w], none, none, own, half⟩ := by
  intro todo todo' hp hl r hr α Q k
  obtain rfl := Option.some.inj hp
  have h1 := out_pay m c st bf w
  have hrun : ((Ins.outStart st bf w).run c r).bind k = .op (.enqueueDma (stgV bf w) (.here (outV st bf w c)) (.dma (DK.out st bf w).sem) ((View.wordExact_bits rfl).reshape _ _) (View.wordExact_bits rfl) ⟨Or.inl rfl, trivial⟩) fun _ => k r := rfl
  rw [hrun]
  simp only [sepL, holds]
  iintro ⟨#HR, ⟨⟨Hj, Ht, Hp⟩, Ha, -⟩, HO⟩ Hk
  iapply (copy_dma m K c (.out st bf w) (dst := outV st bf w c) rfl h1) $$ [Hj Ht Ha]
  · isplitr; · iexact HR
    isplitl [Ht]; · iexact Ht
    isplitl [Ha] <;> iassumption
  iintro Hc
  iapply Hk $$ [] [Hc Hp] HO
  · ipureintro; exact hr
  · isplitl [Hc Hp]
    · unfold wait1; isplitl [Hp] <;> iassumption
    iempintro

/-- A transfer that gives its source away with it, as an instruction. -/
theorem s_over (i : Ins) (p : Dev nD) (kS kR : DK) (pay : Pay) (hc : pay.cell c = dcell p kR) (ha : pay.amt = kR.amt) (haS : kS.amt = kR.amt) (need give : List R)
    {s : Shape} {e : EltTy} {src : Memref sig .tc .vmem s e} {dst : Memref sig .tc .vmem s e} {hsc : dst.view.ref.isScScratch = false}
    {h1 : src.view.WordExact} {h2 : dst.view.WordExact} {h3 : DmaTarget.Typed (nD := nD) (τ := τ) (p := Proc.tc) .vmem (.dma kR.sem) (.remote (p : Thread nD τ) dst (.dma kS.sem) hsc)}
    (hrun : ∀ r : Reg F, i.run c r = .op (.enqueueDma src (.remote (p : Thread nD τ) dst (.dma kS.sem) hsc) (.dma kR.sem) h1 h2 h3) fun _ => .ret r)
    (hA : dst.view.dmaCredit = kR.amt) {X : s.Idx → Elt F e} (hpay₁ : (iprop(emp) : sProp 𝕄) ⊢ dPay m c kS)
    (hpay₂ : iprop(part p dst Finset.univ fullShare X ∗ part c src Finset.univ fullShare X) ⊢ dPay m p kR)
    (hneed : sepL (holds m c) need ⊢ iprop(((tok c kS ∗ tok p kR) ∗ posn c kS) ∗ part c src Finset.univ fullShare X ∗ junk p dst Finset.univ))
    (hgive : wait1 c kS ⊢ sepL (holds m c) give) :
    Sound m K c i own half ⟨need, give, some pay, none, own, half⟩ := by
  intro todo todo' hp hl r hr α Q k
  obtain rfl := payStep_some hp
  rw [hrun]
  simp only [Prog.bind_op, Prog.bind_ret]
  iintro ⟨#HR, Hn, HO⟩ Hk
  ihave Hn := hneed $$ Hn
  icases Hn with ⟨⟨Ht, Hp⟩, Hs, Hd⟩
  iapply (send_over m K c p kS kR pay todo' hc ha haS hA hpay₁ hpay₂) $$ [Ht Hs Hd HO]
  · isplitr; · iexact HR
    isplitl [Ht]; · iexact Ht
    isplitl [Hs]; · iexact Hs
    isplitl [Hd]; · iexact Hd
    iexact HO
  iintro ⟨Hc, HO⟩
  iapply Hk $$ [] [Hc Hp] HO
  · ipureintro; exact hr
  · iapply hgive; unfold wait1; isplitl [Hp] <;> iassumption
/-- A transfer that gets its source back, as an instruction. -/
theorem s_back (i : Ins) (p : Dev nD) (kS kR : DK) (pay : Pay) (hc : pay.cell c = dcell p kR) (ha : pay.amt = kR.amt) (haS : kS.amt = kR.amt) (need give : List R)
    {s : Shape} {e : EltTy} {src : Memref sig .tc .vmem s e} {dst : Memref sig .tc .vmem s e} {hsc : dst.view.ref.isScScratch = false}
    {h1 : src.view.WordExact} {h2 : dst.view.WordExact} {h3 : DmaTarget.Typed (nD := nD) (τ := τ) (p := Proc.tc) .vmem (.dma kR.sem) (.remote (p : Thread nD τ) dst (.dma kS.sem) hsc)}
    (hrun : ∀ r : Reg F, i.run c r = .op (.enqueueDma src (.remote (p : Thread nD τ) dst (.dma kS.sem) hsc) (.dma kR.sem) h1 h2 h3) fun _ => .ret r)
    (hA : dst.view.dmaCredit = kR.amt) {q : PosShare TreeShare} {X : s.Idx → Elt F e} (hpay₁ : part c src Finset.univ q X ⊢ dPay m c kS)
    (hpay₂ : part p dst Finset.univ fullShare X ⊢ dPay m p kR)
    (hneed : sepL (holds m c) need ⊢ iprop(((tok c kS ∗ tok p kR) ∗ posn c kS) ∗ part c src Finset.univ q X ∗ junk p dst Finset.univ))
    (hgive : wait1 c kS ⊢ sepL (holds m c) give) :
    Sound m K c i own half ⟨need, give, some pay, none, own, half⟩ := by
  intro todo todo' hp hl r hr α Q k
  obtain rfl := payStep_some hp
  rw [hrun]
  simp only [Prog.bind_op, Prog.bind_ret]
  iintro ⟨#HR, Hn, HO⟩ Hk
  ihave Hn := hneed $$ Hn
  icases Hn with ⟨⟨Ht, Hp⟩, Hs, Hd⟩
  iapply (send_back m K c p kS kR pay todo' hc ha haS hA hpay₁ hpay₂) $$ [Ht Hs Hd HO]
  · isplitr; · iexact HR
    isplitl [Ht]; · iexact Ht
    isplitl [Hs]; · iexact Hs
    isplitl [Hd]; · iexact Hd
    iexact HO
  iintro ⟨Hc, HO⟩
  iapply Hk $$ [] [Hc Hp] HO
  · ipureintro; exact hr
  · iapply hgive; unfold wait1; isplitl [Hp] <;> iassumption
theorem rs_pay (st bf : Bool) (s : RSlot) (p : Dev nD) (hp : p = prt bf s.lev c) :
    iprop(part p ((XK.rs st bf s).dst c) Finset.univ fullShare (rbX m st bf s p) ∗ part c ((XK.rs st bf s).src c) Finset.univ fullShare (rbX m st bf s p)) ⊢ dPay m p (.rcv (.rs st bf s)) := by
  have hb : prt bf s.lev p = c := by rw [hp, prt_prt]
  have e1 : part p ((XK.rs st bf s).dst c) Finset.univ fullShare (rbX m st bf s p) ⊢ part p ((XK.rs st bf s).dst p) Finset.univ fullShare (rbX m st bf s p) := by
    rw [show (XK.rs st bf s).dst c = (XK.rs st bf s).dst p by rw [dst_slice, dst_slice]]
  have hX : rbX m st bf s p = fun j => lvl m st bf s.lev.val c ((rsR bf s c).emb j) := by
    funext j; unfold rbX; rw [hb]
    exact congrArg _ (unit_emb (s := S2048x512) (size := s.sh.size) (by rw [rsOff_eq, hp]) _ _ j)
  have e2 : part c ((XK.rs st bf s).src c) Finset.univ fullShare (rbX m st bf s p) ⊢ part c (accM st bf) (rsR bf s c).set fullShare (lvl m st bf s.lev.val c) := by
    rw [hX]; exact slice_part c (accM st bf) (rsR bf s c) (fun _ => rfl) fullShare _
  have e3 := add_split c st bf s p (lvl m st bf s.lev.val c)
  have e4 : sepL (fun u => accP c st bf u fullShare (lvl m st bf s.lev.val c)) (addCh bf s p) ⊢ sepL (fun u => accJ (F := F) c st bf u) (addCh bf s p) :=
    sepL_mem _ fun u _ => by unfold accP accJ; exact part_junk c _ _ (lvl m st bf s.lev.val c)
  have e5 := sepL_perm (F := F) (fun u => accJ c st bf u) (back_add bf s p).symm
  rw [sepL_map] at e5
  have e6 : sepL (fun g => accJ (F := F) c st bf (agCh bf g p)) s.back ⊢ sepL (fun g => dstJ p (.ag st bf g)) s.back :=
    sepL_mem _ fun g hg => by simp only [dstJ]; rw [lev_back s g hg, hb]
  show _ ⊢ iprop(part p ((XK.rs st bf s).dst p) Finset.univ fullShare (rbX m st bf s p) ∗ sepL (fun g => dstJ p (.ag st bf g)) s.back)
  rw [rsR_eq, ← hp] at e2
  iintro ⟨H1, H2⟩
  isplitl [H1]
  · iapply e1; iexact H1
  iapply e6; iapply e5; iapply e4; iapply e3; iapply e2; iexact H2

theorem s_send_rs (st bf : Bool) (s : RSlot) : Sound m K c (.send (.rs st bf s)) own half
    ⟨.xf (.rs st bf s) :: .dst (.rs st bf s) :: (addCh bf s (prt bf s.lev c)).map fun u => .aL st bf u s.lev.castSucc,
      [.snt (.rs st bf s)], some (.xf (.rs st bf s)), none, own, half⟩ :=
  have hp : (XK.rs st bf s).peer c = prt bf s.lev c := peer_eq (.rs st bf s) c
  s_over m K c own half _ ((XK.rs st bf s).peer c) (.snd (.rs st bf s)) (.rcv (.rs st bf s)) _
    (by rw [hp]; rfl) rfl rfl _ _ (fun r => rfl) (amt_dst _ c) (X := rbX m st bf s ((XK.rs st bf s).peer c)) (by show _ ⊢ (iprop(emp) : sProp 𝕄); exact .rfl)
    (rs_pay m c st bf s _ hp)
    (by
      have hX : rbX m st bf s (prt bf s.lev c) = fun j => lvl m st bf s.lev.val c ((rsR bf s c).emb j) := by
        funext j; unfold rbX; rw [prt_prt]
        exact congrArg _ (unit_emb (s := S2048x512) (size := s.sh.size) (by rw [rsOff_eq]) _ _ j)
      have e2 : part c (accM st bf) (rsR bf s c).set fullShare (lvl m st bf s.lev.val c) ⊢ part c ((XK.rs st bf s).src c) Finset.univ fullShare (rbX m st bf s (prt bf s.lev c)) := by
        rw [hX]; exact part_slice c (accM st bf) (rsR bf s c) (fun _ => rfl) fullShare _
      have e1 : sepL (holds m c) ((addCh bf s (prt bf s.lev c)).map fun u => .aL st bf u s.lev.castSucc) ⊢ part c (accM st bf) (addR bf s (prt bf s.lev c)).set fullShare (lvl m st bf s.lev.val c) := by
        rw [sepL_map]; exact add_join c st bf s _ _
      rw [rsR_eq] at e2
      rw [hp]
      have h3 : holds m c (.xf (.rs st bf s)) = iprop((tok c (.snd (.rs st bf s)) ∗ tok (prt bf s.lev c) (.rcv (.rs st bf s))) ∗ posn c (.snd (.rs st bf s))) := rfl
      have h4 : holds m c (.dst (.rs st bf s)) = junk (prt bf s.lev c) ((XK.rs st bf s).dst c) Finset.univ := rfl
      simp only [sepL, h3, h4]
      iintro ⟨Ht, Hd, Hl⟩
      isplitl [Ht]; · iexact Ht
      isplitl [Hl]
      · iapply e2; iapply e1; iexact Hl
      iexact Hd)
    (one_sepL (holds m c) (.snt (.rs st bf s)))

theorem ag_part (d : Dev nD) (st bf : Bool) (s : GSlot) (q : PosShare TreeShare) :
    part d ((XK.ag st bf s).src c) Finset.univ q (fun j => gX m st bf ((agR bf s c).emb j)) ⊢ accP d st bf (agCh bf s c) q (gX m st bf) := by
  have h := slice_part d (accM st bf) (agR bf s c) (fun _ => rfl) q (gX m st bf)
  unfold accP
  rw [← agR_eq]; exact h
theorem part_ag (d : Dev nD) (st bf : Bool) (s : GSlot) (q : PosShare TreeShare) :
    accP d st bf (agCh bf s c) q (gX m st bf) ⊢ part d ((XK.ag st bf s).src c) Finset.univ q (fun j => gX m st bf ((agR bf s c).emb j)) := by
  have h := part_slice d (accM st bf) (agR bf s c) (fun _ => rfl) q (gX m st bf)
  unfold accP
  rw [← agR_eq]; exact h
theorem s_send_ag (st bf : Bool) (s : GSlot) : Sound m K c (.send (.ag st bf s)) own half
    ⟨[.xf (.ag st bf s), .dst (.ag st bf s), .aG st bf (agCh bf s c) s.qtr], [.snt (.ag st bf s)], some (.xf (.ag st bf s)), none, own, half⟩ :=
  have hp : (XK.ag st bf s).peer c = prt bf s.lev c := peer_eq (.ag st bf s) c
  s_back m K c own half _ ((XK.ag st bf s).peer c) (.snd (.ag st bf s)) (.rcv (.ag st bf s)) _
    (by rw [hp]; rfl) rfl rfl _ _ (fun r => rfl) (amt_dst _ c) (q := qtr s.qtr) (X := fun j => gX m st bf ((agR bf s c).emb j))
    (ag_part m c c st bf s _)
    (by
      have h := ag_part m c (prt bf s.lev c) st bf s fullShare
      have h2 : dPay m (prt bf s.lev c) (.rcv (.ag st bf s)) = accP (prt bf s.lev c) st bf (agCh bf s (prt bf s.lev (prt bf s.lev c))) fullShare (gX m st bf) := rfl
      rw [hp, h2, prt_prt]; exact h)
    (by
      have e1 := part_ag m c c st bf s (qtr s.qtr)
      have e2 : accJ (prt bf s.lev c) st bf (agCh bf s c) ⊢ junk (F := F) (prt bf s.lev c) ((XK.ag st bf s).dst c) Finset.univ := by
        unfold accJ; rw [← agR_eq]; exact junk_slice _ (accM st bf) (agR bf s c) (fun _ => rfl)
      rw [hp]
      have h3 : holds m c (.xf (.ag st bf s)) = iprop((tok c (.snd (.ag st bf s)) ∗ tok (prt bf s.lev c) (.rcv (.ag st bf s))) ∗ posn c (.snd (.ag st bf s))) := rfl
      have h4 : holds m c (.dst (.ag st bf s)) = accJ (prt bf s.lev c) st bf (agCh bf s c) := rfl
      have h5 : holds m c (.aG st bf (agCh bf s c) s.qtr) = accP c st bf (agCh bf s c) (qtr s.qtr) (gX m st bf) := rfl
      simp only [sepL, h3, h4, h5]
      iintro ⟨Ht, Hd, Hl, -⟩
      isplitl [Ht]; · iexact Ht
      isplitl [Hl]
      · iapply e1; iexact Hl
      iapply e2; iexact Hd)
    (one_sepL (holds m c) (.snt (.ag st bf s)))

/-- Every instruction's specification holds. -/
theorem sound (i : Ins) (sp : Sp) (h : i.sp c own half = some sp) : Sound m K c i own half sp := by
  cases i with
  | sig i => obtain rfl := Option.some.inj h; exact s_sig m K c own half i
  | barWait => obtain rfl := Option.some.inj h; exact s_barWait m K c own half
  | tWait st u => obtain rfl := Option.some.inj h; exact s_tWait m K c own half st u
  | wWait => obtain rfl := Option.some.inj h; exact s_wWait m K c own half
  | cast => obtain rfl := Option.some.inj h; exact s_cast m K c own half
  | init st bf snd u =>
    cases hi : initCond bf snd u c with
    | true => simp only [Ins.sp, hi] at h; obtain rfl := Option.some.inj h; exact s_init m K c own half st bf snd u hi
    | false => simp only [Ins.sp, hi] at h; obtain rfl := Option.some.inj h; exact s_skip m K c own half st bf snd u hi
  | send k => cases k with
    | rs st bf s => obtain rfl := Option.some.inj h; exact s_send_rs m K c own half st bf s
    | ag st bf s => obtain rfl := Option.some.inj h; exact s_send_ag m K c own half st bf s
  | waitS k => cases k with
    | rs st bf s => obtain rfl := Option.some.inj h; exact s_waitS_rs m K c own half st bf s
    | ag st bf s => obtain rfl := Option.some.inj h; exact s_waitS_ag m K c own half st bf s
  | waitR k => cases k with
    | rs st bf s => obtain rfl := Option.some.inj h; exact s_waitR_rs m K c own half st bf s
    | ag st bf s => obtain rfl := Option.some.inj h; exact s_waitR_ag m K c own half st bf s
  | add st bf s => obtain rfl := Option.some.inj h; exact s_add m K c own half st bf s
  | ldOwn st => obtain rfl := Option.some.inj h; exact s_ldOwn m K c own half st
  | ldW bf => cases own with
    | none => cases h
    | some st => obtain rfl := Option.some.inj h; exact s_ldW m K c half bf st
  | ldAcc st bf w =>
    simp only [Ins.sp] at h
    by_cases hw : w = 0
    · simp [hw] at h
    · rw [if_neg hw] at h; obtain rfl := Option.some.inj h; exact s_ldAcc m K c own half st bf w hw
  | stg bf w =>
    cases half with
    | none => cases h
    | some x =>
      obtain ⟨st, bf', w'⟩ := x
      simp only [Ins.sp] at h
      split at h
      · next hh => obtain ⟨rfl, rfl⟩ := hh; obtain rfl := Option.some.inj h; exact s_stg m K c own st bf' w'
      · cases h
  | outStart st bf w => obtain rfl := Option.some.inj h; exact s_outStart m K c own half st bf w
  | outWait st bf w => obtain rfl := Option.some.inj h; exact s_outWait m K c own half st bf w
  | stAcc st bf =>
    simp only [Ins.sp] at h
    split at h
    · next hh => subst hh; obtain rfl := Option.some.inj h; exact s_stAcc m K c own st bf
    · cases h
end Each

/-! ### The run -/
structure St where
  res : List R
  todo : List Pay
  own : Option Bool
  half : Option (Bool × Bool × Fin 8)
def stepI (d : Dev nD) (i : Ins) (s : St) : Option St :=
  match i.sp d s.own s.half with
  | none => none
  | some sp =>
    match takeAll sp.need s.res, payStep sp.pay s.todo with
    | some rest, some t => if lowOK sp.low s.todo then some ⟨sp.give ++ rest, t, sp.own, sp.half⟩ else none
    | _, _ => none
def runI (d : Dev nD) : List Ins → St → Option St
  | [], s => some s
  | i :: is, s => (stepI d i s).bind (runI d is)

theorem run_sound (c : Dev nD) (Q : PUnit → sProp 𝕄) : ∀ (is : List Ins) (s s' : St) (_ : runI c is s = some s') (r : Reg F) (_ : RegOK m c s.own s.half r),
    iprop(records m K ∗ sepL (holds m c) s.res ∗ owesS c s.todo)
      ⊢ iprop((sepL (holds m c) s'.res -∗ owesS c s'.todo -∗ Q ⟨⟩) -∗ WP c (runAll c is r) Q)
  | [], s, s', h, r, hr => by
    obtain rfl := Option.some.inj h
    unfold runAll
    iintro ⟨#HR, Hl, HO⟩ Hk
    iapply (le_wp_ret _ _ _ _ Q)
    iapply Hk $$ Hl HO
  | i :: is, s, s', h, r, hr => by
    unfold runI at h
    obtain ⟨s₁, h1, h2⟩ := Option.bind_eq_some_iff.mp h
    unfold stepI at h1
    split at h1
    · cases h1
    · next sp hsp =>
      split at h1
      · next rest t hrest ht =>
        split at h1
        · next hlow =>
          obtain rfl := Option.some.inj h1
          have hs := sound m K c s.own s.half i sp hsp s.todo t ht hlow r hr PUnit Q (runAll c is)
          have htk := takeAll_sound (holds m c) hrest
          have ih := fun r' hr' => run_sound c Q is ⟨sp.give ++ rest, t, sp.own, sp.half⟩ s' h2 r' hr'
          unfold runAll
          iintro ⟨#HR, Hl, HO⟩ Hk
          ihave Hl := htk $$ Hl
          icases Hl with ⟨Hn, Hrest⟩
          iapply hs $$ [Hn HO]
          · isplitr; · iexact HR
            isplitl [Hn] <;> iassumption
          iintro %r' %hr' Hg HO
          iapply (ih r' hr') $$ [Hg Hrest HO]
          · isplitr; · iexact HR
            isplitl [Hg Hrest]
            · iapply append_sepL; isplitl [Hg] <;> iassumption
            iexact HO
          iexact Hk
        · cases h1
      · cases h1
end Cert.KernelIdeal.Hcube
end
-- ==== Proof.Tiles.lean ====
module
public import proofs.«01_k».proof.Proof.Res

/-! Whole buffers cut into the pieces the resources name, and put together again. -/

@[expose] public section
noncomputable section
namespace Cert.KernelIdeal.Hcube
open Idealize.ShloMosaic Idealize.ShloMosaic.TcCoe
open Idealize.SL Idealize.SL.RA Idealize.SL.BI Idealize.SL.RA.PCS
open scoped Idealize.SL.BI
open Idealize.SL.BI.BIBase Idealize.SL.BI.Laws Idealize.SL.ProofMode Idealize.SL.Sem
open Idealize.ShloMosaic.Rounds
open Cert.KernelIdeal.Gen
variable {F : FTy → Type} [FloatOps F]
local notation "𝕄" => MT nD τ sig Unit (Elt F) ℕ UU ℕ
variable (m : (ℓ : Loc nD τ sig) → Buf (Elt F) ℓ)

def allR : List (Bool × Bool × RSlot) := bools.flatMap fun st => bools.flatMap fun bf => [RSlot.a, .b, .c, .d, .e].map fun s => (st, bf, s)
def allP : List (Bool × Fin 8) := bools.flatMap fun bf => [(bf, 0), (bf, 1)]
def res0 : List R :=
  [.bT 0, .bT 1, .bT 2, .bP] ++ (allT.map fun p => .tV p.1 p.2) ++ [.wV, .wbJ] ++ (allO.map fun p => .aJ p.1 p.2.1 p.2.2) ++
  (allR.map fun p => .rJ p.1 p.2.1 p.2.2) ++ (allXK.map .xf) ++ (allXK.map .ar) ++ (allP.map fun p => .stJ p.1 p.2) ++
  (allO.map fun p => .oT p.1 p.2.1 p.2.2)
def todo0 : List Pay := allIns.filterMap fun | .sig i => some (.bar i) | .send k => some (.xf k) | _ => none
def res1 : List R :=
  [.bD] ++ (allT.map fun p => .tD p.1 p.2) ++ [.wD, .wbV] ++ (allO.flatMap fun p => qs.map fun i => .aG p.1 p.2.1 p.2.2 i) ++
  (allR.map fun p => .rV p.1 p.2.1 p.2.2) ++ (allXK.map .dS) ++ (allXK.map .dR) ++ (allP.map fun p => .stJ p.1 p.2) ++
  (allO.map fun p => .oD p.1 p.2.1 p.2.2)
/-! ### Lists -/
theorem sepL_sep {α : Type} (Φ Ψ : α → sProp 𝕄) : ∀ l : List α, sepL (fun x => iprop(Φ x ∗ Ψ x)) l ⊢ (iprop(sepL Φ l ∗ sepL Ψ l) : sProp 𝕄)
  | [] => by simp only [sepL]; iintro -; isplitl <;> iempintro
  | x :: l => by
    have ih := sepL_sep Φ Ψ l
    simp only [sepL]
    iintro ⟨⟨H1, H2⟩, Hl⟩
    ihave Hl := ih $$ Hl
    icases Hl with ⟨H3, H4⟩
    isplitl [H1 H3]
    · isplitl [H1] <;> iassumption
    · isplitl [H2] <;> iassumption
theorem sep_sepL {α : Type} (Φ Ψ : α → sProp 𝕄) : ∀ l : List α, (iprop(sepL Φ l ∗ sepL Ψ l) : sProp 𝕄) ⊢ sepL (fun x => iprop(Φ x ∗ Ψ x)) l
  | [] => by simp only [sepL]; iintro -; iempintro
  | x :: l => by
    have ih := sep_sepL Φ Ψ l
    simp only [sepL]
    iintro ⟨⟨H1, H2⟩, H3, H4⟩
    isplitl [H1 H3]
    · isplitl [H1] <;> iassumption
    · iapply ih; isplitl [H2] <;> iassumption
theorem flat_sepL {α : Type} (Φ : α → sProp 𝕄) (f : Bool → List α) : (iprop(sepL Φ (f false) ∗ sepL Φ (f true)) : sProp 𝕄) ⊢ sepL Φ (bools.flatMap f) := by
  have h := append_sepL (F := F) Φ (f false) (f true)
  rw [show bools.flatMap f = f false ++ f true by simp [bools]]
  exact h
theorem sepL_flat {α : Type} (Φ : α → sProp 𝕄) (f : Bool → List α) : sepL Φ (bools.flatMap f) ⊢ (iprop(sepL Φ (f false) ∗ sepL Φ (f true)) : sProp 𝕄) := by
  have h := sepL_append (F := F) Φ (f false) (f true)
  rw [show bools.flatMap f = f false ++ f true by simp [bools]]
  exact h
/-- A family over the two halves and the two column halves, and a list within. -/
theorem flat2_sepL {α : Type} (Φ : α → sProp 𝕄) (f : Bool → Bool → List α) :
    (iprop(sepL Φ (f false false) ∗ sepL Φ (f false true) ∗ sepL Φ (f true false) ∗ sepL Φ (f true true)) : sProp 𝕄) ⊢ sepL Φ (bools.flatMap fun st => bools.flatMap fun bf => f st bf) := by
  have h := flat_sepL (F := F) Φ fun st => bools.flatMap fun bf => f st bf
  have h1 := flat_sepL (F := F) Φ (f false)
  have h2 := flat_sepL (F := F) Φ (f true)
  iintro ⟨A, B, C, D⟩
  iapply h
  isplitl [A B]
  · iapply h1; isplitl [A] <;> iassumption
  · iapply h2; isplitl [C] <;> iassumption
theorem sepL_flat2 {α : Type} (Φ : α → sProp 𝕄) (f : Bool → Bool → List α) :
    sepL Φ (bools.flatMap fun st => bools.flatMap fun bf => f st bf) ⊢ (iprop(sepL Φ (f false false) ∗ sepL Φ (f false true) ∗ sepL Φ (f true false) ∗ sepL Φ (f true true)) : sProp 𝕄) := by
  have h := sepL_flat (F := F) Φ fun st => bools.flatMap fun bf => f st bf
  have h1 := sepL_flat (F := F) Φ (f false)
  have h2 := sepL_flat (F := F) Φ (f true)
  iintro H
  ihave H := h $$ H
  icases H with ⟨H1, H2⟩
  ihave H1 := h1 $$ H1
  ihave H2 := h2 $$ H2
  icases H1 with ⟨A, B⟩
  icases H2 with ⟨C, D⟩
  isplitl [A]; · iexact A
  isplitl [B]; · iexact B
  isplitl [C] <;> iassumption

/-! ### Tiles -/
section Tile
variable {sp : Space} {s : Shape} {e : EltTy} {ι : Type} [DecidableEq ι]
theorem tile_cons (φ : s.Idx → ι) (A : ι → Finset s.Idx) (i : ι) (l : List ι) (hn : (i :: l).Nodup) (hA : ∀ x ∈ i :: l, ∀ j, (j ∈ A x ↔ φ j = x)) :
    (Finset.univ.filter fun j => φ j ∈ i :: l) = A i ∪ (Finset.univ.filter fun j => φ j ∈ l) ∧ Disjoint (A i) (Finset.univ.filter fun j => φ j ∈ l) := by
  constructor
  · ext j
    simp only [Finset.mem_filter, Finset.mem_univ, true_and, Finset.mem_union, List.mem_cons, hA i List.mem_cons_self j]
  · refine Finset.disjoint_left.mpr fun j h1 h2 => ?_
    rw [hA i List.mem_cons_self j] at h1
    simp only [Finset.mem_filter, Finset.mem_univ, true_and] at h2
    rw [h1] at h2
    exact (List.nodup_cons.mp hn).1 h2
theorem part_tile (c : Dev nD) (M : Memref sig .tc sp s e) (q : PosShare TreeShare) (X : s.Idx → Elt F e) (φ : s.Idx → ι) (A : ι → Finset s.Idx) : ∀ (l : List ι) (hn : l.Nodup) (hA : ∀ x ∈ l, ∀ j, (j ∈ A x ↔ φ j = x)),
    part c M (Finset.univ.filter fun j => φ j ∈ l) q X ⊢ (sepL (fun i => part c M (A i) q X) l : sProp 𝕄)
  | [], _, _ => by simp only [sepL]; iintro -; iempintro
  | i :: l, hn, hA => by
    obtain ⟨h1, h2⟩ := tile_cons φ A i l hn hA
    have ih := part_tile c M q X φ A l (List.nodup_cons.mp hn).2 fun x hx => hA x (List.mem_cons_of_mem _ hx)
    have hs := part_split c M h2 q X
    rw [h1]; simp only [sepL]
    iintro H
    ihave H := hs $$ H
    icases H with ⟨H1, H2⟩
    isplitl [H1]; · iexact H1
    iapply ih; iexact H2
theorem junk_tile (c : Dev nD) (M : Memref sig .tc sp s e) (φ : s.Idx → ι) (A : ι → Finset s.Idx) : ∀ (l : List ι) (hn : l.Nodup) (hA : ∀ x ∈ l, ∀ j, (j ∈ A x ↔ φ j = x)),
    junk c M (Finset.univ.filter fun j => φ j ∈ l) ⊢ (sepL (fun i => junk c M (A i)) l : sProp 𝕄)
  | [], _, _ => by simp only [sepL]; iintro -; iempintro
  | i :: l, hn, hA => by
    obtain ⟨h1, h2⟩ := tile_cons φ A i l hn hA
    have ih := junk_tile c M φ A l (List.nodup_cons.mp hn).2 fun x hx => hA x (List.mem_cons_of_mem _ hx)
    have hs := junk_split (F := F) c M h2
    rw [h1]; simp only [sepL]
    iintro H
    ihave H := hs $$ H
    icases H with ⟨H1, H2⟩
    isplitl [H1]; · iexact H1
    iapply ih; iexact H2
theorem tile_junk (c : Dev nD) (M : Memref sig .tc sp s e) (φ : s.Idx → ι) (A : ι → Finset s.Idx) : ∀ (l : List ι) (i₀ : ι) (hn : (i₀ :: l).Nodup) (hA : ∀ x ∈ i₀ :: l, ∀ j, (j ∈ A x ↔ φ j = x)),
    (sepL (fun i => junk c M (A i)) (i₀ :: l) : sProp 𝕄) ⊢ junk c M (Finset.univ.filter fun j => φ j ∈ i₀ :: l)
  | [], i, hn, hA => by
    obtain ⟨h1, h2⟩ := tile_cons φ A i [] hn hA
    have h3 : (Finset.univ.filter fun j => φ j ∈ ([] : List ι)) = ∅ := by ext j; simp
    rw [h1, h3, Finset.union_empty]; simp only [sepL]
    iintro ⟨H, -⟩; iexact H
  | i' :: l, i, hn, hA => by
    obtain ⟨h1, h2⟩ := tile_cons φ A i (i' :: l) hn hA
    have ih := tile_junk c M φ A l i' (List.nodup_cons.mp hn).2 fun x hx => hA x (List.mem_cons_of_mem _ hx)
    have hs := junk_join (F := F) c M h2
    rw [h1, sepL]
    iintro ⟨H1, H2⟩
    iapply hs
    isplitl [H1]; · iexact H1
    iapply ih; iexact H2
theorem tile_junk' (c : Dev nD) (M : Memref sig .tc sp s e) (φ : s.Idx → ι) (A : ι → Finset s.Idx) (l : List ι) (h0 : l ≠ []) (hn : l.Nodup) (hA : ∀ x ∈ l, ∀ j, (j ∈ A x ↔ φ j = x)) :
    (sepL (fun i => junk c M (A i)) l : sProp 𝕄) ⊢ junk c M (Finset.univ.filter fun j => φ j ∈ l) := by
  cases l with
  | nil => exact absurd rfl h0
  | cons i l => exact tile_junk c M φ A l i hn hA
theorem filter_all (φ : s.Idx → ι) (l : List ι) (h : ∀ j, φ j ∈ l) : (Finset.univ.filter fun j => φ j ∈ l) = Finset.univ := by
  ext j; simp [h j]
end Tile

/-! ### Whole buffers -/
theorem setOn_whole (b : Ref sig .tc) : (Memref.whole b : Memref sig .tc _ _ _).view.setOn Finset.univ = Finset.univ := View.set_whole b
theorem whole_junk (c : Dev nD) (b : Ref sig .tc) :
    iprop(∃ f : Buf (Elt F) ((c : Thread nD τ).loc b), ((c : Thread nD τ).loc b) ↦{fullShare} f) ⊢ (junk c (Memref.whole b) Finset.univ : sProp 𝕄) := by
  unfold junk; rw [setOn_whole]
theorem junk_whole (c : Dev nD) (b : Ref sig .tc) :
    (junk c (Memref.whole b) Finset.univ : sProp 𝕄) ⊢ iprop(∃ f : Buf (Elt F) ((c : Thread nD τ).loc b), ((c : Thread nD τ).loc b) ↦{fullShare} f) := by
  unfold junk; rw [setOn_whole]
theorem whole_part (c : Dev nD) (b : Ref sig .tc) (q : PosShare TreeShare) (f : Buf (Elt F) ((c : Thread nD τ).loc b)) :
    (iprop(((c : Thread nD τ).loc b) ↦{q} f) : sProp 𝕄) ⊢ part c (Memref.whole b) Finset.univ q ((Memref.whole b).view.read (Elt F) f) := by
  unfold part; rw [setOn_whole]; iintro H; iexists f; isplitr
  · ipureintro; exact fun _ _ => rfl
  · iexact H

/-! ### The tiles of each buffer -/
theorem nodup_chunks : chunks.Nodup := by decide
theorem mem_chunks : ∀ u : Fin 8, u ∈ chunks := by decide
theorem nodup_allT : allT.Nodup := by decide
theorem mem_allT : ∀ p : Bool × Fin 8, p ∈ allT := by decide
theorem nodup_allO : allO.Nodup := by decide
theorem mem_allO : ∀ p : Bool × Bool × Fin 8, p ∈ allO := by decide
theorem nodup_allP : allP.Nodup := by decide

def chunkOf (j : S2048x512.Idx) : Fin 8 := ⟨(j 0).val / 256, by have h : (j 0).val < 2048 := (j 0).isLt; omega⟩
theorem chunk_tile (u : Fin 8) (j : S2048x512.Idx) : (j ∈ (chunkR u).set ↔ chunkOf j = u) := by
  rw [mem_chunkR]; exact ⟨fun h => Fin.ext h, fun h => congrArg Fin.val h⟩
theorem acc_cut (c : Dev nD) (st bf : Bool) : junk c (accM st bf) Finset.univ ⊢ (sepL (fun u => accJ c st bf u) chunks : sProp 𝕄) := by
  have h := junk_tile (F := F) c (accM st bf) chunkOf (fun u => (chunkR u).set) chunks nodup_chunks fun u _ j => chunk_tile u j
  rw [filter_all _ _ fun j => mem_chunks _] at h; exact h
theorem cut_acc (c : Dev nD) (st bf : Bool) : (sepL (fun u => accJ c st bf u) chunks : sProp 𝕄) ⊢ junk c (accM st bf) Finset.univ := by
  have h := tile_junk' (F := F) c (accM st bf) chunkOf (fun u => (chunkR u).set) chunks (by decide) nodup_chunks fun u _ j => chunk_tile u j
  rw [filter_all _ _ fun j => mem_chunks _] at h; exact h

def tOf (j : S4096x1024.Idx) : Bool × Fin 8 := (decide ((j 0).val / 256 % 2 = 1), ⟨(j 0).val / 512, by have h : (j 0).val < 4096 := (j 0).isLt; omega⟩)
theorem t_tile (p : Bool × Fin 8) (j : S4096x1024.Idx) : (j ∈ (tR p.1 p.2).set ↔ tOf j = p) := by
  obtain ⟨st, u⟩ := p
  have h0 : (j 0).val < 4096 := (j 0).isLt
  have h1 : (j 1).val < 1024 := (j 1).isLt
  have hu := u.isLt
  rw [Rect.mem_set_unit, Fin.forall_fin_two]
  show ((512 * u.val + 256 * st.toNat ≤ (j 0).val ∧ (j 0).val < 512 * u.val + 256 * st.toNat + 256) ∧ (0 ≤ (j 1).val ∧ (j 1).val < 0 + 1024)) ↔ _
  unfold tOf
  rw [Prod.mk.injEq, Fin.ext_iff]
  cases st <;> simp <;> omega
theorem tV_cut (c : Dev nD) : junk c tVM Finset.univ ⊢ (sepL (fun p => junk c (tSlice tVM p.1 p.2) Finset.univ) allT : sProp 𝕄) := by
  have h := junk_tile (F := F) c tVM tOf (fun p => (tR p.1 p.2).set) allT nodup_allT fun u _ j => t_tile u j
  rw [filter_all _ _ fun j => mem_allT _] at h
  have h2 := sepL_mono (F := F) (Φ := fun p : Bool × Fin 8 => junk c tVM (tR p.1 p.2).set) (Ψ := fun p => junk c (tSlice tVM p.1 p.2) Finset.univ) (fun p => junk_slice c tVM (tR p.1 p.2) (fun _ => rfl)) allT
  generalize allT = l at h h2 ⊢
  iintro H
  ihave H := h $$ H
  iapply h2; iexact H
theorem cut_tV (c : Dev nD) : (sepL (fun p => junk c tVM (tR p.1 p.2).set) allT : sProp 𝕄) ⊢ junk c tVM Finset.univ := by
  have h := tile_junk' (F := F) c tVM tOf (fun p => (tR p.1 p.2).set) allT (by decide) nodup_allT fun u _ j => t_tile u j
  rw [filter_all _ _ fun j => mem_allT _] at h; exact h
theorem tH_cut (c : Dev nD) : part c tHM Finset.univ fullShare.left (tX m c) ⊢ (sepL (fun p => part c (tSlice tHM p.1 p.2) Finset.univ fullShare.left (fun j => tX m c ((tR p.1 p.2).emb j))) allT : sProp 𝕄) := by
  have h := part_tile (F := F) c tHM fullShare.left (tX m c) tOf (fun p => (tR p.1 p.2).set) allT nodup_allT fun u _ j => t_tile u j
  rw [filter_all _ _ fun j => mem_allT _] at h
  have h2 := sepL_mono (F := F) (Φ := fun p : Bool × Fin 8 => part c tHM (tR p.1 p.2).set fullShare.left (tX m c)) (Ψ := fun p => part c (tSlice tHM p.1 p.2) Finset.univ fullShare.left (fun j => tX m c ((tR p.1 p.2).emb j))) (fun p => part_slice c tHM (tR p.1 p.2) (fun _ => rfl) fullShare.left _) allT
  generalize allT = l at h h2 ⊢
  iintro H
  ihave H := h $$ H
  iapply h2; iexact H

def slotOf (j : S4x256x512.Idx) : Bool × Fin 8 := (decide ((j 0).val % 2 = 1), ⟨(j 0).val / 2 % 8, Nat.mod_lt _ (by decide)⟩)
theorem slot_tile (p : Bool × Fin 8) (hp : p ∈ allP) (j : S4x256x512.Idx) : (j ∈ (slotR p.1 p.2).set ↔ slotOf j = p) := by
  have h0 : (j 0).val < 4 := (j 0).isLt
  have h1 : (j 1).val < 256 := (j 1).isLt
  have h2 : (j 2).val < 512 := (j 2).isLt
  rw [Rect.mem_set_unit]
  have hx : (∀ a, (![slotNum p.1 p.2, 0, 0] : Fin 3 → Nat) a ≤ (j a).val ∧ (j a).val < (![slotNum p.1 p.2, 0, 0] : Fin 3 → Nat) a + S1x256x512.size a) ↔ (j 0).val = slotNum p.1 p.2 := by
    constructor
    · intro h; have := h 0
      have h3 : slotNum p.1 p.2 ≤ (j 0).val ∧ (j 0).val < slotNum p.1 p.2 + 1 := this
      omega
    · intro h a
      match a with
      | 0 => exact ⟨le_of_eq h.symm, show (j 0).val < slotNum p.1 p.2 + 1 by omega⟩
      | 1 => exact ⟨Nat.zero_le _, show (j 1).val < 0 + 256 by omega⟩
      | 2 => exact ⟨Nat.zero_le _, show (j 2).val < 0 + 512 by omega⟩
  rw [show (∀ a, (![slotNum p.1 p.2, 0, 0] : Fin 3 → Nat) a ≤ (j a).val ∧ (j a).val < (![slotNum p.1 p.2, 0, 0] : Fin 3 → Nat) a + S1x256x512.size a) ↔ _ from hx]
  unfold slotOf slotNum
  obtain ⟨bf, w⟩ := p
  rw [Prod.mk.injEq, Fin.ext_iff]
  have hw : w.val < 2 := by
    have : ∀ p ∈ allP, p.2.val < 2 := by decide
    exact this _ hp
  cases bf <;> simp <;> omega
theorem mem_slot (j : S4x256x512.Idx) : slotOf j ∈ allP := by
  have h0 : (j 0).val < 4 := (j 0).isLt
  have : ∀ n : Fin 4, ((decide (n.val % 2 = 1), ⟨n.val / 2 % 8, Nat.mod_lt _ (by decide)⟩) : Bool × Fin 8) ∈ allP := by decide
  exact this ⟨_, h0⟩
theorem stg_cut (c : Dev nD) : junk c stgM Finset.univ ⊢ (sepL (fun p => junk c stgM (slotR p.1 p.2).set) allP : sProp 𝕄) := by
  have h := junk_tile (F := F) c stgM slotOf (fun p => (slotR p.1 p.2).set) allP nodup_allP fun u hu j => slot_tile u hu j
  rw [filter_all _ _ mem_slot] at h; exact h
theorem cut_stg (c : Dev nD) : (sepL (fun p => junk c stgM (slotR p.1 p.2).set) allP : sProp 𝕄) ⊢ junk c stgM Finset.univ := by
  have h := tile_junk' (F := F) c stgM slotOf (fun p => (slotR p.1 p.2).set) allP (by decide) nodup_allP fun u hu j => slot_tile u hu j
  rw [filter_all _ _ mem_slot] at h; exact h

abbrev outR (c : Dev nD) (p : Bool × Bool × Fin 8) : Rect S4096x1024 := Rect.unit (s := S4096x1024) (outOff p.1 p.2.1 p.2.2 c) S256x512.size (outOff_inb p.1 p.2.1 p.2.2 c)
/-- The block of the result, in a device's own order, that holds an element. -/
def outOf (c : Dev nD) (j : S4096x1024.Idx) : Bool × Bool × Fin 8 :=
  (decide ((j 0).val / 256 % 2 = 1), decide ((j 1).val / 512 = 1),
    xor8 (vOf (decide ((j 1).val / 512 = 1)) c) (vOf (decide ((j 1).val / 512 = 1)) ⟨(j 0).val / 512, by have h : (j 0).val < 4096 := (j 0).isLt; show _ < 8; omega⟩))
theorem xor_swap : ∀ bf (c u w : Fin 8), ((sigma bf (xor8 (vOf bf c) w)) = u ↔ xor8 (vOf bf c) (vOf bf u) = w) := by decide +kernel
theorem out_tile (c : Dev nD) (p : Bool × Bool × Fin 8) (j : S4096x1024.Idx) : (j ∈ (outR c p).set ↔ outOf c j = p) := by
  obtain ⟨st, bf, w⟩ := p
  have h0 : (j 0).val < 4096 := (j 0).isLt
  have h1 : (j 1).val < 1024 := (j 1).isLt
  have hx := xor_swap bf c ⟨(j 0).val / 512, by omega⟩ w
  rw [Fin.ext_iff] at hx
  rw [Rect.mem_set_unit, Fin.forall_fin_two]
  show ((outOff st bf w c 0 ≤ (j 0).val ∧ (j 0).val < outOff st bf w c 0 + 256) ∧ (outOff st bf w c 1 ≤ (j 1).val ∧ (j 1).val < outOff st bf w c 1 + 512)) ↔ _
  rw [outOff_eq]
  show ((512 * (sigma bf (xor8 (vOf bf c) w)).val + 256 * st.toNat ≤ (j 0).val ∧ (j 0).val < 512 * (sigma bf (xor8 (vOf bf c) w)).val + 256 * st.toNat + 256) ∧
    (512 * bf.toNat ≤ (j 1).val ∧ (j 1).val < 512 * bf.toNat + 512)) ↔ _
  unfold outOf
  rw [Prod.mk.injEq, Prod.mk.injEq]
  generalize (sigma bf (xor8 (vOf bf c) w)).val = g at hx ⊢
  constructor
  · rintro ⟨ha, hb⟩
    have e1 : decide ((j 1).val / 512 = 1) = bf := by cases bf <;> simp at hb ⊢ <;> omega
    have e0 : decide ((j 0).val / 256 % 2 = 1) = st := by cases st <;> simp at ha ⊢ <;> omega
    refine ⟨e0, e1, ?_⟩
    rw [e1]
    exact hx.mp (by have := Bool.toNat_le st; show g = (j 0).val / 512; omega)
  · rintro ⟨e0, e1, e2⟩
    rw [e1] at e2
    have hg : g = (j 0).val / 512 := hx.mpr e2
    constructor
    · cases st <;> simp at e0 ⊢ <;> omega
    · cases bf <;> simp at e1 ⊢ <;> omega
theorem out_cut (c : Dev nD) : junk c oHM Finset.univ ⊢ (sepL (fun p => junk c (outV p.1 p.2.1 p.2.2 c) Finset.univ) allO : sProp 𝕄) := by
  have h := junk_tile (F := F) c oHM (outOf c) (fun p => (outR c p).set) allO nodup_allO fun u _ j => out_tile c u j
  rw [filter_all _ _ fun j => mem_allO _] at h
  have h2 := sepL_mono (F := F) (Φ := fun p : Bool × Bool × Fin 8 => junk c oHM (outR c p).set) (Ψ := fun p => junk c (outV p.1 p.2.1 p.2.2 c) Finset.univ) (fun p => junk_slice c oHM (outR c p) (fun _ => rfl)) allO
  generalize allO = l at h h2 ⊢
  iintro H
  ihave H := h $$ H
  iapply h2; iexact H
end Cert.KernelIdeal.Hcube
end
-- ==== Proof.Ends.lean ====
module
public import proofs.«01_k».proof.Proof.Tiles

/-! The copies in that a device starts first, the resources it starts with, and what is left at the end. -/

@[expose] public section
noncomputable section
namespace Cert.KernelIdeal.Hcube
open Idealize.ShloMosaic Idealize.ShloMosaic.TcCoe
open Idealize.SL Idealize.SL.RA Idealize.SL.BI Idealize.SL.RA.PCS
open scoped Idealize.SL.BI
open Idealize.SL.BI.BIBase Idealize.SL.BI.Laws Idealize.SL.ProofMode Idealize.SL.Sem
open Idealize.ShloMosaic.Rounds
open Cert.KernelIdeal.Gen
variable {F : FTy → Type} [FloatOps F]
local notation "𝕄" => MT nD τ sig Unit (Elt F) ℕ UU ℕ
variable (m : (ℓ : Loc nD τ sig) → Buf (Elt F) ℓ) (K : Names)

/-! ### Starting the copies in -/
theorem t_start (c : Dev nD) (st : Bool) (u : Fin 8) {α : Type} (q : PG F α) (Q : α → sProp 𝕄) :
    iprop(records m K ∗ holds m c (.tS st u)) ⊢ iprop((holds m c (.tV st u) -∗ WP c q Q) -∗ WP c ((tStartOp st u).bind fun _ => q) Q) := by
  have h1 : iprop(part c (tSlice tVM st u) Finset.univ fullShare (fun j => tX m c ((tR st u).emb j)) ∗ part c (tSlice tHM st u) Finset.univ fullShare.left (fun j => tX m c ((tR st u).emb j))) ⊢ dPay m c (.tin st u) := by
    rw [show dPay m c (.tin st u) = part c tVM (tR st u).set fullShare (tX m c) from rfl]
    have h2 := slice_part c tVM (tR st u) (fun _ => rfl) fullShare (tX m c)
    iintro ⟨H, -⟩; iapply h2; iexact H
  have hrun : ((tStartOp (F := F) st u).bind fun _ => q) = .op (.enqueueDma (tSlice tHM st u) (.here (tSlice tVM st u)) (.dma (DK.tin st u).sem) (View.wordExact_bits rfl) (View.wordExact_bits rfl) ⟨Or.inl rfl, trivial⟩) fun _ => q := rfl
  rw [hrun]
  have h3 : holds m c (.tS st u) = iprop(part c (tSlice tHM st u) Finset.univ fullShare.left (fun j => tX m c ((tR st u).emb j)) ∗ junk c (tSlice tVM st u) Finset.univ ∗ tok c (.tin st u) ∗ posn c (.tin st u)) := rfl
  have h4 : holds m c (.tV st u) = wait1 c (.tin st u) := rfl
  rw [h3, h4]
  iintro ⟨#HR, Ha, Hj, Ht, Hp⟩ Hk
  iapply (copy_dma m K c (.tin st u) (dst := tSlice tVM st u) rfl h1) $$ [Hj Ht Ha]
  · isplitr; · iexact HR
    isplitl [Ht]; · iexact Ht
    isplitl [Ha] <;> iassumption
  iintro Hc
  iapply Hk
  unfold wait1; isplitl [Hp] <;> iassumption
theorem w_start (c : Dev nD) {α : Type} (q : PG F α) (Q : α → sProp 𝕄) :
    iprop(records m K ∗ holds m c .wS) ⊢ iprop((holds m c .wV -∗ WP c q Q) -∗ WP c (wStartOp.bind fun _ => q) Q) := by
  have h1 : iprop(part c wVM Finset.univ fullShare (wX m c) ∗ part c wHM Finset.univ fullShare.left (wX m c)) ⊢ dPay m c .win := by
    rw [show dPay m c .win = part c wVM Finset.univ fullShare (wX m c) from rfl]
    iintro ⟨H, -⟩; iexact H
  have hrun : ((wStartOp (F := F)).bind fun _ => q) = .op (.enqueueDma wHM (.here wVM) (.dma DK.win.sem) (View.wordExact_bits rfl) (View.wordExact_bits rfl) ⟨Or.inl rfl, trivial⟩) fun _ => q := rfl
  rw [hrun]
  have h3 : holds m c .wS = iprop(part c wHM Finset.univ fullShare.left (wX m c) ∗ junk c wVM Finset.univ ∗ tok c .win ∗ posn c .win) := rfl
  have h4 : holds m c .wV = wait1 c .win := rfl
  rw [h3, h4]
  iintro ⟨#HR, Ha, Hj, Ht, Hp⟩ Hk
  iapply (copy_dma m K c .win (dst := wVM) rfl h1) $$ [Hj Ht Ha]
  · isplitr; · iexact HR
    isplitl [Ht]; · iexact Ht
    isplitl [Ha] <;> iassumption
  iintro Hc
  iapply Hk
  unfold wait1; isplitl [Hp] <;> iassumption
theorem ts_start (c : Dev nD) {α : Type} (Q : α → sProp 𝕄) (q : PG F α) : ∀ l : List (Bool × Fin 8),
    iprop(records m K ∗ sepL (fun p => holds m c (.tS p.1 p.2)) l) ⊢ iprop((sepL (fun p => holds m c (.tV p.1 p.2)) l -∗ WP c q Q) -∗
      WP c (List.foldr (fun (p : Bool × Fin 8) (q : PG F α) => (tStartOp p.1 p.2).bind fun _ => q) q l) Q)
  | [] => by
    simp only [sepL, List.foldr]
    iintro ⟨-, -⟩ Hk; iapply Hk; iempintro
  | p :: l => by
    have ih := ts_start c Q q l
    have h := t_start m K c p.1 p.2 (List.foldr (fun (p : Bool × Fin 8) (q : PG F α) => (tStartOp p.1 p.2).bind fun _ => q) q l) Q
    simp only [sepL, List.foldr]
    iintro ⟨#HR, H1, Hl⟩ Hk
    iapply h $$ [H1]
    · isplitr; · iexact HR
      iexact H1
    iintro H1
    iapply ih $$ [Hl]
    · isplitr; · iexact HR
      iexact Hl
    iintro Hl
    iapply Hk; isplitl [H1] <;> iassumption

/-! ### The resources at the start -/
/-- All but the copies in. -/
def preR (c : Dev nD) : sProp 𝕄 :=
  iprop(sepL (holds m c) [.bT 0, .bT 1, .bT 2, .bP] ∗ holds m c .wbJ ∗ sepL (fun p : Bool × Bool × Fin 8 => accJ c p.1 p.2.1 p.2.2) allO ∗
    sepL (fun p : Bool × Bool × RSlot => holds m c (.rJ p.1 p.2.1 p.2.2)) allR ∗ sepL (fun k => holds m c (.xf k)) allXK ∗ sepL (fun k => holds m c (.ar k)) allXK ∗
    sepL (fun p : Bool × Fin 8 => holds m c (.stJ p.1 p.2)) allP ∗ sepL (fun p : Bool × Bool × Fin 8 => holds m c (.oT p.1 p.2.1 p.2.2)) allO)
theorem two_sepL {α : Type} (Φ : α → sProp 𝕄) (x y : α) : iprop(Φ x ∗ Φ y) ⊢ (sepL Φ [x, y] : sProp 𝕄) := by
  simp only [sepL]; iintro ⟨H1, H2⟩; isplitl [H1]; · iexact H1
  isplitl [H2]; · iexact H2
  iempintro
theorem pre_res (c : Dev nD) : iprop(preR m c ∗ sepL (fun p : Bool × Fin 8 => holds m c (.tV p.1 p.2)) allT ∗ holds m c .wV) ⊢ (sepL (holds m c) res0 : sProp 𝕄) := by
  have hw := two_sepL (holds m c) .wV .wbJ
  have h (l l' : List R) := append_sepL (holds m c) l l'
  unfold preR res0
  generalize [R.bT 0, .bT 1, .bT 2, .bP] = l0
  generalize [R.wV, .wbJ] = l1 at hw ⊢
  iintro ⟨⟨H0, H1, H2, H3, H4, H5, H6, H7⟩, Ht, Hw⟩
  iapply h; isplitr [H7]; swap; · rw [sepL_map]; iexact H7
  iapply h; isplitr [H6]; swap; · rw [sepL_map]; iexact H6
  iapply h; isplitr [H5]; swap; · rw [sepL_map]; iexact H5
  iapply h; isplitr [H4]; swap; · rw [sepL_map]; iexact H4
  iapply h; isplitr [H3]; swap; · rw [sepL_map]; iexact H3
  iapply h; isplitr [H2]; swap; · rw [sepL_map]; iexact H2
  iapply h; isplitr [H1 Hw]; swap
  · iapply hw; isplitl [Hw] <;> iassumption
  iapply h; isplitl [H0]; · iexact H0
  rw [sepL_map]; iexact Ht

/-! ### What is left -/
def postR (c : Dev nD) : sProp 𝕄 :=
  iprop(semVal (bcell c) 0 ∗ sepL (fun p : Bool × Fin 8 => holds m c (.tD p.1 p.2)) allT ∗ holds m c .wD ∗ holds m c .wbV ∗
    sepL (fun p : Bool × Bool × Fin 8 => sepL (fun i => accP c p.1 p.2.1 p.2.2 (qtr i) (gX m p.1 p.2.1)) qs) allO ∗
    sepL (fun p : Bool × Bool × RSlot => holds m c (.rV p.1 p.2.1 p.2.2)) allR ∗ sepL (fun k => semVal (dcell c (.snd k)) 0) allXK ∗ sepL (fun k => semVal (dcell c (.rcv k)) 0) allXK ∗
    sepL (fun p : Bool × Fin 8 => holds m c (.stJ p.1 p.2)) allP ∗ sepL (fun p : Bool × Bool × Fin 8 => holds m c (.oD p.1 p.2.1 p.2.2)) allO)
theorem sepL_flatMap {α β : Type} (Φ : β → sProp 𝕄) (f : α → List β) : ∀ l : List α, sepL Φ (l.flatMap f) ⊢ (sepL (fun x => sepL Φ (f x)) l : sProp 𝕄)
  | [] => by simp only [List.flatMap_nil, sepL]; iintro -; iempintro
  | x :: l => by
    have ih := sepL_flatMap Φ f l
    have h := sepL_append Φ (f x) (l.flatMap f)
    rw [List.flatMap_cons]; simp only [sepL]
    iintro H
    ihave H := h $$ H
    icases H with ⟨H1, H2⟩
    isplitl [H1]; · iexact H1
    iapply ih; iexact H2
theorem res_post (c : Dev nD) : sepL (holds m c) res1 ⊢ (postR m c : sProp 𝕄) := by
  have h (l l' : List R) := sepL_append (holds m c) l l'
  have hf := sepL_flatMap (holds m c) (fun p : Bool × Bool × Fin 8 => qs.map fun i => .aG p.1 p.2.1 p.2.2 i) allO
  simp only [sepL_map] at hf
  have hw : sepL (holds m c) [.wD, .wbV] ⊢ (iprop(holds m c .wD ∗ holds m c .wbV ∗ emp) : sProp 𝕄) := .rfl
  have hb : sepL (holds m c) [.bD] ⊢ (iprop(semVal (bcell c) 0 ∗ emp) : sProp 𝕄) := .rfl
  unfold res1 postR
  generalize [R.wD, .wbV] = l1 at hw ⊢
  generalize [R.bD] = l2 at hb ⊢
  iintro H
  ihave H := (h _ _) $$ H; icases H with ⟨H, H9⟩
  ihave H := (h _ _) $$ H; icases H with ⟨H, H8⟩
  ihave H := (h _ _) $$ H; icases H with ⟨H, H7⟩
  ihave H := (h _ _) $$ H; icases H with ⟨H, H6⟩
  ihave H := (h _ _) $$ H; icases H with ⟨H, H5⟩
  ihave H := (h _ _) $$ H; icases H with ⟨H, H4⟩
  ihave H := (h _ _) $$ H; icases H with ⟨H, H3⟩
  ihave H := (h _ _) $$ H; icases H with ⟨H1, H2⟩
  ihave H1 := hb $$ H1; icases H1 with ⟨H1, -⟩
  ihave H3 := hw $$ H3; icases H3 with ⟨Hw, Hb, -⟩
  isplitl [H1]; · iexact H1
  isplitl [H2]; · rw [sepL_map]; exact .rfl
  isplitl [Hw]; · iexact Hw
  isplitl [Hb]; · iexact Hb
  isplitl [H4]; · iapply hf; iexact H4
  isplitl [H5]; · rw [sepL_map]; exact .rfl
  isplitl [H6]; · rw [sepL_map]; exact .rfl
  isplitl [H7]; · rw [sepL_map]; exact .rfl
  isplitl [H8]; · rw [sepL_map]; exact .rfl
  rw [sepL_map]; exact .rfl
end Cert.KernelIdeal.Hcube
end
-- ==== Proof.Bufs.lean ====
module
public import proofs.«01_k».proof.Proof.Ends
public import proofs.«01_k».proof.Proof.Gen.KernelIdeal.Launch

/-! The scratch buffers a launch hands a device, as pieces, and back. -/

@[expose] public section
noncomputable section
namespace Cert.KernelIdeal.Hcube
open Idealize.ShloMosaic Idealize.ShloMosaic.TcCoe
open Idealize.SL Idealize.SL.RA Idealize.SL.BI Idealize.SL.RA.PCS
open scoped Idealize.SL.BI
open Idealize.SL.BI.BIBase Idealize.SL.BI.Laws Idealize.SL.ProofMode Idealize.SL.Sem
open Idealize.ShloMosaic.Rounds
open Cert.KernelIdeal.Gen
variable {F : FTy → Type} [FloatOps F]
local notation "𝕄" => MT nD τ sig Unit (Elt F) ℕ UU ℕ
variable (m : (ℓ : Loc nD τ sig) → Buf (Elt F) ℓ) (K : Names)

/-- A whole buffer, at any contents. -/
abbrev anyB (c : Dev nD) (b : Ref sig .tc) : sProp 𝕄 := iprop(∃ f : Buf (Elt F) ((c : Thread nD τ).loc b), ((c : Thread nD τ).loc b) ↦{fullShare} f)
abbrev rJ (c : Dev nD) (p : Bool × Bool × RSlot) : sProp 𝕄 := junk c ((XK.rs p.1 p.2.1 p.2.2).dst c) Finset.univ

theorem rows_union {n : Nat} (a b : Rect ⟨2, ![n, 512]⟩) (r : Nat) (ha : ∀ j, j ∈ a.set ↔ (j 0).val < r) (hb : ∀ j, j ∈ b.set ↔ r ≤ (j 0).val) :
    Disjoint a.set b.set ∧ a.set ∪ b.set = Finset.univ := by
  constructor
  · refine Finset.disjoint_left.mpr fun j h1 h2 => ?_
    rw [ha] at h1; rw [hb] at h2; omega
  · ext j
    simp only [Finset.mem_union, Finset.mem_univ, iff_true]
    rw [ha, hb]; omega
abbrev rA : Rect S1024x512 := Rect.unit (s := S1024x512) ![0, 0] S512x512.size inb_S1024x512_S512x512_0_0
abbrev rB : Rect S1024x512 := Rect.unit (s := S1024x512) ![512, 0] S512x512.size inb_S1024x512_S512x512_512_0
abbrev rC : Rect S512x512 := Rect.unit (s := S512x512) ![0, 0] S256x512.size inb_S512x512_S256x512_0_0
abbrev rD : Rect S512x512 := Rect.unit (s := S512x512) ![256, 0] S256x512.size inb_S512x512_S256x512_256_0
abbrev rE : Rect S256x512 := Rect.unit (s := S256x512) ![0, 0] S256x512.size inb_S256x512_S256x512_0_0
theorem r0_two : Disjoint rA.set rB.set ∧ rA.set ∪ rB.set = Finset.univ :=
  rows_union (n := 1024) rA rB 512 (fun j => by
      have h1 : (j 1).val < 512 := (j 1).isLt
      rw [Rect.mem_set_unit, Fin.forall_fin_two]
      show (0 ≤ (j 0).val ∧ (j 0).val < 0 + 512) ∧ (0 ≤ (j 1).val ∧ (j 1).val < 0 + 512) ↔ _; omega)
    (fun j => by
      have h0 : (j 0).val < 1024 := (j 0).isLt
      have h1 : (j 1).val < 512 := (j 1).isLt
      rw [Rect.mem_set_unit, Fin.forall_fin_two]
      show (512 ≤ (j 0).val ∧ (j 0).val < 512 + 512) ∧ (0 ≤ (j 1).val ∧ (j 1).val < 0 + 512) ↔ _; omega)
theorem r1_two : Disjoint rC.set rD.set ∧ rC.set ∪ rD.set = Finset.univ :=
  rows_union (n := 512) rC rD 256 (fun j => by
      have h1 : (j 1).val < 512 := (j 1).isLt
      rw [Rect.mem_set_unit, Fin.forall_fin_two]
      show (0 ≤ (j 0).val ∧ (j 0).val < 0 + 256) ∧ (0 ≤ (j 1).val ∧ (j 1).val < 0 + 512) ↔ _; omega)
    (fun j => by
      have h0 : (j 0).val < 512 := (j 0).isLt
      have h1 : (j 1).val < 512 := (j 1).isLt
      rw [Rect.mem_set_unit, Fin.forall_fin_two]
      show (256 ≤ (j 0).val ∧ (j 0).val < 256 + 256) ∧ (0 ≤ (j 1).val ∧ (j 1).val < 0 + 512) ↔ _; omega)
theorem r2_one : rE.set = Finset.univ := by
  ext j
  have h0 : (j 0).val < 256 := (j 0).isLt
  have h1 : (j 1).val < 512 := (j 1).isLt
  rw [Rect.mem_set_unit, Fin.forall_fin_two]; simp only [Finset.mem_univ, iff_true]
  show (0 ≤ (j 0).val ∧ (j 0).val < 0 + 256) ∧ (0 ≤ (j 1).val ∧ (j 1).val < 0 + 512); omega
theorem r_cut (c : Dev nD) (st bf : Bool) : iprop(junk c (r0M st bf) Finset.univ ∗ junk c (r1M st bf) Finset.univ ∗ junk c (r2M st bf) Finset.univ)
    ⊢ (sepL (rJ c) ([RSlot.a, .b, .c, .d, .e].map fun s => (st, bf, s)) : sProp 𝕄) := by
  have h0 := junk_split (F := F) c (r0M st bf) r0_two.1
  have h1 := junk_split (F := F) c (r1M st bf) r1_two.1
  rw [r0_two.2] at h0; rw [r1_two.2] at h1
  have ha : junk c (r0M st bf) rA.set ⊢ (rJ c (st, bf, .a) : sProp 𝕄) := junk_slice c (r0M st bf) rA (fun _ => rfl)
  have hb : junk c (r0M st bf) rB.set ⊢ (rJ c (st, bf, .b) : sProp 𝕄) := junk_slice c (r0M st bf) rB (fun _ => rfl)
  have hc : junk c (r1M st bf) rC.set ⊢ (rJ c (st, bf, .c) : sProp 𝕄) := junk_slice c (r1M st bf) rC (fun _ => rfl)
  have hd : junk c (r1M st bf) rD.set ⊢ (rJ c (st, bf, .d) : sProp 𝕄) := junk_slice c (r1M st bf) rD (fun _ => rfl)
  have he : junk c (r2M st bf) rE.set ⊢ (rJ c (st, bf, .e) : sProp 𝕄) := junk_slice c (r2M st bf) rE (fun _ => rfl)
  rw [r2_one] at he
  simp only [List.map, sepL]
  iintro ⟨H0, H1, H2⟩
  ihave H0 := h0 $$ H0
  ihave H1 := h1 $$ H1
  icases H0 with ⟨Ha, Hb⟩
  icases H1 with ⟨Hc, Hd⟩
  isplitl [Ha]; · iapply ha; iexact Ha
  isplitl [Hb]; · iapply hb; iexact Hb
  isplitl [Hc]; · iapply hc; iexact Hc
  isplitl [Hd]; · iapply hd; iexact Hd
  isplitl [H2]; · iapply he; iexact H2
  iempintro
theorem cut_r (c : Dev nD) (st bf : Bool) : (sepL (rJ c) ([RSlot.a, .b, .c, .d, .e].map fun s => (st, bf, s)) : sProp 𝕄)
    ⊢ iprop(junk c (r0M st bf) Finset.univ ∗ junk c (r1M st bf) Finset.univ ∗ junk c (r2M st bf) Finset.univ) := by
  have h0 := junk_join (F := F) c (r0M st bf) r0_two.1
  have h1 := junk_join (F := F) c (r1M st bf) r1_two.1
  rw [r0_two.2] at h0; rw [r1_two.2] at h1
  have ha : (rJ c (st, bf, .a) : sProp 𝕄) ⊢ junk c (r0M st bf) rA.set := slice_junk c (r0M st bf) rA (fun _ => rfl)
  have hb : (rJ c (st, bf, .b) : sProp 𝕄) ⊢ junk c (r0M st bf) rB.set := slice_junk c (r0M st bf) rB (fun _ => rfl)
  have hc : (rJ c (st, bf, .c) : sProp 𝕄) ⊢ junk c (r1M st bf) rC.set := slice_junk c (r1M st bf) rC (fun _ => rfl)
  have hd : (rJ c (st, bf, .d) : sProp 𝕄) ⊢ junk c (r1M st bf) rD.set := slice_junk c (r1M st bf) rD (fun _ => rfl)
  have he : (rJ c (st, bf, .e) : sProp 𝕄) ⊢ junk c (r2M st bf) rE.set := slice_junk c (r2M st bf) rE (fun _ => rfl)
  rw [r2_one] at he
  simp only [List.map, sepL]
  iintro ⟨Ha, Hb, Hc, Hd, He, -⟩
  isplitl [Ha Hb]
  · iapply h0; isplitl [Ha]; · iapply ha; iexact Ha
    iapply hb; iexact Hb
  isplitl [Hc Hd]
  · iapply h1; isplitl [Hc]; · iapply hc; iexact Hc
    iapply hd; iexact Hd
  iapply he; iexact He

/-! ### All the scratch -/
/-- The scratch as whole buffers: accumulators, landing buffers, and the rest. -/
def whole4 (Φ : Bool → Bool → sProp 𝕄) : sProp 𝕄 := iprop(Φ false false ∗ Φ false true ∗ Φ true false ∗ Φ true true)
theorem acc_all (c : Dev nD) : whole4 (fun st bf => junk c (accM st bf) Finset.univ) ⊢ (sepL (fun p : Bool × Bool × Fin 8 => accJ c p.1 p.2.1 p.2.2) allO : sProp 𝕄) := by
  have h (st bf : Bool) : junk c (accM st bf) Finset.univ ⊢ (sepL (fun p : Bool × Bool × Fin 8 => accJ c p.1 p.2.1 p.2.2) (chunks.map fun w => (st, bf, w)) : sProp 𝕄) := by
    rw [sepL_map]; exact acc_cut c st bf
  have h2 := flat2_sepL (fun p : Bool × Bool × Fin 8 => (accJ c p.1 p.2.1 p.2.2 : sProp 𝕄)) fun st bf => chunks.map fun w => (st, bf, w)
  unfold whole4 allO
  iintro ⟨A, B, C, D⟩
  iapply h2
  isplitl [A]; · iapply h; iexact A
  isplitl [B]; · iapply h; iexact B
  isplitl [C]; · iapply h; iexact C
  iapply h; iexact D
theorem all_acc (c : Dev nD) : (sepL (fun p : Bool × Bool × Fin 8 => accJ c p.1 p.2.1 p.2.2) allO : sProp 𝕄) ⊢ whole4 (fun st bf => junk c (accM st bf) Finset.univ) := by
  have h (st bf : Bool) : (sepL (fun p : Bool × Bool × Fin 8 => accJ c p.1 p.2.1 p.2.2) (chunks.map fun w => (st, bf, w)) : sProp 𝕄) ⊢ junk c (accM st bf) Finset.univ := by
    rw [sepL_map]; exact cut_acc c st bf
  have h2 := sepL_flat2 (fun p : Bool × Bool × Fin 8 => (accJ c p.1 p.2.1 p.2.2 : sProp 𝕄)) fun st bf => chunks.map fun w => (st, bf, w)
  unfold whole4 allO
  iintro H
  ihave H := h2 $$ H
  icases H with ⟨A, B, C, D⟩
  isplitl [A]; · iapply h; iexact A
  isplitl [B]; · iapply h; iexact B
  isplitl [C]; · iapply h; iexact C
  iapply h; iexact D
theorem r_all (c : Dev nD) : whole4 (fun st bf => iprop(junk c (r0M st bf) Finset.univ ∗ junk c (r1M st bf) Finset.univ ∗ junk c (r2M st bf) Finset.univ)) ⊢ (sepL (rJ c) allR : sProp 𝕄) := by
  have h (st bf : Bool) := r_cut (F := F) c st bf
  have h2 := flat2_sepL (rJ (F := F) c) fun st bf => [RSlot.a, .b, .c, .d, .e].map fun s => (st, bf, s)
  unfold whole4 allR
  iintro ⟨A, B, C, D⟩
  iapply h2
  isplitl [A]; · iapply (h false false); iexact A
  isplitl [B]; · iapply (h false true); iexact B
  isplitl [C]; · iapply (h true false); iexact C
  iapply (h true true); iexact D
theorem all_r (c : Dev nD) : (sepL (rJ c) allR : sProp 𝕄) ⊢ whole4 (fun st bf => iprop(junk c (r0M st bf) Finset.univ ∗ junk c (r1M st bf) Finset.univ ∗ junk c (r2M st bf) Finset.univ)) := by
  have h (st bf : Bool) := cut_r (F := F) c st bf
  have h2 := sepL_flat2 (rJ (F := F) c) fun st bf => [RSlot.a, .b, .c, .d, .e].map fun s => (st, bf, s)
  unfold whole4 allR
  iintro H
  ihave H := h2 $$ H
  icases H with ⟨A, B, C, D⟩
  isplitl [A]; · iapply (h false false); iexact A
  isplitl [B]; · iapply (h false true); iexact B
  isplitl [C]; · iapply (h true false); iexact C
  iapply (h true true); iexact D
/-- The pieces of the scratch. -/
def pieces (c : Dev nD) : sProp 𝕄 :=
  iprop(sepL (fun p : Bool × Bool × Fin 8 => accJ c p.1 p.2.1 p.2.2) allO ∗ junk c tVM Finset.univ ∗ junk c wVM Finset.univ ∗ junk c wBM Finset.univ ∗
    sepL (fun p : Bool × Fin 8 => junk c stgM (slotR p.1 p.2).set) allP ∗ sepL (rJ c) allR)
abbrev scratch (c : Dev nD) : sProp 𝕄 := Pipeline.scopedRest (Ix := Unit) (Name := ℕ) (U := UU) (Lvl := ℕ) (Val := Elt F) cfg0.spec c
theorem scratch_pieces (c : Dev nD) : scratch c ⊢ (pieces c : sProp 𝕄) := by
  have hw (b : Ref sig .tc) := whole_junk (F := F) c b
  unfold scratch
  rw [scopedRest0_eq]
  unfold pieces
  iintro ⟨H0, H1, H2, H3, H4, H5, H6, H7, H8, H9, H10, H11, H12, H13, H14, H15, H16, H17, H18, H19⟩
  isplitl [H0 H1 H2 H3]
  · iapply acc_all
    unfold whole4
    isplitl [H0]; · iapply (hw cc0_scratch0); iexact H0
    isplitl [H1]; · iapply (hw cc0_scratch1); iexact H1
    isplitl [H2]; · iapply (hw cc0_scratch2); iexact H2
    iapply (hw cc0_scratch3); iexact H3
  isplitl [H4]; · iapply (hw cc0_scratch4); iexact H4
  isplitl [H5]; · iapply (hw cc0_scratch5); iexact H5
  isplitl [H6]; · iapply (hw cc0_scratch6); iexact H6
  isplitl [H7]; · iapply stg_cut; iapply (hw cc0_scratch7); iexact H7
  iapply r_all
  unfold whole4
  isplitl [H8 H10 H12]
  · isplitl [H8]; · iapply (hw cc0_scratch8); iexact H8
    isplitl [H10]; · iapply (hw cc0_scratch10); iexact H10
    iapply (hw cc0_scratch12); iexact H12
  isplitl [H9 H11 H13]
  · isplitl [H9]; · iapply (hw cc0_scratch9); iexact H9
    isplitl [H11]; · iapply (hw cc0_scratch11); iexact H11
    iapply (hw cc0_scratch13); iexact H13
  isplitl [H14 H16 H18]
  · isplitl [H14]; · iapply (hw cc0_scratch14); iexact H14
    isplitl [H16]; · iapply (hw cc0_scratch16); iexact H16
    iapply (hw cc0_scratch18); iexact H18
  isplitl [H15]; · iapply (hw cc0_scratch15); iexact H15
  isplitl [H17]; · iapply (hw cc0_scratch17); iexact H17
  iapply (hw cc0_scratch19); iexact H19
theorem pieces_scratch (c : Dev nD) : (pieces c : sProp 𝕄) ⊢ scratch c := by
  have hw (b : Ref sig .tc) := junk_whole (F := F) c b
  unfold scratch
  rw [scopedRest0_eq]
  unfold pieces
  iintro ⟨HA, H4, H5, H6, H7, HR⟩
  ihave HA := (all_acc c) $$ HA
  ihave HR := (all_r c) $$ HR
  unfold whole4
  icases HA with ⟨H0, H1, H2, H3⟩
  icases HR with ⟨⟨H8, H10, H12⟩, ⟨H9, H11, H13⟩, ⟨H14, H16, H18⟩, H15, H17, H19⟩
  isplitl [H0]; · iapply (hw cc0_scratch0); iexact H0
  isplitl [H1]; · iapply (hw cc0_scratch1); iexact H1
  isplitl [H2]; · iapply (hw cc0_scratch2); iexact H2
  isplitl [H3]; · iapply (hw cc0_scratch3); iexact H3
  isplitl [H4]; · iapply (hw cc0_scratch4); iexact H4
  isplitl [H5]; · iapply (hw cc0_scratch5); iexact H5
  isplitl [H6]; · iapply (hw cc0_scratch6); iexact H6
  isplitl [H7]; · iapply (hw cc0_scratch7); iapply cut_stg; iexact H7
  isplitl [H8]; · iapply (hw cc0_scratch8); iexact H8
  isplitl [H9]; · iapply (hw cc0_scratch9); iexact H9
  isplitl [H10]; · iapply (hw cc0_scratch10); iexact H10
  isplitl [H11]; · iapply (hw cc0_scratch11); iexact H11
  isplitl [H12]; · iapply (hw cc0_scratch12); iexact H12
  isplitl [H13]; · iapply (hw cc0_scratch13); iexact H13
  isplitl [H14]; · iapply (hw cc0_scratch14); iexact H14
  isplitl [H15]; · iapply (hw cc0_scratch15); iexact H15
  isplitl [H16]; · iapply (hw cc0_scratch16); iexact H16
  isplitl [H17]; · iapply (hw cc0_scratch17); iexact H17
  isplitl [H18]; · iapply (hw cc0_scratch18); iexact H18
  iapply (hw cc0_scratch19); iexact H19

/-! ### At the end -/
abbrev osem (k : DK) : SemLoc sig := .dma k.sem
/-- What a device keeps of its run: the result's blocks. -/
def outs (c : Dev nD) : sProp 𝕄 :=
  sepL (fun p : Bool × Bool × Fin 8 => part c (outV p.1 p.2.1 p.2.2 c) Finset.univ fullShare (outX m p.1 p.2.1 p.2.2 c)) allO
theorem sems_eq (c : Dev nD) : (Pipeline.ownSems0 (U := UU) (Name := ℕ) (Lvl := ℕ) (Ix := Unit) (Val := Elt F) osem c : sProp 𝕄) = bigSep Finset.univ fun k : DK => semVal (dcell c k) 0 := rfl
theorem sems_list (c : Dev nD) : (sepL (fun k => semVal (dcell c k) 0) allDK : sProp 𝕄) ⊢ bigSep Finset.univ fun k : DK => (semVal (dcell c k) 0 : sProp 𝕄) := by
  have h : ∀ l : List DK, l.Nodup → ((sepL (fun k => semVal (dcell c k) 0) l : sProp 𝕄) ⊢ bigSep l.toFinset fun k : DK => (semVal (dcell c k) 0 : sProp 𝕄)) := by
    intro l
    induction l with
    | nil => intro _; simp only [List.toFinset_nil, bigSep_empty, sepL]; exact .rfl
    | cons k l ih =>
      intro hn
      have ih := ih (List.nodup_cons.mp hn).2
      rw [List.toFinset_cons, bigSep_insert (by rw [List.mem_toFinset]; exact (List.nodup_cons.mp hn).1)]
      show iprop(semVal (dcell c k) 0 ∗ sepL (fun k => semVal (dcell c k) 0) l) ⊢ iprop(semVal (dcell c k) 0 ∗ bigSep l.toFinset fun k : DK => (semVal (dcell c k) 0 : sProp 𝕄))
      iintro ⟨H1, H2⟩
      isplitl [H1]; · iexact H1
      iapply ih; iexact H2
  have h2 := h allDK nodup_allDK
  rw [show allDK.toFinset = Finset.univ from Finset.ext fun k => by simp [mem_allDK k]] at h2
  exact h2
theorem post_out (c : Dev nD) : postR m c ⊢ iprop((outs m c ∗ semVal (bcell c) 0) ∗ (bigSep Finset.univ fun k : DK => (semVal (dcell c k) 0 : sProp 𝕄)) ∗ scratch c) := by
  have hT := sepL_sep (fun p : Bool × Fin 8 => (semVal (dcell c (.tin p.1 p.2)) 0 : sProp 𝕄)) (fun p => part c tVM (tR p.1 p.2).set fullShare (tX m c)) allT
  have hO := sepL_sep (fun p : Bool × Bool × Fin 8 => (semVal (dcell c (.out p.1 p.2.1 p.2.2)) 0 : sProp 𝕄)) (fun p => part c (outV p.1 p.2.1 p.2.2 c) Finset.univ fullShare (outX m p.1 p.2.1 p.2.2 c)) allO
  have hTJ := sepL_mono (F := F) (Φ := fun p : Bool × Fin 8 => part c tVM (tR p.1 p.2).set fullShare (tX m c)) (Ψ := fun p => junk c tVM (tR p.1 p.2).set) (fun p => part_junk c tVM _ (tX m c)) allT
  have hTc := cut_tV (F := F) c
  have hA := sepL_mono (F := F) (Φ := fun p : Bool × Bool × Fin 8 => sepL (fun i => accP c p.1 p.2.1 p.2.2 (qtr i) (gX m p.1 p.2.1)) qs) (Ψ := fun p => accJ c p.1 p.2.1 p.2.2) (fun p => by
    have h1 := of_quarters c p.1 p.2.1 p.2.2 (gX m p.1 p.2.1)
    have h2 := part_junk c (accM p.1 p.2.1) (chunkR p.2.2).set (gX m p.1 p.2.1)
    simp only [qs, sepL]
    iintro ⟨A, B, C, D, -⟩
    iapply h2; iapply h1
    isplitl [A]; · iexact A
    isplitl [B]; · iexact B
    isplitl [C] <;> iassumption) allO
  have hR := sepL_mono (F := F) (Φ := fun p : Bool × Bool × RSlot => part c ((XK.rs p.1 p.2.1 p.2.2).dst c) Finset.univ fullShare (rbX m p.1 p.2.1 p.2.2 c)) (Ψ := rJ c) (fun p => part_junk c ((XK.rs p.1 p.2.1 p.2.2).dst c) _ (rbX m p.1 p.2.1 p.2.2 c)) allR
  have hwV := part_junk c wVM Finset.univ (wX m c)
  have hwB := part_junk c wBM Finset.univ (wB m c)
  have hS (l l' : List DK) := append_sepL (F := F) (fun k => semVal (dcell c k) 0) l l'
  have hL := sems_list (F := F) c
  have hp := pieces_scratch (F := F) c
  have hw1 : (semVal (dcell c .win) 0 : sProp 𝕄) ⊢ sepL (fun k => semVal (dcell c k) 0) [DK.win] := by
    simp only [sepL]; iintro H; isplitl [H]; · iexact H
    iempintro
  have e1 : holds m c .wD = iprop(semVal (dcell c .win) 0 ∗ part c wVM Finset.univ fullShare (wX m c)) := rfl
  have e2 : holds m c .wbV = part c wBM Finset.univ fullShare (wB m c) := rfl
  have e3 : sepL (fun p : Bool × Fin 8 => holds m c (.tD p.1 p.2)) allT = sepL (fun p : Bool × Fin 8 => iprop(semVal (dcell c (.tin p.1 p.2)) 0 ∗ part c tVM (tR p.1 p.2).set fullShare (tX m c))) allT := rfl
  have e4 : sepL (fun p : Bool × Bool × Fin 8 => holds m c (.oD p.1 p.2.1 p.2.2)) allO = sepL (fun p : Bool × Bool × Fin 8 => iprop(semVal (dcell c (.out p.1 p.2.1 p.2.2)) 0 ∗ part c (outV p.1 p.2.1 p.2.2 c) Finset.univ fullShare (outX m p.1 p.2.1 p.2.2 c))) allO := rfl
  have e5 : sepL (fun p : Bool × Bool × RSlot => holds m c (.rV p.1 p.2.1 p.2.2)) allR = sepL (fun p : Bool × Bool × RSlot => part c ((XK.rs p.1 p.2.1 p.2.2).dst c) Finset.univ fullShare (rbX m p.1 p.2.1 p.2.2 c)) allR := rfl
  have e6 : sepL (fun p : Bool × Fin 8 => holds m c (.stJ p.1 p.2)) allP = sepL (fun p : Bool × Fin 8 => junk c stgM (slotR p.1 p.2).set) allP := rfl
  unfold postR
  rw [e1, e2, e3, e4, e5, e6]
  unfold outs
  iintro ⟨H1, H2, ⟨Hw, HwV⟩, H3, H4, H5, H6, H7, H8, H9⟩
  ihave H2 := hT $$ H2
  icases H2 with ⟨Hts, Htp⟩
  ihave H9 := hO $$ H9
  icases H9 with ⟨Hos, Hop⟩
  isplitl [H1 Hop]
  · isplitl [Hop] <;> iassumption
  isplitl [Hts Hos Hw H6 H7]
  · iapply hL
    unfold allDK
    iapply hS; isplitr [Hos]; swap; · rw [sepL_map]; iexact Hos
    iapply hS; isplitr [Hw]; swap; · iapply hw1; iexact Hw
    iapply hS; isplitr [Hts]; swap; · rw [sepL_map]; iexact Hts
    iapply hS; isplitl [H6]
    · rw [sepL_map]; iexact H6
    · rw [sepL_map]; iexact H7
  iapply hp
  unfold pieces
  isplitl [H4]; · iapply hA; iexact H4
  isplitl [Htp]; · iapply hTc; iapply hTJ; iexact Htp
  isplitl [HwV]; · iapply hwV; iexact HwV
  isplitl [H3]; · iapply hwB; iexact H3
  isplitl [H8]; · iexact H8
  iapply hR; iexact H5
end Cert.KernelIdeal.Hcube
end
-- ==== Proof.Ghost.lean ====
module
public import proofs.«01_k».proof.Proof.Bufs

/-! What the launch makes for the devices: the cells, their tokens dealt to the partners who pay, and the credits. -/

@[expose] public section
noncomputable section
namespace Cert.KernelIdeal.Hcube
open Idealize.ShloMosaic Idealize.ShloMosaic.TcCoe
open Idealize.SL Idealize.SL.RA Idealize.SL.BI Idealize.SL.RA.PCS
open scoped Idealize.SL.BI
open Idealize.SL.BI.BIBase Idealize.SL.BI.Laws Idealize.SL.ProofMode Idealize.SL.Sem
open Idealize.ShloMosaic.Rounds
open Cert.KernelIdeal.Gen
variable {F : FTy → Type} [FloatOps F]
local notation "𝕄" => MT nD τ sig Unit (Elt F) ℕ UU ℕ
variable (m : (ℓ : Loc nD τ sig) → Buf (Elt F) ℓ)

/-! ### Families as lists -/
theorem bigSep_sepL {α : Type} [DecidableEq α] (Φ : α → sProp 𝕄) : ∀ l : List α, l.Nodup → (bigSep l.toFinset Φ ⊢ (sepL Φ l : sProp 𝕄))
  | [], _ => by simp only [List.toFinset_nil, bigSep_empty, sepL]; exact .rfl
  | k :: l, hn => by
    have ih := bigSep_sepL Φ l (List.nodup_cons.mp hn).2
    rw [List.toFinset_cons, bigSep_insert (by rw [List.mem_toFinset]; exact (List.nodup_cons.mp hn).1)]
    show iprop(Φ k ∗ bigSep l.toFinset Φ) ⊢ iprop(Φ k ∗ sepL Φ l)
    iintro ⟨H1, H2⟩
    isplitl [H1]; · iexact H1
    iapply ih; iexact H2
theorem univ_sepL {α : Type} [Fintype α] [DecidableEq α] (Φ : α → sProp 𝕄) (l : List α) (h : ∀ x, x ∈ l) (hn : l.Nodup) : bigSep Finset.univ Φ ⊢ (sepL Φ l : sProp 𝕄) := by
  have h2 := bigSep_sepL Φ l hn
  rw [show l.toFinset = Finset.univ from Finset.ext fun k => by simp [h k]] at h2
  exact h2
theorem sepL_allDK (Φ : DK → sProp 𝕄) : sepL Φ allDK ⊢ (iprop(sepL (fun k => Φ (.snd k)) allXK ∗ sepL (fun k => Φ (.rcv k)) allXK ∗ sepL (fun p : Bool × Fin 8 => Φ (.tin p.1 p.2)) allT ∗ Φ .win ∗
    sepL (fun p : Bool × Bool × Fin 8 => Φ (.out p.1 p.2.1 p.2.2)) allO) : sProp 𝕄) := by
  have h (l l' : List DK) := sepL_append Φ l l'
  have hw : sepL Φ [.win] ⊢ (iprop(Φ .win ∗ emp) : sProp 𝕄) := .rfl
  have e1 (l) := sepL_map (F := F) Φ DK.snd l
  have e2 (l) := sepL_map (F := F) Φ DK.rcv l
  have e3 (l) := sepL_map (F := F) Φ (fun p : Bool × Fin 8 => DK.tin p.1 p.2) l
  have e4 (l) := sepL_map (F := F) Φ (fun p : Bool × Bool × Fin 8 => DK.out p.1 p.2.1 p.2.2) l
  rw [← e1, ← e2, ← e3, ← e4]
  unfold allDK
  iintro H
  ihave H := (h _ _) $$ H; icases H with ⟨H, H5⟩
  ihave H := (h _ _) $$ H; icases H with ⟨H, H4⟩
  ihave H := (h _ _) $$ H; icases H with ⟨H, H3⟩
  ihave H := (h _ _) $$ H; icases H with ⟨H1, H2⟩
  ihave H4 := hw $$ H4; icases H4 with ⟨H4, -⟩
  isplitl [H1]; · iexact H1
  isplitl [H2]; · iexact H2
  isplitl [H3]; · iexact H3
  isplitl [H4] <;> iassumption
abbrev J : Type := Fin 3 ⊕ DK
def allJ : List J := .inl 0 :: .inl 1 :: .inl 2 :: allDK.map .inr
theorem mem_allJ (j : J) : j ∈ allJ := by
  unfold allJ
  rcases j with i | k
  · fin_cases i <;> simp
  · simp [mem_allDK k]
theorem nodup_allJ : allJ.Nodup := by
  unfold allJ
  simp only [List.nodup_cons, List.mem_cons, List.mem_map, reduceCtorEq, Sum.inl.injEq, and_false, exists_false, or_false]
  exact ⟨by decide, by decide, id, nodup_allDK.map Sum.inr_injective⟩
def allC : List (Option DK) := none :: allDK.map some
theorem mem_allC (j : Option DK) : j ∈ allC := by
  unfold allC
  rcases j with _ | k
  · simp
  · simp [mem_allDK k]
theorem nodup_allC : allC.Nodup := by
  unfold allC
  simp only [List.nodup_cons, List.mem_map, reduceCtorEq, and_false, exists_false]
  exact ⟨id, nodup_allDK.map (Option.some_injective _)⟩

/-! ### Cells and tokens -/
theorem ownSemFacts : Pipeline.OwnSemFacts cfg0.spec osem :=
  ⟨by decide +kernel, fun a b h => DK.sem_inj (by injection h), by decide +kernel⟩
theorem kcell_injective : Function.Injective (kcell : Dev nD × Option DK → GSem nD τ sig) := by
  rintro ⟨c, k⟩ ⟨c', k'⟩ h
  have h1 : c = c' := by
    have := congrArg (fun g : GSem nD τ sig => g.1.1) h
    rcases k with _ | k <;> rcases k' with _ | k' <;> exact this
  subst h1
  have h2 := congrArg Prod.snd h
  rcases k with _ | k <;> rcases k' with _ | k'
  · rfl
  · cases h2
  · cases h2
  · have h3 : SemLoc.dma k.sem = SemLoc.dma k'.sem := h2
    rw [show k = k' from DK.sem_inj (by injection h3)]
def ringCells : Finset (GSem nD τ sig) := Finset.univ.map ⟨kcell, kcell_injective⟩
def tokOf (cj : Dev nD × J) : GSem nD τ sig × ℕ × Fin 3 := match cj.2 with
  | .inl i => (bcell cj.1, 0, i) | .inr k => (dcell cj.1 k, 0, 0)
theorem tokOf_injective : Function.Injective (tokOf : Dev nD × J → GSem nD τ sig × ℕ × Fin 3) := by
  rintro ⟨c, j⟩ ⟨c', j'⟩ h
  have h1 : c = c' := by
    have := congrArg (fun x : GSem nD τ sig × ℕ × Fin 3 => x.1.1.1) h
    rcases j with _ | k <;> rcases j' with _ | k' <;> exact this
  subst h1
  have h2 := congrArg (fun x : GSem nD τ sig × ℕ × Fin 3 => (x.1.2, x.2.2)) h
  rcases j with i | k <;> rcases j' with i' | k'
  · have h3 : i = i' := congrArg Prod.snd h2
    rw [h3]
  · cases congrArg Prod.fst h2
  · cases congrArg Prod.fst h2
  · have h3 : SemLoc.dma k.sem = SemLoc.dma k'.sem := congrArg Prod.fst h2
    rw [show k = k' from DK.sem_inj (by injection h3)]
def ringToks : Finset (GSem nD τ sig × ℕ × Fin 3) := Finset.univ.map ⟨tokOf, tokOf_injective⟩
def u₀ : UU := (initOf (Pipeline.cells cfgs cellOf_inj) (Pipeline.launchToks cfgs cellOf_inj), initOf ringCells ringToks)
def tokJ (x : Dev nD × J) : sProp 𝕄 := dutyTok ER (tokOf x).1 (tokOf x).2.1 (tokOf x).2.2
/-- What the launch element deals a device. -/
def G (c : Dev nD) : sProp 𝕄 :=
  iprop((bigSep Finset.univ fun k : Option DK => roundState ER (Rd m) (kcell (c, k)) 0)
    ∗ (bigSep Finset.univ fun k : Option DK => iprop(atPos ER (kcell (c, k)) 0 ∅ 0 ∗ reached ER (kcell (c, k)) 0)) ∗ bigSep Finset.univ fun j : J => tokJ (c, j))
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Option DK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun j : J => tokJ (c, j) := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'
theorem unscopedSems0_eq (c : Dev nD) : (unscopedSems0 c : sProp 𝕄) = semVal (bcell c) 0 := by
  unfold unscopedSems0; rw [bigSep_eq_bigSepL_of_eq [SemLoc.reg barSem] (by decide +kernel) (by decide)]; rfl
abbrev own0 (c : Dev nD) : sProp 𝕄 := Pipeline.ownSems0 (Ix := Unit) (Name := ℕ) (U := UU) (Lvl := ℕ) (Val := Elt F) (τ := τ) osem c
theorem bigSep_option (Φ : Option DK → sProp 𝕄) : (iprop((bigSep Finset.univ fun k : DK => Φ (some k)) ∗ Φ none) : sProp 𝕄) ⊢ bigSep Finset.univ Φ := by
  have h : (Finset.univ : Finset (Option DK)) = insert none (Finset.univ.map ⟨some, Option.some_injective _⟩) := by
    ext k; rcases k with _ | k <;> simp
  rw [h, bigSep_insert (by simp), bigSep_map]
  show _ ⊢ iprop(Φ none ∗ bigSep Finset.univ fun k : DK => Φ (some k))
  iintro ⟨H1, H2⟩
  isplitl [H2] <;> iassumption
theorem sems0_eq (c : Dev nD) : iprop(own0 c ∗ unscopedSems0 c) ⊢ (bigSep Finset.univ fun k : Option DK => semVal (kcell (c, k)) 0 : sProp 𝕄) := by
  rw [unscopedSems0_eq]
  show iprop((bigSep Finset.univ fun k : DK => (semVal (dcell c k) 0 : sProp 𝕄)) ∗ semVal (bcell c) 0) ⊢ _
  exact bigSep_option fun k : Option DK => (semVal (kcell (c, k)) 0 : sProp 𝕄)
theorem core_alloc (c : Dev nD) :
    iprop(own0 c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ bigSep Finset.univ fun j : J => tokJ (c, j)) := by
  have hal : iprop((bigSep Finset.univ fun k : Option DK => semVal (kcell (c, k)) 0) ∗ bigSep Finset.univ fun k : Option DK => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  have h0 := sems0_eq (F := F) c
  unfold G
  iintro ⟨Hos, Hus, Hst, Hat, Htok⟩
  ihave Hv := h0 $$ [Hos Hus]
  · isplitl [Hos] <;> iassumption
  imod hal $$ [Hv Hst] with Hinv
  · isplitl [Hv] <;> iassumption
  imodintro
  isplitl [Hinv]; · iexact Hinv
  isplitl [Hat]; · iexact Hat
  iexact Htok

/-! ### The tokens dealt to those who pay -/
/-- Whose cell a device's payment goes to. -/
def perm : J → Dev nD → Dev nD
  | .inl i, c => barPeer i c
  | .inr (.rcv k), c => prt k.bf k.lev c
  | .inr _, c => c
theorem perm_perm (j : J) (c : Dev nD) : perm j (perm j c) = c := by
  match j with
  | .inl i => exact barPeer_barPeer i c
  | .inr (.rcv k) => exact prt_prt k.bf k.lev c
  | .inr (.snd _) => rfl
  | .inr (.tin _ _) => rfl
  | .inr .win => rfl
  | .inr (.out _ _ _) => rfl
def permE : Dev nD × J ≃ Dev nD × J where
  toFun x := (perm x.2 x.1, x.2)
  invFun x := (perm x.2 x.1, x.2)
  left_inv x := by show (perm x.2 (perm x.2 x.1), x.2) = x; rw [perm_perm]
  right_inv x := by show (perm x.2 (perm x.2 x.1), x.2) = x; rw [perm_perm]
theorem toks_around : (bigSep Finset.univ fun c : Dev nD => bigSep Finset.univ fun j : J => tokJ (F := F) (c, j)) = (bigSep Finset.univ fun c : Dev nD => bigSep Finset.univ fun j : J => (tokJ (perm j c, j) : sProp 𝕄)) := by
  rw [← bigSep_univ_prod (fun x : Dev nD × J => tokJ (F := F) x), bigSep_univ_equiv permE (fun x : Dev nD × J => tokJ (F := F) x), bigSep_univ_prod]; rfl
/-- What the global step makes: the shared records under some names, the device's positions, and the tokens it pays with. -/
def shared (K : Names) : sProp 𝕄 :=
  iprop((bigSep Finset.univ fun ck : Dev nD × Option DK => cellInv ER (Rd m) (K ck) (kcell ck)) ∗ bigSep Finset.univ fun ck : Dev nD × Option DK => reached ER (kcell ck) 0)
instance shared_persistent (K : Names) : BI.Persistent (shared m K) := by unfold shared; infer_instance
def mine (c : Dev nD) : sProp 𝕄 :=
  iprop((bigSep Finset.univ fun k : Option DK => atPos ER (kcell (c, k)) 0 ∅ 0) ∗ bigSep Finset.univ fun j : J => tokJ (perm j c, j))
def G' (c : Dev nD) : sProp 𝕄 := iprop(∃ K, shared m K ∗ mine c)
theorem bigSep_with {I : Type} [DecidableEq I] {S : Finset I} {P : sProp 𝕄} [BI.Persistent P] {Φ Ψ : I → sProp 𝕄}
    (h : ∀ i ∈ S, iprop(P ∗ Φ i) ⊢ Ψ i) : iprop(P ∗ bigSep S Φ) ⊢ bigSep S Ψ :=
  (sep_mono_left (BI.bigSep_of_persistent S P)).trans (by rw [← bigSep_sep']; exact bigSep_mono h)
theorem ghost_intro (K : Names) (c : Dev nD) : iprop(shared m K ∗ mine c) ⊢ G' m c := by
  unfold G'
  iintro H; iexists K; iexact H
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ bigSep Finset.univ fun j : J => tokJ (c, j)) : sProp 𝕄)
      ⊢ bigSep Finset.univ (G' m) := by
  rw [bigSep_sep', bigSep_sep', ← bigSep_univ_prod (fun ck : Dev nD × Option DK => iprop(∃ κ : ℕ, cellInv ER (Rd m) κ (kcell ck))),
    bigSep_congr (s := Finset.univ) (fun (c : Dev nD) _ => bigSep_sep' Finset.univ (fun k : Option DK => (atPos ER (kcell (c, k)) 0 ∅ 0 : sProp 𝕄)) (fun k => reached ER (kcell (c, k)) 0)),
    bigSep_sep', ← bigSep_univ_prod (fun ck : Dev nD × Option DK => (reached ER (kcell ck) 0 : sProp 𝕄)), toks_around]
  have hmine : (iprop((bigSep Finset.univ fun c : Dev nD => bigSep Finset.univ fun k : Option DK => (atPos ER (kcell (c, k)) 0 ∅ 0 : sProp 𝕄)) ∗
      bigSep Finset.univ fun c : Dev nD => bigSep Finset.univ fun j : J => (tokJ (perm j c, j) : sProp 𝕄)) : sProp 𝕄) ⊢ bigSep Finset.univ fun c : Dev nD => mine c := by
    rw [← bigSep_sep']; exact .rfl
  iintro ⟨HI, ⟨Hat, #HR⟩, Htok⟩
  ihave HK := (BI.bigSep_exists_pi Finset.univ (fun (ck : Dev nD × Option DK) (κ : ℕ) => (cellInv ER (Rd m) κ (kcell ck) : sProp 𝕄))) $$ HI
  icases HK with ⟨%K, #HI⟩
  iapply (bigSep_with (P := shared m K) fun c _ => ghost_intro m K c)
  isplitr
  · unfold shared; isplitl; · iexact HI
    iexact HR
  · iapply hmine
    isplitl [Hat] <;> iassumption
theorem glob : (bigSep Finset.univ fun c => iprop(own0 c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ### The launch credit -/
def O₀ (c : Dev nD) : CellTallies nD τ sig Unit := owedL c todo0
theorem owed_sum (d : Dev nD) (g : GSem nD τ sig) (f : Pay → ℕ) (hf : ∀ p : Pay, (tallyAt (p.cell d) () p.amt : CellTallies nD τ sig Unit) g () = f p) :
    ∀ l : List Pay, owedL d l g () = (l.map f).sum
  | [] => rfl
  | p :: l => by
    have ih := owed_sum d g f hf l
    unfold owedL
    rw [Pi.add_apply, Finsupp.add_apply, ih, hf, List.map_cons, List.sum_cons, Nat.add_comm]
def cntB (c d : Dev nD) : Pay → ℕ | .bar i => if barPeer i d = c then 1 else 0 | .xf _ => 0
def cntR (k : XK) (c d : Dev nD) : Pay → ℕ | .bar _ => 0 | .xf k' => if k' = k ∧ prt k'.bf k'.lev d = c then 1 else 0
theorem sum_B : ∀ c : Dev nD, ∑ d : Dev nD, (todo0.map (cntB c d)).sum = 3 := by decide +kernel
theorem sum_R : ∀ k ∈ allXK, ∀ c : Dev nD, ∑ d : Dev nD, (todo0.map (cntR k c d)).sum = 1 := by decide +kernel
theorem bcell_iff {a b : Dev nD} : bcell a = bcell b ↔ a = b :=
  ⟨fun h => congrArg (fun g : GSem nD τ sig => g.1.1) h, fun h => h ▸ rfl⟩
theorem dcell_iff {a b : Dev nD} {k k' : DK} : dcell a k = dcell b k' ↔ a = b ∧ k = k' := by
  constructor
  · intro h
    have h3 : SemLoc.dma k.sem = SemLoc.dma k'.sem := congrArg Prod.snd h
    exact ⟨congrArg (fun g : GSem nD τ sig => g.1.1) h, DK.sem_inj (by injection h3)⟩
  · rintro ⟨rfl, rfl⟩; rfl
theorem owed_b (d c : Dev nD) : O₀ d (bcell c) () = (todo0.map (cntB c d)).sum := by
  refine owed_sum d (bcell c) (cntB c d) (fun p => ?_) todo0
  rw [tallyAt_apply]
  cases p with
  | bar i =>
    show (if bcell c = bcell (barPeer i d) ∧ () = () then 1 else 0) = if barPeer i d = c then 1 else 0
    simp only [and_true, bcell_iff, eq_comm (a := c)]
  | xf k => exact if_neg fun h => by cases congrArg Prod.snd h.1
theorem owed_r (d c : Dev nD) (k : XK) : O₀ d (dcell c (.rcv k)) () = (todo0.map (cntR k c d)).sum * (DK.rcv k).amt := by
  rw [← List.sum_map_mul_right]
  refine owed_sum d (dcell c (.rcv k)) (fun p => cntR k c d p * (DK.rcv k).amt) (fun p => ?_) todo0
  rw [tallyAt_apply]
  cases p with
  | bar i =>
    rw [if_neg fun h => by cases congrArg Prod.snd h.1]
    show 0 = 0 * _; rw [Nat.zero_mul]
  | xf k' =>
    show (if dcell c (.rcv k) = dcell (prt k'.bf k'.lev d) (.rcv k') ∧ () = () then (DK.rcv k').amt else 0) = (if k' = k ∧ prt k'.bf k'.lev d = c then 1 else 0) * (DK.rcv k).amt
    rw [ite_mul, Nat.one_mul, Nat.zero_mul]
    by_cases h : k' = k ∧ prt k'.bf k'.lev d = c
    · obtain ⟨h1, h2⟩ := h
      subst h1
      rw [if_pos ⟨by rw [h2], rfl⟩, if_pos ⟨rfl, h2⟩]
    · rw [if_neg h, if_neg]
      rintro ⟨h1, -⟩
      obtain ⟨h2, h3⟩ := dcell_iff.mp h1
      injection h3 with h3
      exact h ⟨h3.symm, h2.symm⟩
theorem launch_b (c : Dev nD) : tallyOn (bcell c) (launchCredit (Pipeline.owing O₀) 0 (bcell c)) = (tallyAt (bcell c) () 3 : CellTallies nD τ sig Unit) := by
  unfold tallyAt; refine congrArg _ (Finsupp.ext fun u => ?_); cases u
  rw [Pipeline.launchCredit_owing, Finsupp.single_eq_same, Finset.sum_congr rfl fun d _ => owed_b d c]
  exact sum_B c
theorem launch_r (c : Dev nD) (k : XK) : tallyOn (dcell c (.rcv k)) (launchCredit (Pipeline.owing O₀) 0 (dcell c (.rcv k))) = (tallyAt (dcell c (.rcv k)) () (DK.rcv k).amt : CellTallies nD τ sig Unit) := by
  unfold tallyAt; refine congrArg _ (Finsupp.ext fun u => ?_); cases u
  rw [Pipeline.launchCredit_owing, Finsupp.single_eq_same, Finset.sum_congr rfl fun d _ => owed_r d c k, ← Finset.sum_mul, sum_R k (mem_allXK k) c, Nat.one_mul]
def paidSems : List (SemLoc sig) := .reg barSem :: allXK.map fun k => .dma (DK.rcv k).sem
theorem nodup_allXK : allXK.Nodup := by decide +kernel
theorem nodup_paid : paidSems.Nodup := by
  unfold paidSems
  rw [List.nodup_cons]
  constructor
  · simp
  · exact nodup_allXK.map fun a b h => by
      have h2 : (DK.rcv a).sem = (DK.rcv b).sem := by injection h
      have := DK.sem_inj h2; injection this
theorem creds (c : Dev nD) : (Pipeline.launchCred O₀ c : sProp 𝕄) ⊢ iprop(cred (tallyAt (bcell c) () 3) ∗ sepL (fun k => cred (tallyAt (dcell c (.rcv k)) () (DK.rcv k).amt)) allXK) := by
  have h1 : (Pipeline.launchCred O₀ c : sProp 𝕄) ⊢ bigSep paidSems.toFinset (fun sm => cred (tallyOn ((c : Thread nD τ), sm) (launchCredit (Pipeline.owing O₀) 0 ((c : Thread nD τ), sm)))) := by
    unfold Pipeline.launchCred; exact bigSep_subset (Finset.subset_univ _)
  have h2 := bigSep_sepL (F := F) (fun sm => cred (tallyOn ((c : Thread nD τ), sm) (launchCredit (Pipeline.owing O₀) 0 ((c : Thread nD τ), sm)))) paidSems nodup_paid
  have h3 : sepL (fun sm => cred (tallyOn ((c : Thread nD τ), sm) (launchCredit (Pipeline.owing O₀) 0 ((c : Thread nD τ), sm)))) paidSems
      = (iprop(cred (tallyAt (bcell c) () 3) ∗ sepL (fun k => cred (tallyAt (dcell c (.rcv k)) () (DK.rcv k).amt)) allXK) : sProp 𝕄) := by
    unfold paidSems
    rw [sepL, sepL_map, launch_b]
    congr 2
    funext k
    rw [launch_r]
  rw [h3] at h2
  exact h1.trans h2
end Cert.KernelIdeal.Hcube
end
-- ==== Proof.Start.lean ====
module
public import proofs.«01_k».proof.Proof.Ghost

/-! From what the launch hands a device to the resources its instructions use. -/

@[expose] public section
noncomputable section
namespace Cert.KernelIdeal.Hcube
open Idealize.ShloMosaic Idealize.ShloMosaic.TcCoe
open Idealize.SL Idealize.SL.RA Idealize.SL.BI Idealize.SL.RA.PCS
open scoped Idealize.SL.BI
open Idealize.SL.BI.BIBase Idealize.SL.BI.Laws Idealize.SL.ProofMode Idealize.SL.Sem
open Idealize.ShloMosaic.Rounds
open Cert.KernelIdeal.Gen
variable {F : FTy → Type} [FloatOps F]
local notation "𝕄" => MT nD τ sig Unit (Elt F) ℕ UU ℕ
variable (m : (ℓ : Loc nD τ sig) → Buf (Elt F) ℓ)

/-- A device's positions and tokens, as the lists its instructions name. -/
def posL (c : Dev nD) : sProp 𝕄 :=
  iprop(atPos ER (bcell c) 0 ∅ 0 ∗ sepL (fun k => posn c (.snd k)) allXK ∗ sepL (fun k => posn c (.rcv k)) allXK ∗ sepL (fun p : Bool × Fin 8 => posn c (.tin p.1 p.2)) allT ∗ posn c .win ∗
    sepL (fun p : Bool × Bool × Fin 8 => posn c (.out p.1 p.2.1 p.2.2)) allO)
def tokL (c : Dev nD) : sProp 𝕄 :=
  iprop((holds m c (.bT 0) ∗ holds m c (.bT 1) ∗ holds m c (.bT 2)) ∗ sepL (fun k => tok c (.snd k)) allXK ∗ sepL (fun k : XK => tok (prt k.bf k.lev c) (.rcv k)) allXK ∗
    sepL (fun p : Bool × Fin 8 => tok c (.tin p.1 p.2)) allT ∗ tok c .win ∗ sepL (fun p : Bool × Bool × Fin 8 => tok c (.out p.1 p.2.1 p.2.2)) allO)
theorem mine_lists (c : Dev nD) : mine c ⊢ (iprop(posL c ∗ tokL m c) : sProp 𝕄) := by
  have h1 := univ_sepL (F := F) (fun k : Option DK => atPos ER (kcell (c, k)) 0 ∅ 0) allC mem_allC nodup_allC
  have h2 : sepL (fun k : Option DK => (atPos ER (kcell (c, k)) 0 ∅ 0 : sProp 𝕄)) allC ⊢ (iprop(atPos ER (bcell c) 0 ∅ 0 ∗ sepL (fun k : DK => posn c k) allDK) : sProp 𝕄) := by
    unfold allC; rw [sepL, sepL_map]; exact .rfl
  have h3 := sepL_allDK (F := F) fun k : DK => posn c k
  have h4 := univ_sepL (F := F) (fun j : J => tokJ (perm j c, j)) allJ mem_allJ nodup_allJ
  have h5 : sepL (fun j : J => (tokJ (perm j c, j) : sProp 𝕄)) allJ ⊢ (iprop(holds m c (.bT 0) ∗ holds m c (.bT 1) ∗ holds m c (.bT 2) ∗ sepL (fun k : DK => tokJ (perm (.inr k) c, .inr k)) allDK) : sProp 𝕄) := by
    unfold allJ; rw [sepL, sepL, sepL, sepL_map]; exact .rfl
  have h6 := sepL_allDK (F := F) fun k : DK => tokJ (perm (.inr k) c, .inr k)
  unfold mine posL tokL
  iintro ⟨H1, H2⟩
  ihave H1 := h1 $$ H1
  ihave H1 := h2 $$ H1
  icases H1 with ⟨Hb, H1⟩
  ihave H1 := h3 $$ H1
  ihave H2 := h4 $$ H2
  ihave H2 := h5 $$ H2
  icases H2 with ⟨T0, T1, T2, H2⟩
  ihave H2 := h6 $$ H2
  isplitl [Hb H1]
  · isplitl [Hb] <;> iassumption
  isplitl [T0 T1 T2]
  · isplitl [T0]; · iexact T0
    isplitl [T1] <;> iassumption
  iexact H2
/-- What a device's body starts from, apart from its scratch. -/
def start (c : Dev nD) : sProp 𝕄 :=
  iprop(G' m c ∗ levAts L lv ∗ (cred (tallyAt (bcell c) () 3) ∗ sepL (fun k => cred (tallyAt (dcell c (.rcv k)) () (DK.rcv k).amt)) allXK) ∗
    part c tHM Finset.univ fullShare.left (tX m c) ∗ part c wHM Finset.univ fullShare.left (wX m c) ∗ junk c oHM Finset.univ)
def bodyR (c : Dev nD) : sProp 𝕄 :=
  iprop(∃ K, records m K ∗ preR m c ∗ sepL (fun p : Bool × Fin 8 => holds m c (.tS p.1 p.2)) allT ∗ holds m c .wS)
theorem start_init (c : Dev nD) : iprop(start m c ∗ scratch c) ⊢ bodyR m c := by
  have hm := mine_lists m c
  have hs := scratch_pieces (F := F) c
  have htV := tV_cut (F := F) c
  have htH := tH_cut m c
  have hoH := out_cut (F := F) c
  have eX : sepL (fun k => holds m c (.xf k)) allXK = sepL (fun k : XK => iprop((tok c (.snd k) ∗ tok (prt k.bf k.lev c) (.rcv k)) ∗ posn c (.snd k))) allXK := rfl
  have eA : sepL (fun k => holds m c (.ar k)) allXK = sepL (fun k : XK => iprop(posn c (.rcv k) ∗ cred (tallyAt (dcell c (.rcv k)) () (DK.rcv k).amt))) allXK := rfl
  have eT : sepL (fun p : Bool × Fin 8 => holds m c (.tS p.1 p.2)) allT = sepL (fun p : Bool × Fin 8 => iprop(part c (tSlice tHM p.1 p.2) Finset.univ fullShare.left (fun j => tX m c ((tR p.1 p.2).emb j)) ∗
    junk c (tSlice tVM p.1 p.2) Finset.univ ∗ tok c (.tin p.1 p.2) ∗ posn c (.tin p.1 p.2))) allT := rfl
  have eO : sepL (fun p : Bool × Bool × Fin 8 => holds m c (.oT p.1 p.2.1 p.2.2)) allO = sepL (fun p : Bool × Bool × Fin 8 => iprop(junk c (outV p.1 p.2.1 p.2.2 c) Finset.univ ∗ tok c (.out p.1 p.2.1 p.2.2) ∗ posn c (.out p.1 p.2.1 p.2.2))) allO := rfl
  have eW : holds m c .wS = iprop(part c wHM Finset.univ fullShare.left (wX m c) ∗ junk c wVM Finset.univ ∗ tok c .win ∗ posn c .win) := rfl
  have eB : holds m c .wbJ = junk c wBM Finset.univ := rfl
  have eR : sepL (fun p : Bool × Bool × RSlot => holds m c (.rJ p.1 p.2.1 p.2.2)) allR = sepL (rJ c) allR := rfl
  have eP : sepL (fun p : Bool × Fin 8 => holds m c (.stJ p.1 p.2)) allP = sepL (fun p : Bool × Fin 8 => junk c stgM (slotR p.1 p.2).set) allP := rfl
  have hb : iprop(holds m c (.bT 0) ∗ holds m c (.bT 1) ∗ holds m c (.bT 2) ∗ (atPos ER (bcell c) 0 ∅ 0 ∗ cred (tallyAt (bcell c) () 3)) ∗ emp) ⊢ (sepL (holds m c) [.bT 0, .bT 1, .bT 2, .bP] : sProp 𝕄) := .rfl
  have hx := sep_sepL (F := F) (fun k : XK => iprop(tok c (.snd k) ∗ tok (prt k.bf k.lev c) (.rcv k))) (fun k => posn c (.snd k)) allXK
  have hx1 := sep_sepL (F := F) (fun k : XK => tok c (.snd k)) (fun k => tok (prt k.bf k.lev c) (.rcv k)) allXK
  have ha := sep_sepL (F := F) (fun k : XK => posn c (.rcv k)) (fun k => cred (tallyAt (dcell c (.rcv k)) () (DK.rcv k).amt)) allXK
  have ht := sep_sepL (F := F) (fun p : Bool × Fin 8 => part c (tSlice tHM p.1 p.2) Finset.univ fullShare.left (fun j => tX m c ((tR p.1 p.2).emb j))) (fun p => iprop(junk c (tSlice tVM p.1 p.2) Finset.univ ∗ tok c (.tin p.1 p.2) ∗ posn c (.tin p.1 p.2))) allT
  have ht1 := sep_sepL (F := F) (fun p : Bool × Fin 8 => junk c (tSlice tVM p.1 p.2) Finset.univ) (fun p => iprop(tok c (.tin p.1 p.2) ∗ posn c (.tin p.1 p.2))) allT
  have ht2 := sep_sepL (F := F) (fun p : Bool × Fin 8 => tok c (.tin p.1 p.2)) (fun p => posn c (.tin p.1 p.2)) allT
  have ho := sep_sepL (F := F) (fun p : Bool × Bool × Fin 8 => junk c (outV p.1 p.2.1 p.2.2 c) Finset.univ) (fun p => iprop(tok c (.out p.1 p.2.1 p.2.2) ∗ posn c (.out p.1 p.2.1 p.2.2))) allO
  have ho1 := sep_sepL (F := F) (fun p : Bool × Bool × Fin 8 => tok c (.out p.1 p.2.1 p.2.2)) (fun p => posn c (.out p.1 p.2.1 p.2.2)) allO
  unfold start bodyR G' preR
  rw [eX, eA, eT, eO, eW, eB, eR, eP]
  iintro ⟨⟨⟨%K, ⟨HS, HM⟩⟩, HL, ⟨Hcb, Hcr⟩, HtH, HwH, HoH⟩, Hscr⟩
  ihave HM := hm $$ HM
  ihave Hscr := hs $$ Hscr
  unfold posL tokL pieces
  icases HM with ⟨⟨Pb, Ps, Pr, Pt, Pw, Po⟩, ⟨T0, T1, T2⟩, Ts, Tr, Tt, Tw, To⟩
  icases Hscr with ⟨Bacc, BtV, BwV, BwB, Bst, Br⟩
  iexists K
  isplitl [HS HL]
  · unfold records shared
    icases HS with ⟨H1, H2⟩
    isplitl [H1]; · iexact H1
    isplitl [H2] <;> iassumption
  isplitl [T0 T1 T2 Pb Hcb BwB Bacc Br Ts Tr Ps Pr Hcr Bst HoH To Po]
  · isplitl [T0 T1 T2 Pb Hcb]
    · iapply hb
      isplitl [T0]; · iexact T0
      isplitl [T1]; · iexact T1
      isplitl [T2]; · iexact T2
      isplitl [Pb Hcb]
      · isplitl [Pb] <;> iassumption
      · iempintro
    isplitl [BwB]; · iexact BwB
    isplitl [Bacc]; · iexact Bacc
    isplitl [Br]; · iexact Br
    isplitl [Ts Tr Ps]
    · iapply hx; isplitl [Ts Tr]
      · iapply hx1; isplitl [Ts] <;> iassumption
      · iexact Ps
    isplitl [Pr Hcr]
    · iapply ha; isplitl [Pr] <;> iassumption
    isplitl [Bst]; · iexact Bst
    iapply ho; isplitl [HoH]
    · iapply hoH; iexact HoH
    · iapply ho1; isplitl [To] <;> iassumption
  isplitl [HtH BtV Tt Pt]
  · iapply ht; isplitl [HtH]
    · iapply htH; iexact HtH
    iapply ht1; isplitl [BtV]
    · iapply htV; iexact BtV
    iapply ht2; isplitl [Tt] <;> iassumption
  isplitl [HwH]; · iexact HwH
  isplitl [BwV]; · iexact BwV
  isplitl [Tw] <;> iassumption
end Cert.KernelIdeal.Hcube
end
-- ==== Proof.Check.lean ====
module
public import proofs.«01_k».proof.Proof.Tiles

/-! The list of instructions runs, on each of the eight devices, from the resources a device starts with. -/

@[expose] public section
set_option maxRecDepth 100000
namespace Cert.KernelIdeal.Hcube
open Idealize.ShloMosaic Cert.KernelIdeal.Gen

def checkD (d : Dev nD) : Bool :=
  match runI d allIns ⟨res0, todo0, none, none⟩ with
  | some s => s.todo.isEmpty && (match takeAll res1 s.res with | some [] => true | _ => false)
  | none => false
/-- Each device's list runs, pays all it owes, and ends with the resources listed. -/
theorem check : ∀ d : Dev nD, checkD d = true := by decide +kernel

theorem run_check (d : Dev nD) : ∃ s, runI d allIns ⟨res0, todo0, none, none⟩ = some s ∧ s.todo = [] ∧ takeAll res1 s.res = some [] := by
  have h := check d
  unfold checkD at h
  split at h
  · next s hs =>
    refine ⟨s, hs, ?_⟩
    rw [Bool.and_eq_true] at h
    refine ⟨by simpa using h.1, ?_⟩
    have h2 := h.2
    split at h2
    · assumption
    · cases h2
  · cases h
end Cert.KernelIdeal.Hcube
-- ==== Proof.Eqn.lean ====
module
public import proofs.«01_k».proof.Proof.Ops
public import Idealize.ShloMosaic.Lib.Pipeline.Regions

/-! The printed body is the list of instructions. -/

@[expose] public section
noncomputable section
namespace Cert.KernelIdeal.Hcube
open Idealize.ShloMosaic Idealize.ShloMosaic.TcCoe
open Idealize.SL Idealize.SL.Sem
open Cert.KernelIdeal.Gen
variable {F : FTy → Type} [FloatOps F]

/-- What follows the device's number in a program, the copies before it passed over. -/
def peel : PG F PUnit → Dev nD → PG F PUnit
  | .ret _, _ => .ret ⟨⟩
  | .op e k, d =>
    match e, k with
    | .deviceId, k => k d
    | .enqueueDma .., k => peel (k ⟨⟩) d
    | _, _ => .ret ⟨⟩
theorem body_peel : bodyAt0 (F := F) (0 : Fin 1) = startAll (.op .deviceId (peel (bodyAt0 (F := F) (0 : Fin 1)))) := by chain_rfl
theorem peel0 : peel (bodyAt0 (F := F) (0 : Fin 1)) ⟨0, by decide⟩ = runAll ⟨0, by decide⟩ allIns reg0 := by chain_rfl
theorem peel1 : peel (bodyAt0 (F := F) (0 : Fin 1)) ⟨1, by decide⟩ = runAll ⟨1, by decide⟩ allIns reg0 := by chain_rfl
theorem peel2 : peel (bodyAt0 (F := F) (0 : Fin 1)) ⟨2, by decide⟩ = runAll ⟨2, by decide⟩ allIns reg0 := by chain_rfl
theorem peel3 : peel (bodyAt0 (F := F) (0 : Fin 1)) ⟨3, by decide⟩ = runAll ⟨3, by decide⟩ allIns reg0 := by chain_rfl
theorem peel4 : peel (bodyAt0 (F := F) (0 : Fin 1)) ⟨4, by decide⟩ = runAll ⟨4, by decide⟩ allIns reg0 := by chain_rfl
theorem peel5 : peel (bodyAt0 (F := F) (0 : Fin 1)) ⟨5, by decide⟩ = runAll ⟨5, by decide⟩ allIns reg0 := by chain_rfl
theorem peel6 : peel (bodyAt0 (F := F) (0 : Fin 1)) ⟨6, by decide⟩ = runAll ⟨6, by decide⟩ allIns reg0 := by chain_rfl
theorem peel7 : peel (bodyAt0 (F := F) (0 : Fin 1)) ⟨7, by decide⟩ = runAll ⟨7, by decide⟩ allIns reg0 := by chain_rfl
/-- The body from the device's number on, on any device. -/
theorem peel_eq : ∀ d : Dev nD, peel (bodyAt0 (F := F) (0 : Fin 1)) d = runAll d allIns reg0
  | ⟨0, _⟩ => peel0
  | ⟨1, _⟩ => peel1
  | ⟨2, _⟩ => peel2
  | ⟨3, _⟩ => peel3
  | ⟨4, _⟩ => peel4
  | ⟨5, _⟩ => peel5
  | ⟨6, _⟩ => peel6
  | ⟨7, _⟩ => peel7
theorem body_eq (t : Fin cfg0.N) : bodyAt0 (F := F) t = progAll :=
  body_peel.trans (congrArg (fun k => startAll (.op .deviceId k)) (funext peel_eq))
end Cert.KernelIdeal.Hcube
end
-- ==== Proof.Launch.lean ====
module
public import proofs.«01_k».proof.Proof.Start
public import Idealize.ShloMosaic.Lib.Pipeline.CollectiveSegs
public import proofs.«01_k».proof.Proof.Ends
public import proofs.«01_k».proof.Proof.Check
public import proofs.«01_k».proof.Proof.Eqn

/-! The kernel on one device, the launch, and the run of the whole program. -/

@[expose] public section
noncomputable section
namespace Cert.KernelIdeal.Hcube
open Idealize.ShloMosaic Idealize.ShloMosaic.TcCoe
open Idealize.SL Idealize.SL.RA Idealize.SL.BI Idealize.SL.RA.PCS
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

/-- What a device's body starts from and what it leaves. -/
def Φ₀ (c : Dev nD) : sProp 𝕄 := iprop(start m c ∗ scratch c)
def Φ₁ (c : Dev nD) : sProp 𝕄 := iprop((outs m c ∗ semVal (bcell c) 0) ∗ (bigSep Finset.univ fun k : DK => (semVal (dcell c k) 0 : sProp 𝕄)) ∗ scratch c)

def dats (_ : Fin 1) (c : Dev nD) : Dat τ (Elt F) Unit ℕ UU ℕ cfg0 c where
  A w := m ((cfg0.win w).arr.view.loc (c : Thread nD τ))
  after w _ := Fin.elim0 w
  Φ t := match t with
    | ⟨0, _⟩ => Φ₀ m c
    | ⟨_ + 1, _⟩ => Φ₁ m c
  q _ := fullShare
  owed t := match t with
    | ⟨0, _⟩ => O₀ c
    | ⟨_ + 1, _⟩ => 0

theorem sound_main (c : Dev nD) (Q : PUnit → sProp 𝕄) :
    iprop(Φ₀ m c ∗ owesS c todo0) ⊢ iprop((Φ₁ m c -∗ owesS c [] -∗ Q ⟨⟩) -∗ WP c (progAll (F := F)) Q) := by
  obtain ⟨s, hs, hd, ht⟩ := run_check c
  have hi := start_init m c
  have hp := pre_res m c
  have htk := takeAll_sound (holds m c) ht
  have hpo := res_post m c
  have hpp := post_out m c
  have hts := fun K (q : PG F PUnit) => ts_start m K c Q q allT
  have hws := fun K (q : PG F PUnit) => w_start m K c q Q
  have hrun := fun K => run_sound m K c Q allIns ⟨res0, todo0, none, none⟩ s hs reg0 ⟨fun _ h => by injection h, fun _ _ _ h => by injection h⟩
  have hdev : WP c (runAll c allIns (reg0 (F := F))) Q ⊢ WP c (.op .deviceId fun d => runAll d allIns reg0) Q := by
    unfold WP; rw [wp_deviceId]
  rw [hd] at hrun
  show _ ⊢ iprop(_ -∗ WP c (List.foldr (fun (p : Bool × Fin 8) (q : PG F PUnit) => (tStartOp p.1 p.2).bind fun _ => q)
    ((wStartOp).bind fun _ => .op .deviceId fun d => runAll d allIns reg0) allT) Q)
  unfold bodyR at hi
  unfold Φ₀ Φ₁
  generalize allT = l at hi hp hts ⊢
  iintro ⟨Hs, HO⟩ Hk
  ihave H := hi $$ Hs
  icases H with ⟨%K, #HR, Hpre, HT, HW⟩
  iapply (hts K) $$ [HT]
  · isplitr; · iexact HR
    iexact HT
  iintro HT
  iapply (hws K) $$ [HW]
  · isplitr; · iexact HR
    iexact HW
  iintro HW
  iapply hdev
  iapply (hrun K) $$ [Hpre HT HW HO]
  · isplitr; · iexact HR
    isplitl [Hpre HT HW]
    · iapply hp; isplitl [Hpre]; · iexact Hpre
      isplitl [HT] <;> iassumption
    · iexact HO
  iintro Hr HO
  ihave Hr := htk $$ Hr
  icases Hr with ⟨Hr, -⟩
  ihave Hr := hpo $$ Hr
  ihave Hr := hpp $$ Hr
  iapply Hk $$ Hr HO

theorem body_obligation (c : Dev nD) : BodyObligation (dats (F := F) m 0 c) (defs₀ (F := F)) 𝒱₀ () Set.univ := fun t => by
  have h := sound_main m c fun _ => iprop((dats (F := F) m 0 c).Φ t.succ ∗ (dats (F := F) m 0 c).owesAt () t.succ ∗ emp)
  have hb : ∀ Ψ : Fin cfg0.W → sProp 𝕄, bigSep Finset.univ Ψ = iprop(emp) := fun Ψ => by
    rw [show (Finset.univ : Finset (Fin cfg0.W)) = ∅ from rfl, bigSep_empty]; rfl
  rw [hb, hb]
  have ht : t = t0_0 := fin_N0 t
  subst ht
  show iprop(Φ₀ m c ∗ (dats (F := F) m 0 c).owesAt () (t0_0 : Fin cfg0.N).castSucc ∗ emp) ⊢ WP c (bodyAt0 (F := F) t0_0) _
  rw [body_eq]
  have h1 : (dats (F := F) m 0 c).owesAt () (t0_0 : Fin cfg0.N).castSucc ⊢ (owesS c todo0 : sProp 𝕄) := by
    unfold Dat.owesAt Pipeline.owesWithin owesS
    rw [show (dats (F := F) m 0 c).owed (t0_0 : Fin cfg0.N).castSucc = owedL c todo0 from rfl]
    iintro ⟨%W, -, H⟩; iexists W; iexact H
  have h2 : (owesS c [] : sProp 𝕄) ⊢ (dats (F := F) m 0 c).owesAt () (t0_0 : Fin cfg0.N).succ := by
    unfold Dat.owesAt Pipeline.owesWithin owesS
    rw [show (dats (F := F) m 0 c).owed (t0_0 : Fin cfg0.N).succ = owedL c [] from rfl]
    iintro ⟨%W, H⟩; iexists W; isplitr
    · ipureintro; exact fun _ _ => Or.inl trivial
    · iexact H
  have h3 : Φ₁ m c ⊢ (dats (F := F) m 0 c).Φ (t0_0 : Fin cfg0.N).succ := .rfl
  iintro ⟨HΦ, HO, -⟩
  iapply h $$ [HΦ HO]
  · isplitl [HΦ]; · iexact HΦ
    iapply h1; iexact HO
  iintro HΦ HO
  isplitl [HΦ]
  · iapply h3; iexact HΦ
  isplitl [HO]
  · iapply h2; iexact HO
  · iempintro

/-! ### The launch -/

theorem share_eq (c : Dev nD) (w : Fin cfg0.W) : (dats m 0 c).share w = fullShare := by unfold Dat.share; split <;> rfl
theorem waits (c : Dev nD) : (levAts L lv : sProp 𝕄) ⊢ Pipeline.cellsWaits cfgs (dats m) () 0 c :=
  Pipeline.cellsWaits_intro cfgs (dats m) () 0 c fun w s t => Fin.elim0 w

/-- The half of the arguments the body does not hold. -/
def Z (c : Dev nD) : sProp 𝕄 := iprop(part c tHM Finset.univ fullShare.right (tX m c) ∗ part c wHM Finset.univ fullShare.right (wX m c))
def Y (c : Dev nD) : sProp 𝕄 := iprop(outs m c ∗ unscopedSems0 c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ Z m c) := by
  have h0 := (whole_part c main_arg0 fullShare (m ((c : Thread nD τ).loc main_arg0))).trans (part_share (F := F) (PosShare.mem_left_op_right fullShare) c tHM Finset.univ (tX m c))
  have h1 := (whole_part c main_arg1 fullShare (m ((c : Thread nD τ).loc main_arg1))).trans (part_share (F := F) (PosShare.mem_left_op_right fullShare) c wHM Finset.univ (wX m c))
  have h2 := (whole_part c main_v1 fullShare (m ((c : Thread nD τ).loc main_v1))).trans (part_junk (F := F) c oHM Finset.univ _)
  rw [Pipeline.unscopedRestP_none, unscopedRest0_eq]
  iintro ⟨⟨H0, H1, H2⟩, Hlev, Hcr, -, HG⟩
  ihave Hc := (creds (F := F) c) $$ Hcr
  ihave H0 := h0 $$ H0
  ihave H1 := h1 $$ H1
  ihave H2 := h2 $$ H2
  icases H0 with ⟨H0, Z0⟩
  icases H1 with ⟨H1, Z1⟩
  imodintro
  unfold start Z
  isplitr [Z0 Z1]
  · isplitl [HG]; · iexact HG
    isplitl [Hlev]; · iexact Hlev
    isplitl [Hc]; · iexact Hc
    isplitl [H0]; · iexact H0
    isplitl [H1] <;> iassumption
  · isplitl [Z0] <;> iassumption

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀ scratch
  iintro ⟨Hs, -, Hr⟩
  isplitl [Hs] <;> iassumption
theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl]
  unfold Y; rw [unscopedSems0_eq]
  exact .rfl

/-! ### Reading the final memory -/

/-- What the blocks of the result hold. -/
def outsOK (c : Dev nD) (s : MemSt nD τ sig (Elt F)) : Prop :=
  ∀ p ∈ allO, ∀ j, (outV p.1 p.2.1 p.2.2 c).view.read (Elt F) (s.mem ((outV p.1 p.2.1 p.2.2 c).view.loc (c : Thread nD τ))) j = outX m p.1 p.2.1 p.2.2 c j

theorem part_read (c : Dev nD) {sp : Space} {s : Shape} {e : EltTy} (M : Memref sig .tc sp s e) (q : PosShare TreeShare) (X : s.Idx → Elt F e) (s' : Phys nD τ sig (Elt F)) :
    iprop(SI s' ∗ part c M Finset.univ q X) ⊢ (⌜∀ j, M.view.read (Elt F) (s'.mem.mem (M.view.loc (c : Thread nD τ))) j = X j⌝ : sProp 𝕄) := by
  unfold part
  iintro ⟨HS, %f, %hf, H⟩
  ihave H := (SI_pointsTo_agree (st := s') (ℓ := M.view.loc (c : Thread nD τ)) (I := M.view.setOn Finset.univ) (q := q) (f := f)) $$ [HS H]
  · isplitl [HS] <;> iassumption
  icases H with %h
  ipureintro
  intro j
  rw [← hf j (Finset.mem_univ _)]
  exact View.read_congr_at _ (h _ (Finset.mem_map.mpr ⟨j, Finset.mem_univ _, rfl⟩))

theorem outs_read (c : Dev nD) (s' : Phys nD τ sig (Elt F)) (l : List (Bool × Bool × Fin 8)) :
    iprop(SI s' ∗ sepL (fun p : Bool × Bool × Fin 8 => part c (outV p.1 p.2.1 p.2.2 c) Finset.univ fullShare (outX m p.1 p.2.1 p.2.2 c)) l) ⊢
      (iprop(⌜∀ p ∈ l, ∀ j, (outV p.1 p.2.1 p.2.2 c).view.read (Elt F) (s'.mem.mem ((outV p.1 p.2.1 p.2.2 c).view.loc (c : Thread nD τ))) j = outX m p.1 p.2.1 p.2.2 c j⌝ ∗ SI s') : sProp 𝕄) := by
  induction l with
  | nil => iintro ⟨H, -⟩; isplitr; · ipureintro; intro p hp; simp at hp
           · iexact H
  | cons p l ih =>
    have h1 := persistent_entails_right (part_read c (outV p.1 p.2.1 p.2.2 c) fullShare (outX m p.1 p.2.1 p.2.2 c) s')
    unfold sepL
    iintro ⟨HS, H, Hl⟩
    ihave H := h1 $$ [HS H]
    · isplitl [HS] <;> iassumption
    icases H with ⟨%h, HS, -⟩
    ihave H := ih $$ [HS Hl]
    · isplitl [HS] <;> iassumption
    icases H with ⟨%h', HS⟩
    isplitr
    · ipureintro
      intro p' hp'
      rcases List.mem_cons.mp hp' with rfl | h2
      · exact h
      · exact h' p' h2
    · iexact HS

def QY (c : Dev nD) (s : MemSt nD τ sig (Elt F)) : Prop :=
  (outsOK m c s ∧ s.mem ((c : Thread nD τ).loc main_arg0) = m ((c : Thread nD τ).loc main_arg0) ∧ s.mem ((c : Thread nD τ).loc main_arg1) = m ((c : Thread nD τ).loc main_arg1)) ∧
    ∀ sm : SemLoc sig, sm.isScoped .tc = false → s.sem ((c.tc : Thread nD τ), sm) = 0

theorem read_all (c : Dev nD) (s' : Phys nD τ sig (Elt F)) : iprop(Y m c ∗ Z m c ∗ SI s') ⊢ (|={Set.univ}=> iprop(⌜QY m c s'.mem⌝ ∗ SI s') : sProp 𝕄) := by
  have h0 := persistent_entails_right (part_read c tHM fullShare.right (tX m c) s')
  have h1 := persistent_entails_right (part_read c wHM fullShare.right (wX m c) s')
  have h2 := outs_read m c s' allO
  unfold Y Z outs
  iintro ⟨⟨Ho, Hu⟩, ⟨HZ0, HZ1⟩, HS⟩
  ihave H := h0 $$ [HS HZ0]
  · isplitl [HS] <;> iassumption
  icases H with ⟨%e0, HS, -⟩
  ihave H := h1 $$ [HS HZ1]
  · isplitl [HS] <;> iassumption
  icases H with ⟨%e1, HS, -⟩
  ihave H := h2 $$ [HS Ho]
  · isplitl [HS] <;> iassumption
  icases H with ⟨%e2, HS⟩
  have hr : iprop(unscopedSems0 c ∗ SI s') ⊢ (|={Set.univ}=> iprop(⌜∀ sm : SemLoc sig, sm.isScoped .tc = false → s'.mem.sem ((c.tc : Thread nD τ), sm) = 0⌝ ∗ SI s') : sProp 𝕄) :=
    Pipeline.unscopedSems0_read (X := unscopedSems0 c) (c := c) fupd_intro s'
  imod hr $$ [Hu HS] with ⟨%e3, HS⟩
  · isplitl [Hu] <;> iassumption
  imodintro
  isplitr
  · ipureintro
    exact ⟨⟨e2, funext e0, funext e1⟩, e3⟩
  · iexact HS

set_option maxRecDepth 8000 in
/-- For any float values, from any memory with zero counters: every weakly fair execution of the program ends, every
    device's result made of the blocks `outX`, its arguments unchanged and every semaphore counter at zero. -/
theorem run_main : θ_run defs (onTc (τ := τ) (main (F := F))) ⟨m, fun _ => 0, ρ⟩
    (fun r => (∀ c : Dev nD, outsOK m c r.2 ∧ r.2.mem ((c : Thread nD τ).loc main_arg0) = m ((c : Thread nD τ).loc main_arg0) ∧
      r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => Fin.elim0 w) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := Y m) (Z := Z m)
    (hX := start_intro m ρ) (hin := phi0_intro m) (hout := phi1_exit m)
    (QY := QY m)
    (hY := read_all m)
    (hQ := fun _ h hs => ⟨fun c => (h c).2.2.1, sem_eq_zero hs fun c => (h c).2.2.2⟩)
end Cert.KernelIdeal.Hcube
end
-- ==== Proof.Frames.lean ====
module
public import proofs.«01_k».proof.Defs
public import proofs.«01_k».proof.Proof.Launch
public import proofs.«01_k».proof.Proof.Gen.Kernel
public import proofs.«01_k».proof.Proof.Gen.ReferenceIdeal.Run

/-! The three frames: the kernel's at machine numbers, the same text's over the reals, the reference's. -/

@[expose] public section
noncomputable section
namespace Cert.KernelIdeal.Hcube
open Idealize.ShloMosaic Idealize.SL.Sem

theorem frame_kernel : Cert.quiescent_Kernel := fun m ρ _ =>
  (θ_run Cert.KernelIdeal.defs _ _).mono (fun _ h => ⟨fun c => (h.1 c).2, h.2⟩) (run_main (F := Bits) m ρ)
theorem frame_ideal : Cert.quiescent_KernelIdeal := fun m ρ _ =>
  (θ_run Cert.KernelIdeal.defs _ _).mono (fun _ h => ⟨fun c => (h.1 c).2, h.2⟩) (run_main (F := Ideal) m ρ)
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
end Cert.KernelIdeal.Hcube
end
-- ==== Proof.Value.lean ====
module
public import proofs.«01_k».proof.Proof.Frames
public import Idealize.ShloMosaic.Lib.Pointwise

/-! The value over the reals: each block of the result holds the products of the summed rows. -/

@[expose] public section
noncomputable section
namespace Cert.KernelIdeal.Hcube
open Idealize.ShloMosaic Idealize.ShloMosaic.TcCoe Idealize.SL.Sem
open Cert.KernelIdeal.Gen
variable (m : (ℓ : Loc nD τ sig) → Buf (Elt Ideal) ℓ)

/-- The devices whose terms the three exchanges add, in the order in which they are added. -/
def addL (bf : Bool) (d : Dev nD) : List (Dev nD) :=
  let p := prt bf
  [d, p 0 d, p 1 d, p 0 (p 1 d), p 2 d, p 0 (p 2 d), p 1 (p 2 d), p 0 (p 1 (p 2 d))]
theorem addL_nodup : ∀ bf d, (addL bf d).Nodup := by decide +kernel
theorem addL_all : ∀ bf d e, e ∈ addL bf d := by decide +kernel
/-- After the exchanges an element of the accumulator is the sum over all devices. -/
theorem lvl_sum (st bf : Bool) (d : Dev nD) (i : S2048x512.Idx) : (lvl m st bf 3 d i : EReal) = ∑ e : Dev nD, (tX m e (tIdx st bf i) : EReal) := by
  have h : ∑ e : Dev nD, (tX m e (tIdx st bf i) : EReal) = ((addL bf d).map fun e => (tX m e (tIdx st bf i) : EReal)).sum := by
    rw [← List.sum_toFinset _ (addL_nodup bf d)]
    congr 1
    exact (Finset.eq_univ_iff_forall.mpr fun e => List.mem_toFinset.mpr (addL_all bf d e)).symm
  rw [h]
  generalize hg : (fun e => (tX m e (tIdx st bf i) : EReal)) = g
  have h0 : ∀ e, (lvl m st bf 0 e i : EReal) = g e := fun e => by subst hg; rfl
  have h1 : ∀ e, (lvl m st bf 1 e i : EReal) = g e + g (prt bf 0 e) := fun e => by rw [← h0, ← h0]; rfl
  have h2 : ∀ e, (lvl m st bf 2 e i : EReal) = g e + g (prt bf 0 e) + (g (prt bf 1 e) + g (prt bf 0 (prt bf 1 e))) := fun e => by rw [← h1, ← h1]; rfl
  have h3 : (lvl m st bf 3 d i : EReal) = (lvl m st bf 2 d i : EReal) + (lvl m st bf 2 (prt bf 2 d) i : EReal) := rfl
  rw [h3, h2, h2]
  simp only [addL, List.map, List.sum_cons, List.sum_nil, add_zero, add_assoc]

/-- The sum over the devices of their blocks of `t`. -/
def sumX (i : S4096x1024.Idx) : EReal := ∑ e : Dev nD, (tX m e i : EReal)

def rowI (e : Fin 8) (st : Bool) (r : Fin 256) : Fin 4096 := ⟨512 * e.val + 256 * st.toNat + r.val, by have := e.isLt; have := Bool.toNat_le st; have := r.isLt; omega⟩
def colI (bf : Bool) (q : Fin 512) : Fin 1024 := ⟨512 * bf.toNat + q.val, by have := Bool.toNat_le bf; have := q.isLt; omega⟩

theorem tIdx_own (st bf : Bool) (e : Fin 8) (j : S256x512.Idx) : tIdx st bf ((chunkR (vOf bf e)).emb j) = ix2 (rowI e st (j 0)) (colI bf (j 1)) := by
  rw [tIdx_chunk]
  funext a
  refine Fin.ext ?_
  rw [Rect.emb_apply]
  match a with
  | 0 => show 512 * (sigma bf (vOf bf e)).val + 256 * st.toNat + 1 * (j 0).val = 512 * e.val + 256 * st.toNat + (j 0).val; rw [sigma_vOf]; omega
  | 1 => show 512 * bf.toNat + 1 * (j 1).val = 512 * bf.toNat + (j 1).val; omega

theorem ix2_eq {a b : Nat} (i : Fin a) (j : Fin b) : Idealize.ShloMosaic.ix2 i j = ix2 i j := by
  funext x; match x with | 0 => rfl | 1 => rfl
theorem cat_left (A B : FVec Ideal S256x512 .bf16) (r : Fin 256) (k : Fin 1024) (h : k.val < 512) : payOwn A B (ix2 r k) = A (ix2 r ⟨k.val, h⟩) := by
  unfold payOwn
  pointwise
  rw [dif_pos (show ((ix2 r k : S256x1024.Idx) 1).val < 512 from h)]
  exact congrArg A (ix2_eq _ _)
theorem cat_right (A B : FVec Ideal S256x512 .bf16) (r : Fin 256) (k : Fin 1024) (h : ¬k.val < 512) : payOwn A B (ix2 r k) = B (ix2 r ⟨k.val - 512, by have := k.isLt; omega⟩) := by
  unfold payOwn
  pointwise
  rw [dif_neg (show ¬((ix2 r k : S256x1024.Idx) 1).val < 512 from h)]
  exact congrArg B (ix2_eq _ _)
theorem dot_apply (A : FVec Ideal S256x1024 .bf16) (B : FVec Ideal S1024x512 .bf16) (j : S256x512.Idx) :
    (payHalf A B j : EReal) = ∑ k : Fin 1024, (A (ix2 (j 0) k) : EReal) * (B (ix2 k (j 1)) : EReal) := by
  unfold payHalf
  pointwise
  refine Finset.sum_congr rfl fun k _ => ?_
  exact congrArg₂ (fun a b : EReal => a * b) (congrArg A (ix2_eq (a := 256) (b := 1024) (j 0) k)) (congrArg B (ix2_eq (a := 1024) (b := 512) k (j 1)))
theorem own_apply (st : Bool) (e : Dev nD) (r : Fin 256) (k : Fin 1024) : (ownV m st e (ix2 r k) : EReal) = sumX m (ix2 (rowI e st r) k) := by
  have hl : ∀ bf (j : S256x512.Idx), (lvl m st bf 3 e ((chunkR (vOf bf e)).emb j) : EReal) = sumX m (ix2 (rowI e st (j 0)) (colI bf (j 1))) := fun bf j => by
    rw [lvl_sum, tIdx_own]; rfl
  unfold ownV
  by_cases hk : k.val < 512
  · rw [cat_left _ _ r k hk]
    refine (hl false (ix2 r ⟨k.val, hk⟩)).trans ?_
    congr 2
    exact Fin.ext (by show 512 * 0 + k.val = k.val; omega)
  · rw [cat_right _ _ r k hk]
    refine (hl true (ix2 r ⟨k.val - 512, by have := k.isLt; omega⟩)).trans ?_
    congr 2
    exact Fin.ext (by show 512 * 1 + (k.val - 512) = k.val; omega)

theorem half_apply (st bf : Bool) (e : Dev nD) (j : S256x512.Idx) :
    (halfV m st bf e j : EReal) = ∑ k : Fin 1024, sumX m (ix2 (rowI e st (j 0)) k) * (wX m e (ix2 k (colI bf (j 1))) : EReal) := by
  unfold halfV
  refine (dot_apply _ _ j).trans (Finset.sum_congr rfl fun k _ => ?_)
  have h1 := own_apply m st e (j 0) k
  have h2 : (wB m e ((wR bf).emb (ix2 k (j 1))) : EReal) = (wX m e (ix2 k (colI bf (j 1))) : EReal) := by
    have hi : (wR bf).emb (ix2 k (j 1)) = ix2 k (colI bf (j 1)) := by
      funext a
      refine Fin.ext ?_
      rw [Rect.emb_apply]
      match a with
      | 0 => show 0 + 1 * k.val = k.val; omega
      | 1 => show 512 * bf.toNat + 1 * (j 1).val = 512 * bf.toNat + (j 1).val; omega
    rw [hi]
    unfold wB payW
    pointwise
  exact congrArg₂ (fun a b : EReal => a * b) h1 h2

/-- Every block a device stores is the product, whoever computed it. -/
theorem out_apply (st bf : Bool) (w : Fin 8) (c : Dev nD) (j : S256x512.Idx) :
    (outX m st bf w c j : EReal) = halfV m st bf (sigma bf (xor8 (vOf bf c) w)) j := by
  unfold outX
  by_cases hw : w = 0
  · subst hw
    rw [if_pos rfl, show xor8 (vOf bf c) 0 = vOf bf c from (by revert bf c; decide), sigma_vOf]
  · rw [if_neg hw]
    show (gX m st bf ((chunkR (xor8 (vOf bf c) w)).emb j) : EReal) = _
    rw [gX_chunk]
    unfold payAcc
    pointwise

/-- The result: an element of the product of the summed rows and `W`. -/
def resV (i : S4096x1024.Idx) : EReal := ∑ k : Fin 1024, sumX m (ix2 (i 0) k) * (wX m (0 : Dev nD) (ix2 k (i 1)) : EReal)

theorem result_apply (hw : ∀ e : Dev nD, wX m e = wX m (0 : Dev nD)) (c : Dev nD) (s : MemSt nD τ sig (Elt Ideal)) (hs : outsOK m c s) (i : S4096x1024.Idx) :
    (s.mem ((c : Thread nD τ).loc main_v1) i : EReal) = resV m i := by
  obtain ⟨⟨st, bf, w⟩, hp⟩ : ∃ p, outOf c i = p := ⟨_, rfl⟩
  have hi := (out_tile c (st, bf, w) i).mpr hp
  obtain ⟨j, -, hj⟩ := Finset.mem_map.mp (show i ∈ Finset.univ.map (outR c (st, bf, w)).emb from by rw [Rect.map_emb_univ]; exact hi)
  have h := hs (st, bf, w) (mem_allO _) j
  have h0 : (s.mem ((c : Thread nD τ).loc main_v1) i : EReal) = outX m st bf w c j := by
    rw [← h, ← hj]; rfl
  rw [h0, out_apply, half_apply, hw]
  have e0 : i 0 = rowI (sigma bf (xor8 (vOf bf c) w)) st (j 0) := by
    rw [← hj]; refine Fin.ext ?_
    show outOff st bf w c 0 + 1 * (j 0).val = _
    rw [outOff_eq]; show 512 * (sigma bf (xor8 (vOf bf c) w)).val + 256 * st.toNat + 1 * (j 0).val = 512 * (sigma bf (xor8 (vOf bf c) w)).val + 256 * st.toNat + (j 0).val; omega
  have e1 : i 1 = colI bf (j 1) := by
    rw [← hj]; refine Fin.ext ?_
    show outOff st bf w c 1 + 1 * (j 1).val = _
    rw [outOff_eq]; show 512 * bf.toNat + 1 * (j 1).val = 512 * bf.toNat + (j 1).val; omega
  unfold resV
  rw [e0, e1]

/-! ### The reference -/

theorem ref_apply (T : FVec Ideal Cert.ReferenceIdeal.S32768x1024 .f32) (W : FVec Ideal Cert.ReferenceIdeal.S1024x1024 .f32) (i : S4096x1024.Idx) :
    (Host.dotGeneral (F := Ideal) Cert.ReferenceIdeal.dot_S4096x1024_S1024x1024_S4096x1024_1_0_0_1_n_n none
      (Host.reduceAdd (shapeCast Cert.ReferenceIdeal.S8x4096x1024 T Cert.ReferenceIdeal.Gen.shapeCasts_S32768x1024_S8x4096x1024) (constant Cert.ReferenceIdeal.S_ .f32 0x00000000#32)
        Cert.ReferenceIdeal.Gen.reducesTo_S8x4096x1024_S4096x1024_d0 Cert.ReferenceIdeal.Gen.h_S_) W i : EReal)
      = ∑ k : Fin 1024, (∑ e : Fin 8, (T (ix2 ⟨e.val * 4096 + (i 0).val, by have h : (i 0).val < 4096 := (i 0).isLt; have := e.isLt; omega⟩ k) : EReal)) * (W (ix2 k (i 1)) : EReal) := by
  pointwise
  refine Finset.sum_congr rfl fun k _ => ?_
  exact congrArg₂ (fun a b : EReal => a * b) (Finset.sum_congr rfl fun e _ => congrArg T (ix2_eq (a := 32768) (b := 1024) _ k)) (congrArg W (ix2_eq (a := 1024) (b := 1024) k (i 1)))

theorem algebraic : Cert.algebraic_KernelIdeal_ReferenceIdeal := by
  intro m g m' g' _ hag
  refine ⟨_, (θ_run Cert.KernelIdeal.defs _ _).mono (fun r h c => ⟨?_, (h.1 c).2⟩) (run_main (F := Ideal) m g),
    (θ_run Cert.ReferenceIdeal.defs _ _).mono (fun _ h => h 0) (Cert.ReferenceIdeal.Value.run (F := Ideal) m' g')⟩
  have hw : ∀ e : Dev nD, wX m e = wX m (0 : Dev nD) := fun e => (hag e).2.trans (hag 0).2.symm
  funext i
  refine (result_apply m hw c r.2 (h.1 c).1 i).trans ((ref_apply _ _ i).trans ?_).symm
  refine Finset.sum_congr rfl fun k _ => congrArg₂ (fun a b : EReal => a * b) (Finset.sum_congr rfl fun e _ => ?_) ?_
  · have h1 : tX m e (ix2 (i 0) k) = m ((e : Thread nD τ).loc main_arg0) (ix2 (i 0) k) := rfl
    refine Eq.trans ?_ h1.symm
    rw [(hag e).1, Layout.block_apply]
    congr 1
    funext a
    refine Fin.ext ?_
    match a with
    | 0 => rfl
    | 1 => rfl
  · exact (congrFun (hag 0).2 (ix2 k (i 1))).symm
end Cert.KernelIdeal.Hcube
end
-- ==== Proof.lean ====
/- The claims together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

open Cert.KernelIdeal.Hcube in
theorem claim : Cert.Claim := ⟨Cert.Kernel.Gen.facts, Cert.KernelIdeal.Gen.facts, Cert.ReferenceIdeal.Gen.facts,
  frame_kernel, frame_ideal, frame_reference, trivial, algebraic⟩

end Cert.Proof

end
